-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)) (v3 : (c : Dev Cert.Kernel3Ideal.nD) → Buf (Elt Ideal) ((c.tc : Thread Cert.Kernel3Ideal.nD Cert.Kernel3Ideal.τ).loc Cert.Kernel3Ideal.main_v38_3)) (v4 : (c : Dev Cert.Kernel3Ideal.nD) → Buf (Elt Ideal) ((c.tc : Thread Cert.Kernel3Ideal.nD Cert.Kernel3Ideal.τ).loc Cert.Kernel3Ideal.main_v38_4)) (v5 : (c : Dev Cert.Kernel3Ideal.nD) → Buf (Elt Ideal) ((c.tc : Thread Cert.Kernel3Ideal.nD Cert.Kernel3Ideal.τ).loc Cert.Kernel3Ideal.main_v38_5)) (v6 : (c : Dev Cert.Kernel3Ideal.nD) → Buf (Elt Ideal) ((c.tc : Thread Cert.Kernel3Ideal.nD Cert.Kernel3Ideal.τ).loc Cert.Kernel3Ideal.main_v38_6)) (v7 : (c : Dev Cert.Kernel3Ideal.nD) → Buf (Elt Ideal) ((c.tc : Thread Cert.Kernel3Ideal.nD Cert.Kernel3Ideal.τ).loc Cert.Kernel3Ideal.main_v38_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_2) = v2 c
          ∧ r.2.mem ((c.tc : Thread Cert.Kernel3Ideal.nD Cert.Kernel3Ideal.τ).loc Cert.Kernel3Ideal.main_v38_3) = v3 c
          ∧ r.2.mem ((c.tc : Thread Cert.Kernel3Ideal.nD Cert.Kernel3Ideal.τ).loc Cert.Kernel3Ideal.main_v38_4) = v4 c
          ∧ r.2.mem ((c.tc : Thread Cert.Kernel3Ideal.nD Cert.Kernel3Ideal.τ).loc Cert.Kernel3Ideal.main_v38_5) = v5 c
          ∧ r.2.mem ((c.tc : Thread Cert.Kernel3Ideal.nD Cert.Kernel3Ideal.τ).loc Cert.Kernel3Ideal.main_v38_6) = v6 c
          ∧ r.2.mem ((c.tc : Thread Cert.Kernel3Ideal.nD Cert.Kernel3Ideal.τ).loc Cert.Kernel3Ideal.main_v38_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_v160) = v1 c
          ∧ r.2.mem ((c.tc : Thread Cert.Reference3Ideal.nD Cert.Reference3Ideal.τ).loc Cert.Reference3Ideal.main_v161) = v2 c
          ∧ r.2.mem ((c.tc : Thread Cert.Reference3Ideal.nD Cert.Reference3Ideal.τ).loc Cert.Reference3Ideal.main_v163) = v3 c
          ∧ r.2.mem ((c.tc : Thread Cert.Reference3Ideal.nD Cert.Reference3Ideal.τ).loc Cert.Reference3Ideal.main_v165) = v4 c
          ∧ r.2.mem ((c.tc : Thread Cert.Reference3Ideal.nD Cert.Reference3Ideal.τ).loc Cert.Reference3Ideal.main_v166) = v5 c
          ∧ r.2.mem ((c.tc : Thread Cert.Reference3Ideal.nD Cert.Reference3Ideal.τ).loc Cert.Reference3Ideal.main_v167) = v6 c
          ∧ r.2.mem ((c.tc : Thread Cert.Reference3Ideal.nD Cert.Reference3Ideal.τ).loc Cert.Reference3Ideal.main_v168) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x4096x512 : Shape := ⟨3, ![16, 4096, 512]⟩
abbrev S64 : Shape := ⟨1, ![64]⟩
abbrev S128 : Shape := ⟨1, ![128]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x4096x512 .f32) (main_arg1 : FVec F S16x4096x512 .f32) (main_arg2 : FVec F S16x4096x512 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  let main_v9 : FVec F S16x4096x512 .f32 := Host.absf main_arg2
  let main_cst_2 : FVec F S_ .f32 := constant S_ .f32 0x7F800000#32
  let main_v10 : FVec F S16x4096x512 .f32 := broadcastInDim S16x4096x512 ![] bcast_S_S16x4096x512 main_cst_2
  let main_v11 : IVec S16x4096x512 1 := cmpf .olt main_v9 main_v10
  let main_c_3 : IVec S_ 1 := constantI S_ 1 1#1
  let main_v12 : IVec S_ 1 := (fun x v => Host.reduce IntOp.andi x v reducesTo_S16x4096x512_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S16x4096x512 : Shape := ⟨3, ![16, 4096, 512]⟩
abbrev S64 : Shape := ⟨1, ![64]⟩
abbrev S128 : Shape := ⟨1, ![128]⟩
abbrev S_ : Shape := ⟨0, ![]⟩
abbrev S1x64 : Shape := ⟨2, ![1, 64]⟩
abbrev S4x64 : Shape := ⟨2, ![4, 64]⟩
abbrev S1x128 : Shape := ⟨2, ![1, 128]⟩
abbrev S1x512x512 : Shape := ⟨3, ![1, 512, 512]⟩
abbrev S1x4096x512 : Shape := ⟨3, ![1, 4096, 512]⟩
abbrev S8x512x128 : Shape := ⟨3, ![8, 512, 128]⟩
abbrev S8x512x256 : Shape := ⟨3, ![8, 512, 256]⟩
abbrev S1x512x128 : Shape := ⟨3, ![1, 512, 128]⟩
abbrev S512x128 : Shape := ⟨2, ![512, 128]⟩
abbrev S1x768x128 : Shape := ⟨3, ![1, 768, 128]⟩
abbrev S768x128 : Shape := ⟨2, ![768, 128]⟩
abbrev S768x256 : Shape := ⟨2, ![768, 256]⟩
abbrev S256x128 : Shape := ⟨2, ![256, 128]⟩
abbrev S256x768 : Shape := ⟨2, ![256, 768]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x256x128 : Shape := ⟨3, ![1, 256, 128]⟩
abbrev S1x1024x128 : Shape := ⟨3, ![1, 1024, 128]⟩
abbrev S1024x128 : Shape := ⟨2, ![1024, 128]⟩
abbrev S1024x256 : Shape := ⟨2, ![1024, 256]⟩
abbrev S256x1024 : Shape := ⟨2, ![256, 1024]⟩
abbrev S512x256 : Shape := ⟨2, ![512, 256]⟩
abbrev S256x512 : Shape := ⟨2, ![256, 512]⟩
abbrev S512x1024 : Shape := ⟨2, ![512, 1024]⟩
abbrev S512 : Shape := ⟨1, ![512]⟩
abbrev S512x1 : Shape := ⟨2, ![512, 1]⟩
abbrev S1x512x256 : Shape := ⟨3, ![1, 512, 256]⟩
abbrev S1 : Shape := ⟨1, ![1]⟩
abbrev S1x1 : Shape := ⟨2, ![1, 1]⟩

abbrev nBuf : Space → Nat
  | .hbm => 25
  | .vmem => 12
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x4096x512, .f32⟩
  | .hbm, ⟨14, _⟩ => ⟨S16x4096x512, .f32⟩
  | .hbm, ⟨15, _⟩ => ⟨S16x4096x512, .bf16⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S4x64, .f32⟩
  | .hbm, ⟨21, _⟩ => ⟨S16x4096x512, .bf16⟩
  | .hbm, ⟨22, _⟩ => ⟨S16x4096x512, .bf16⟩
  | .hbm, ⟨23, _⟩ => ⟨S1x128, .f32⟩
  | .hbm, ⟨24, _⟩ => ⟨S16x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S4x64, .f32⟩
  | .local _ .vmem, ⟨7, _⟩ => ⟨S1x128, .f32⟩
  | .local _ .vmem, ⟨8, _⟩ => ⟨S1x512x512, .bf16⟩
  | .local _ .vmem, ⟨9, _⟩ => ⟨S1x512x512, .bf16⟩
  | .local _ .vmem, ⟨10, _⟩ => ⟨S8x512x128, .f32⟩
  | .local _ .vmem, ⟨11, _⟩ => ⟨S8x512x256, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c2_i32 : BitVec 32 := 2#32
  let c0_i32_14 : BitVec 32 := 0#32
  let v55 : BitVec 1 := Scalar.cmpi .eq c2_i32 c0_i32_14
  let c1_i32_15 : BitVec 32 := 1#32
  let v56 : BitVec 32 := Scalar.select v55 c1_i32_15 c2_i32
  let v57 : BitVec 32 := Scalar.remsi arg1 v56
  let c0_i32_17 : BitVec 32 := 0#32
  let v59 : BitVec 1 := Scalar.cmpi .slt v57 c0_i32_17
  let c0_i32_18 : BitVec 32 := 0#32
  let v60 : BitVec 1 := Scalar.cmpi .slt v56 c0_i32_18
  let v61 : BitVec 1 := Scalar.xori v59 v60
  let c0_i32_16 : BitVec 32 := 0#32
  let v58 : BitVec 1 := Scalar.cmpi .ne v57 c0_i32_16
  let v62 : BitVec 1 := Scalar.andi v61 v58
  let v63 : BitVec 32 := Scalar.addi v57 v56
  let v64 : BitVec 32 := Scalar.select v62 v63 v57
  let c1_i32_19 : BitVec 32 := 1#32
  let v65 : BitVec 1 := Scalar.cmpi .eq v64 c1_i32_19
  let v66 : BitVec 32 := Scalar.extui v65
  let c0_i32_20 : BitVec 32 := 0#32
  let v67 : BitVec 1 := Scalar.cmpi .ne v66 c0_i32_20
  v67

def k0_mult1 (i : grid0.Coords) : BitVec 32 :=
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  v270
def k0_off1 (i : grid0.Coords) : Fin 3 → Nat :=
  let c0_108 : Index := 0#32
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  let v271 : BitVec 32 := v270
  let v272 : Index := Scalar.indexCast v271
  let c0_109 : Index := 0#32
  ![0, v272.toNat, 0]
def k0_off2 (i : grid0.Coords) : Fin 3 → Nat :=
  let c0_110 : Index := 0#32
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  let v271 : BitVec 32 := v270
  let v275 : Index := Scalar.indexCast v271
  let c128_111 : Index := 128#32
  ![0, v275.toNat, 128]
def k0_off3 (i : grid0.Coords) : Fin 3 → Nat :=
  let c0_112 : Index := 0#32
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  let v271 : BitVec 32 := v270
  let v278 : Index := Scalar.indexCast v271
  let c256_113 : Index := 256#32
  ![0, v278.toNat, 256]
def k0_off4 (i : grid0.Coords) : Fin 3 → Nat :=
  let c0_114 : Index := 0#32
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  let v271 : BitVec 32 := v270
  let v281 : Index := Scalar.indexCast v271
  let c384_115 : Index := 384#32
  ![0, v281.toNat, 384]
def k0_off5 (i : grid0.Coords) : Fin 3 → Nat :=
  let c0_213 : Index := 0#32
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  let v271 : BitVec 32 := v270
  let v661 : Index := Scalar.indexCast v271
  let c0_214 : Index := 0#32
  ![0, v661.toNat, 0]
def k0_off6 (i : grid0.Coords) : Fin 3 → Nat :=
  let c0_215 : Index := 0#32
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  let v271 : BitVec 32 := v270
  let v664 : Index := Scalar.indexCast v271
  let c128_216 : Index := 128#32
  ![0, v664.toNat, 128]
def k0_off7 (i : grid0.Coords) : Fin 3 → Nat :=
  let c0_217 : Index := 0#32
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  let v271 : BitVec 32 := v270
  let v667 : Index := Scalar.indexCast v271
  let c256_218 : Index := 256#32
  ![0, v667.toNat, 256]
def k0_off8 (i : grid0.Coords) : Fin 3 → Nat :=
  let c0_219 : Index := 0#32
  let arg1 : BitVec 32 := BitVec.ofNat 32 (i 1).val
  let c1_i32_106 : BitVec 32 := 1#32
  let v269 : BitVec 32 := Scalar.subi arg1 c1_i32_106
  let c512_i32_107 : BitVec 32 := 512#32
  let v270 : BitVec 32 := Scalar.muli v269 c512_i32_107
  let v271 : BitVec 32 := v270
  let v670 : Index := Scalar.indexCast v271
  let c384_220 : Index := 384#32
  ![0, v670.toNat, 384]
def k0_cond2 (i : grid0.Coords) : BitVec 1 :=
  let arg1 : BitVec 32 := BitVec.ofNat 32 (i 1).val
  let c2_i32_21 : BitVec 32 := 2#32
  let c0_i32_22 : BitVec 32 := 0#32
  let v68 : BitVec 1 := Scalar.cmpi .eq c2_i32_21 c0_i32_22
  let c1_i32_23 : BitVec 32 := 1#32
  let v69 : BitVec 32 := Scalar.select v68 c1_i32_23 c2_i32_21
  let v70 : BitVec 32 := Scalar.remsi arg1 v69
  let c0_i32_25 : BitVec 32 := 0#32
  let v72 : BitVec 1 := Scalar.cmpi .slt v70 c0_i32_25
  let c0_i32_26 : BitVec 32 := 0#32
  let v73 : BitVec 1 := Scalar.cmpi .slt v69 c0_i32_26
  let v74 : BitVec 1 := Scalar.xori v72 v73
  let c0_i32_24 : BitVec 32 := 0#32
  let v71 : BitVec 1 := Scalar.cmpi .ne v70 c0_i32_24
  let v75 : BitVec 1 := Scalar.andi v74 v71
  let v76 : BitVec 32 := Scalar.addi v70 v69
  let v77 : BitVec 32 := Scalar.select v75 v76 v70
  let c0_i32_27 : BitVec 32 := 0#32
  let v78 : BitVec 1 := Scalar.cmpi .eq v77 c0_i32_27
  let v79 : BitVec 32 := Scalar.extui v78
  let c0_i32_28 : BitVec 32 := 0#32
  let v80 : BitVec 1 := Scalar.cmpi .ne v79 c0_i32_28
  v80

def k0_mult2 (i : grid0.Coords) : BitVec 32 :=
  let arg1 : BitVec 32 := BitVec.ofNat 32 (i 1).val
  let c512_i32_106 : BitVec 32 := 512#32
  let v269 : BitVec 32 := Scalar.muli arg1 c512_i32_106
  v269
def k0_off9 (i : grid0.Coords) : Fin 3 → Nat :=
  let c0_107 : Index := 0#32
  let arg1 : BitVec 32 := BitVec.ofNat 32 (i 1).val
  let c512_i32_106 : BitVec 32 := 512#32
  let v269 : BitVec 32 := Scalar.muli arg1 c512_i32_106
  let v270 : BitVec 32 := v269
  let v271 : Index := Scalar.indexCast v270
  let c0_108 : Index := 0#32
  ![0, v271.toNat, 0]
def k0_off10 (i : grid0.Coords) : Fin 3 → Nat :=
  let c0_109 : Index := 0#32
  let arg1 : BitVec 32 := BitVec.ofNat 32 (i 1).val
  let c512_i32_106 : BitVec 32 := 512#32
  let v269 : BitVec 32 := Scalar.muli arg1 c512_i32_106
  let v270 : BitVec 32 := v269
  let v274 : Index := Scalar.indexCast v270
  let c128_110 : Index := 128#32
  ![0, v274.toNat, 128]
def k0_off11 (i : grid0.Coords) : Fin 3 → Nat :=
  let c0_111 : Index := 0#32
  let arg1 : BitVec 32 := BitVec.ofNat 32 (i 1).val
  let c512_i32_106 : BitVec 32 := 512#32
  let v269 : BitVec 32 := Scalar.muli arg1 c512_i32_106
  let v270 : BitVec 32 := v269
  let v277 : Index := Scalar.indexCast v270
  let c256_112 : Index := 256#32
  ![0, v277.toNat, 256]
def k0_off12 (i : grid0.Coords) : Fin 3 → Nat :=
  let c0_113 : Index := 0#32
  let arg1 : BitVec 32 := BitVec.ofNat 32 (i 1).val
  let c512_i32_106 : BitVec 32 := 512#32
  let v269 : BitVec 32 := Scalar.muli arg1 c512_i32_106
  let v270 : BitVec 32 := v269
  let v280 : Index := Scalar.indexCast v270
  let c384_114 : Index := 384#32
  ![0, v280.toNat, 384]
def k0_off13 (i : grid0.Coords) : Fin 3 → Nat :=
  let c0_212 : Index := 0#32
  let arg1 : BitVec 32 := BitVec.ofNat 32 (i 1).val
  let c512_i32_106 : BitVec 32 := 512#32
  let v269 : BitVec 32 := Scalar.muli arg1 c512_i32_106
  let v270 : BitVec 32 := v269
  let v532 : Index := Scalar.indexCast v270
  let c0_213 : Index := 0#32
  ![0, v532.toNat, 0]
def k0_off14 (i : grid0.Coords) : Fin 3 → Nat :=
  let c0_214 : Index := 0#32
  let arg1 : BitVec 32 := BitVec.ofNat 32 (i 1).val
  let c512_i32_106 : BitVec 32 := 512#32
  let v269 : BitVec 32 := Scalar.muli arg1 c512_i32_106
  let v270 : BitVec 32 := v269
  let v535 : Index := Scalar.indexCast v270
  let c128_215 : Index := 128#32
  ![0, v535.toNat, 128]
def k0_off15 (i : grid0.Coords) : Fin 3 → Nat :=
  let c0_216 : Index := 0#32
  let arg1 : BitVec 32 := BitVec.ofNat 32 (i 1).val
  let c512_i32_106 : BitVec 32 := 512#32
  let v269 : BitVec 32 := Scalar.muli arg1 c512_i32_106
  let v270 : BitVec 32 := v269
  let v538 : Index := Scalar.indexCast v270
  let c256_217 : Index := 256#32
  ![0, v538.toNat, 256]
def k0_off16 (i : grid0.Coords) : Fin 3 → Nat :=
  let c0_218 : Index := 0#32
  let arg1 : BitVec 32 := BitVec.ofNat 32 (i 1).val
  let c512_i32_106 : BitVec 32 := 512#32
  let v269 : BitVec 32 := Scalar.muli arg1 c512_i32_106
  let v270 : BitVec 32 := v269
  let v541 : Index := Scalar.indexCast v270
  let c384_219 : Index := 384#32
  ![0, v541.toNat, 384]
@[reducible] def k0_t1_loop (i : grid0.Coords) : Scf.Loop 32 :=
  let c0_i32_36 : BitVec 32 := 0#32
  let arg1 : BitVec 32 := BitVec.ofNat 32 (i 1).val
  let c512_i32 : BitVec 32 := 512#32
  let v81 : BitVec 32 := Scalar.muli arg1 c512_i32
  let c0_i32_29 : BitVec 32 := 0#32
  let v83 : BitVec 1 := Scalar.cmpi .sgt v81 c0_i32_29
  let v84 : BitVec 32 := Scalar.extui v83
  let c0_i32_30 : BitVec 32 := 0#32
  let v85 : BitVec 1 := Scalar.cmpi .slt v81 c0_i32_30
  let v86 : BitVec 32 := Scalar.extui v85
  let v87 : BitVec 32 := Scalar.subi v84 v86
  let c1024_i32 : BitVec 32 := 1024#32
  let c0_i32_31 : BitVec 32 := 0#32
  let v88 : BitVec 1 := Scalar.cmpi .sgt c1024_i32 c0_i32_31
  let v89 : BitVec 32 := Scalar.extui v88
  let c0_i32_32 : BitVec 32 := 0#32
  let v90 : BitVec 1 := Scalar.cmpi .slt c1024_i32 c0_i32_32
  let v91 : BitVec 32 := Scalar.extui v90
  let v92 : BitVec 32 := Scalar.subi v89 v91
  let v93 : BitVec 1 := Scalar.cmpi .ne v87 v92
  let v94 : BitVec 32 := Scalar.remsi v81 c1024_i32
  let c0_i32_33 : BitVec 32 := 0#32
  let v95 : BitVec 1 := Scalar.cmpi .ne v94 c0_i32_33
  let v96 : BitVec 1 := Scalar.andi v93 v95
  let v82 : BitVec 32 := Scalar.divsi v81 c1024_i32
  let c1_i32_34 : BitVec 32 := 1#32
  let v97 : BitVec 32 := Scalar.subi v82 c1_i32_34
  let v98 : BitVec 32 := Scalar.select v96 v97 v82
  let v99 : BitVec 32 := Scalar.subi v98 c0_i32_36
  let c1_i32_37 : BitVec 32 := 1#32
  let v101 : BitVec 32 := Scalar.divsi v99 c1_i32_37
  let v102 : BitVec 32 := Scalar.muli v101 c1_i32_37
  let v103 : BitVec 32 := Scalar.addi c0_i32_36 v102
  let c1_i32_38 : BitVec 32 := 1#32
  ⟨c0_i32_36, v103, c1_i32_38⟩
def k0_mult3 (i : grid0.Coords) (k0_t1 : Fin (k0_t1_loop i).trips) : BitVec 32 :=
  let c0_i32_36 : BitVec 32 := 0#32
  let c1_i32_38 : BitVec 32 := 1#32
  let arg10 : BitVec 32 := Scf.iv c0_i32_36 c1_i32_38 k0_t1
  let c1024_i32_106 : BitVec 32 := 1024#32
  let v269 : BitVec 32 := Scalar.muli arg10 c1024_i32_106
  v269
def k0_off17 (i : grid0.Coords) (k0_t1 : Fin (k0_t1_loop i).trips) : Fin 3 → Nat :=
  let c0_107 : Index := 0#32
  let c0_i32_36 : BitVec 32 := 0#32
  let c1_i32_38 : BitVec 32 := 1#32
  let arg10 : BitVec 32 := Scf.iv c0_i32_36 c1_i32_38 k0_t1
  let c1024_i32_106 : BitVec 32 := 1024#32
  let v269 : BitVec 32 := Scalar.muli arg10 c1024_i32_106
  let v270 : BitVec 32 := v269
  let v271 : Index := Scalar.indexCast v270
  let c0_108 : Index := 0#32
  ![0, v271.toNat, 0]
def k0_off18 (i : grid0.Coords) (k0_t1 : Fin (k0_t1_loop i).trips) : Fin 3 → Nat :=
  let c0_109 : Index := 0#32
  let c0_i32_36 : BitVec 32 := 0#32
  let c1_i32_38 : BitVec 32 := 1#32
  let arg10 : BitVec 32 := Scf.iv c0_i32_36 c1_i32_38 k0_t1
  let c1024_i32_106 : BitVec 32 := 1024#32
  let v269 : BitVec 32 := Scalar.muli arg10 c1024_i32_106
  let v270 : BitVec 32 := v269
  let v274 : Index := Scalar.indexCast v270
  let c128_110 : Index := 128#32
  ![0, v274.toNat, 128]
def k0_off19 (i : grid0.Coords) (k0_t1 : Fin (k0_t1_loop i).trips) : Fin 3 → Nat :=
  let c0_111 : Index := 0#32
  let c0_i32_36 : BitVec 32 := 0#32
  let c1_i32_38 : BitVec 32 := 1#32
  let arg10 : BitVec 32 := Scf.iv c0_i32_36 c1_i32_38 k0_t1
  let c1024_i32_106 : BitVec 32 := 1024#32
  let v269 : BitVec 32 := Scalar.muli arg10 c1024_i32_106
  let v270 : BitVec 32 := v269
  let v277 : Index := Scalar.indexCast v270
  let c256_112 : Index := 256#32
  ![0, v277.toNat, 256]
def k0_off20 (i : grid0.Coords) (k0_t1 : Fin (k0_t1_loop i).trips) : Fin 3 → Nat :=
  let c0_113 : Index := 0#32
  let c0_i32_36 : BitVec 32 := 0#32
  let c1_i32_38 : BitVec 32 := 1#32
  let arg10 : BitVec 32 := Scf.iv c0_i32_36 c1_i32_38 k0_t1
  let c1024_i32_106 : BitVec 32 := 1024#32
  let v269 : BitVec 32 := Scalar.muli arg10 c1024_i32_106
  let v270 : BitVec 32 := v269
  let v280 : Index := Scalar.indexCast v270
  let c384_114 : Index := 384#32
  ![0, v280.toNat, 384]
@[reducible] def k0_t2_loop (i : grid0.Coords) : Scf.Loop 32 :=
  let c0_i32_36 : BitVec 32 := 0#32
  let arg1 : BitVec 32 := BitVec.ofNat 32 (i 1).val
  let c512_i32 : BitVec 32 := 512#32
  let v81 : BitVec 32 := Scalar.muli arg1 c512_i32
  let c0_i32_29 : BitVec 32 := 0#32
  let v83 : BitVec 1 := Scalar.cmpi .sgt v81 c0_i32_29
  let v84 : BitVec 32 := Scalar.extui v83
  let c0_i32_30 : BitVec 32 := 0#32
  let v85 : BitVec 1 := Scalar.cmpi .slt v81 c0_i32_30
  let v86 : BitVec 32 := Scalar.extui v85
  let v87 : BitVec 32 := Scalar.subi v84 v86
  let c1024_i32 : BitVec 32 := 1024#32
  let c0_i32_31 : BitVec 32 := 0#32
  let v88 : BitVec 1 := Scalar.cmpi .sgt c1024_i32 c0_i32_31
  let v89 : BitVec 32 := Scalar.extui v88
  let c0_i32_32 : BitVec 32 := 0#32
  let v90 : BitVec 1 := Scalar.cmpi .slt c1024_i32 c0_i32_32
  let v91 : BitVec 32 := Scalar.extui v90
  let v92 : BitVec 32 := Scalar.subi v89 v91
  let v93 : BitVec 1 := Scalar.cmpi .ne v87 v92
  let v94 : BitVec 32 := Scalar.remsi v81 c1024_i32
  let c0_i32_33 : BitVec 32 := 0#32
  let v95 : BitVec 1 := Scalar.cmpi .ne v94 c0_i32_33
  let v96 : BitVec 1 := Scalar.andi v93 v95
  let v82 : BitVec 32 := Scalar.divsi v81 c1024_i32
  let c1_i32_34 : BitVec 32 := 1#32
  let v97 : BitVec 32 := Scalar.subi v82 c1_i32_34
  let v98 : BitVec 32 := Scalar.select v96 v97 v82
  let v99 : BitVec 32 := Scalar.subi v98 c0_i32_36
  let c1_i32_37 : BitVec 32 := 1#32
  let v101 : BitVec 32 := Scalar.divsi v99 c1_i32_37
  let v102 : BitVec 32 := Scalar.muli v101 c1_i32_37
  let v103 : BitVec 32 := Scalar.addi c0_i32_36 v102
  let v100 : BitVec 32 := Scalar.addi c0_i32_36 v99
  let c1_i32_39 : BitVec 32 := 1#32
  ⟨v103, v100, c1_i32_39⟩
def k0_mult4 (i : grid0.Coords) (k0_t2 : Fin (k0_t2_loop i).trips) : BitVec 32 :=
  let c0_i32_36 : BitVec 32 := 0#32
  let arg1 : BitVec 32 := BitVec.ofNat 32 (i 1).val
  let c512_i32 : BitVec 32 := 512#32
  let v81 : BitVec 32 := Scalar.muli arg1 c512_i32
  let c0_i32_29 : BitVec 32 := 0#32
  let v83 : BitVec 1 := Scalar.cmpi .sgt v81 c0_i32_29
  let v84 : BitVec 32 := Scalar.extui v83
  let c0_i32_30 : BitVec 32 := 0#32
  let v85 : BitVec 1 := Scalar.cmpi .slt v81 c0_i32_30
  let v86 : BitVec 32 := Scalar.extui v85
  let v87 : BitVec 32 := Scalar.subi v84 v86
  let c1024_i32 : BitVec 32 := 1024#32
  let c0_i32_31 : BitVec 32 := 0#32
  let v88 : BitVec 1 := Scalar.cmpi .sgt c1024_i32 c0_i32_31
  let v89 : BitVec 32 := Scalar.extui v88
  let c0_i32_32 : BitVec 32 := 0#32
  let v90 : BitVec 1 := Scalar.cmpi .slt c1024_i32 c0_i32_32
  let v91 : BitVec 32 := Scalar.extui v90
  let v92 : BitVec 32 := Scalar.subi v89 v91
  let v93 : BitVec 1 := Scalar.cmpi .ne v87 v92
  let v94 : BitVec 32 := Scalar.remsi v81 c1024_i32
  let c0_i32_33 : BitVec 32 := 0#32
  let v95 : BitVec 1 := Scalar.cmpi .ne v94 c0_i32_33
  let v96 : BitVec 1 := Scalar.andi v93 v95
  let v82 : BitVec 32 := Scalar.divsi v81 c1024_i32
  let c1_i32_34 : BitVec 32 := 1#32
  let v97 : BitVec 32 := Scalar.subi v82 c1_i32_34
  let v98 : BitVec 32 := Scalar.select v96 v97 v82
  let v99 : BitVec 32 := Scalar.subi v98 c0_i32_36
  let c1_i32_37 : BitVec 32 := 1#32
  let v101 : BitVec 32 := Scalar.divsi v99 c1_i32_37
  let v102 : BitVec 32 := Scalar.muli v101 c1_i32_37
  let v103 : BitVec 32 := Scalar.addi c0_i32_36 v102
  let c1_i32_39 : BitVec 32 := 1#32
  let arg10 : BitVec 32 := Scf.iv v103 c1_i32_39 k0_t2
  let c1024_i32_106 : BitVec 32 := 1024#32
  let v269 : BitVec 32 := Scalar.muli arg10 c1024_i32_106
  v269
def k0_off21 (i : grid0.Coords) (k0_t2 : Fin (k0_t2_loop i).trips) : Fin 3 → Nat :=
  let c0_107 : Index := 0#32
  let c0_i32_36 : BitVec 32 := 0#32
  let arg1 : BitVec 32 := BitVec.ofNat 32 (i 1).val
  let c512_i32 : BitVec 32 := 512#32
  let v81 : BitVec 32 := Scalar.muli arg1 c512_i32
  let c0_i32_29 : BitVec 32 := 0#32
  let v83 : BitVec 1 := Scalar.cmpi .sgt v81 c0_i32_29
  let v84 : BitVec 32 := Scalar.extui v83
  let c0_i32_30 : BitVec 32 := 0#32
  let v85 : BitVec 1 := Scalar.cmpi .slt v81 c0_i32_30
  let v86 : BitVec 32 := Scalar.extui v85
  let v87 : BitVec 32 := Scalar.subi v84 v86
  let c1024_i32 : BitVec 32 := 1024#32
  let c0_i32_31 : BitVec 32 := 0#32
  let v88 : BitVec 1 := Scalar.cmpi .sgt c1024_i32 c0_i32_31
  let v89 : BitVec 32 := Scalar.extui v88
  let c0_i32_32 : BitVec 32 := 0#32
  let v90 : BitVec 1 := Scalar.cmpi .slt c1024_i32 c0_i32_32
  let v91 : BitVec 32 := Scalar.extui v90
  let v92 : BitVec 32 := Scalar.subi v89 v91
  let v93 : BitVec 1 := Scalar.cmpi .ne v87 v92
  let v94 : BitVec 32 := Scalar.remsi v81 c1024_i32
  let c0_i32_33 : BitVec 32 := 0#32
  let v95 : BitVec 1 := Scalar.cmpi .ne v94 c0_i32_33
  let v96 : BitVec 1 := Scalar.andi v93 v95
  let v82 : BitVec 32 := Scalar.divsi v81 c1024_i32
  let c1_i32_34 : BitVec 32 := 1#32
  let v97 : BitVec 32 := Scalar.subi v82 c1_i32_34
  let v98 : BitVec 32 := Scalar.select v96 v97 v82
  let v99 : BitVec 32 := Scalar.subi v98 c0_i32_36
  let c1_i32_37 : BitVec 32 := 1#32
  let v101 : BitVec 32 := Scalar.divsi v99 c1_i32_37
  let v102 : BitVec 32 := Scalar.muli v101 c1_i32_37
  let v103 : BitVec 32 := Scalar.addi c0_i32_36 v102
  let c1_i32_39 : BitVec 32 := 1#32
  let arg10 : BitVec 32 := Scf.iv v103 c1_i32_39 k0_t2
  let c1024_i32_106 : BitVec 32 := 1024#32
  let v269 : BitVec 32 := Scalar.muli arg10 c1024_i32_106
  let v270 : BitVec 32 := v269
  let v271 : Index := Scalar.indexCast v270
  let c0_108 : Index := 0#32
  ![0, v271.toNat, 0]
def k0_off22 (i : grid0.Coords) (k0_t2 : Fin (k0_t2_loop i).trips) : Fin 3 → Nat :=
  let c0_109 : Index := 0#32
  let c0_i32_36 : BitVec 32 := 0#32
  let arg1 : BitVec 32 := BitVec.ofNat 32 (i 1).val
  let c512_i32 : BitVec 32 := 512#32
  let v81 : BitVec 32 := Scalar.muli arg1 c512_i32
  let c0_i32_29 : BitVec 32 := 0#32
  let v83 : BitVec 1 := Scalar.cmpi .sgt v81 c0_i32_29
  let v84 : BitVec 32 := Scalar.extui v83
  let c0_i32_30 : BitVec 32 := 0#32
  let v85 : BitVec 1 := Scalar.cmpi .slt v81 c0_i32_30
  let v86 : BitVec 32 := Scalar.extui v85
  let v87 : BitVec 32 := Scalar.subi v84 v86
  let c1024_i32 : BitVec 32 := 1024#32
  let c0_i32_31 : BitVec 32 := 0#32
  let v88 : BitVec 1 := Scalar.cmpi .sgt c1024_i32 c0_i32_31
  let v89 : BitVec 32 := Scalar.extui v88
  let c0_i32_32 : BitVec 32 := 0#32
  let v90 : BitVec 1 := Scalar.cmpi .slt c1024_i32 c0_i32_32
  let v91 : BitVec 32 := Scalar.extui v90
  let v92 : BitVec 32 := Scalar.subi v89 v91
  let v93 : BitVec 1 := Scalar.cmpi .ne v87 v92
  let v94 : BitVec 32 := Scalar.remsi v81 c1024_i32
  let c0_i32_33 : BitVec 32 := 0#32
  let v95 : BitVec 1 := Scalar.cmpi .ne v94 c0_i32_33
  let v96 : BitVec 1 := Scalar.andi v93 v95
  let v82 : BitVec 32 := Scalar.divsi v81 c1024_i32
  let c1_i32_34 : BitVec 32 := 1#32
  let v97 : BitVec 32 := Scalar.subi v82 c1_i32_34
  let v98 : BitVec 32 := Scalar.select v96 v97 v82
  let v99 : BitVec 32 := Scalar.subi v98 c0_i32_36
  let c1_i32_37 : BitVec 32 := 1#32
  let v101 : BitVec 32 := Scalar.divsi v99 c1_i32_37
  let v102 : BitVec 32 := Scalar.muli v101 c1_i32_37
  let v103 : BitVec 32 := Scalar.addi c0_i32_36 v102
  let c1_i32_39 : BitVec 32 := 1#32
  let arg10 : BitVec 32 := Scf.iv v103 c1_i32_39 k0_t2
  let c1024_i32_106 : BitVec 32 := 1024#32
  let v269 : BitVec 32 := Scalar.muli arg10 c1024_i32_106
  let v270 : BitVec 32 := v269
  let v274 : Index := Scalar.indexCast v270
  let c128_110 : Index := 128#32
  ![0, v274.toNat, 128]
def k0_off23 (i : grid0.Coords) (k0_t2 : Fin (k0_t2_loop i).trips) : Fin 3 → Nat :=
  let c0_111 : Index := 0#32
  let c0_i32_36 : BitVec 32 := 0#32
  let arg1 : BitVec 32 := BitVec.ofNat 32 (i 1).val
  let c512_i32 : BitVec 32 := 512#32
  let v81 : BitVec 32 := Scalar.muli arg1 c512_i32
  let c0_i32_29 : BitVec 32 := 0#32
  let v83 : BitVec 1 := Scalar.cmpi .sgt v81 c0_i32_29
  let v84 : BitVec 32 := Scalar.extui v83
  let c0_i32_30 : BitVec 32 := 0#32
  let v85 : BitVec 1 := Scalar.cmpi .slt v81 c0_i32_30
  let v86 : BitVec 32 := Scalar.extui v85
  let v87 : BitVec 32 := Scalar.subi v84 v86
  let c1024_i32 : BitVec 32 := 1024#32
  let c0_i32_31 : BitVec 32 := 0#32
  let v88 : BitVec 1 := Scalar.cmpi .sgt c1024_i32 c0_i32_31
  let v89 : BitVec 32 := Scalar.extui v88
  let c0_i32_32 : BitVec 32 := 0#32
  let v90 : BitVec 1 := Scalar.cmpi .slt c1024_i32 c0_i32_32
  let v91 : BitVec 32 := Scalar.extui v90
  let v92 : BitVec 32 := Scalar.subi v89 v91
  let v93 : BitVec 1 := Scalar.cmpi .ne v87 v92
  let v94 : BitVec 32 := Scalar.remsi v81 c1024_i32
  let c0_i32_33 : BitVec 32 := 0#32
  let v95 : BitVec 1 := Scalar.cmpi .ne v94 c0_i32_33
  let v96 : BitVec 1 := Scalar.andi v93 v95
  let v82 : BitVec 32 := Scalar.divsi v81 c1024_i32
  let c1_i32_34 : BitVec 32 := 1#32
  let v97 : BitVec 32 := Scalar.subi v82 c1_i32_34
  let v98 : BitVec 32 := Scalar.select v96 v97 v82
  let v99 : BitVec 32 := Scalar.subi v98 c0_i32_36
  let c1_i32_37 : BitVec 32 := 1#32
  let v101 : BitVec 32 := Scalar.divsi v99 c1_i32_37
  let v102 : BitVec 32 := Scalar.muli v101 c1_i32_37
  let v103 : BitVec 32 := Scalar.addi c0_i32_36 v102
  let c1_i32_39 : BitVec 32 := 1#32
  let arg10 : BitVec 32 := Scf.iv v103 c1_i32_39 k0_t2
  let c1024_i32_106 : BitVec 32 := 1024#32
  let v269 : BitVec 32 := Scalar.muli arg10 c1024_i32_106
  let v270 : BitVec 32 := v269
  let v277 : Index := Scalar.indexCast v270
  let c256_112 : Index := 256#32
  ![0, v277.toNat, 256]
def k0_off24 (i : grid0.Coords) (k0_t2 : Fin (k0_t2_loop i).trips) : Fin 3 → Nat :=
  let c0_113 : Index := 0#32
  let c0_i32_36 : BitVec 32 := 0#32
  let arg1 : BitVec 32 := BitVec.ofNat 32 (i 1).val
  let c512_i32 : BitVec 32 := 512#32
  let v81 : BitVec 32 := Scalar.muli arg1 c512_i32
  let c0_i32_29 : BitVec 32 := 0#32
  let v83 : BitVec 1 := Scalar.cmpi .sgt v81 c0_i32_29
  let v84 : BitVec 32 := Scalar.extui v83
  let c0_i32_30 : BitVec 32 := 0#32
  let v85 : BitVec 1 := Scalar.cmpi .slt v81 c0_i32_30
  let v86 : BitVec 32 := Scalar.extui v85
  let v87 : BitVec 32 := Scalar.subi v84 v86
  let c1024_i32 : BitVec 32 := 1024#32
  let c0_i32_31 : BitVec 32 := 0#32
  let v88 : BitVec 1 := Scalar.cmpi .sgt c1024_i32 c0_i32_31
  let v89 : BitVec 32 := Scalar.extui v88
  let c0_i32_32 : BitVec 32 := 0#32
  let v90 : BitVec 1 := Scalar.cmpi .slt c1024_i32 c0_i32_32
  let v91 : BitVec 32 := Scalar.extui v90
  let v92 : BitVec 32 := Scalar.subi v89 v91
  let v93 : BitVec 1 := Scalar.cmpi .ne v87 v92
  let v94 : BitVec 32 := Scalar.remsi v81 c1024_i32
  let c0_i32_33 : BitVec 32 := 0#32
  let v95 : BitVec 1 := Scalar.cmpi .ne v94 c0_i32_33
  let v96 : BitVec 1 := Scalar.andi v93 v95
  let v82 : BitVec 32 := Scalar.divsi v81 c1024_i32
  let c1_i32_34 : BitVec 32 := 1#32
  let v97 : BitVec 32 := Scalar.subi v82 c1_i32_34
  let v98 : BitVec 32 := Scalar.select v96 v97 v82
  let v99 : BitVec 32 := Scalar.subi v98 c0_i32_36
  let c1_i32_37 : BitVec 32 := 1#32
  let v101 : BitVec 32 := Scalar.divsi v99 c1_i32_37
  let v102 : BitVec 32 := Scalar.muli v101 c1_i32_37
  let v103 : BitVec 32 := Scalar.addi c0_i32_36 v102
  let c1_i32_39 : BitVec 32 := 1#32
  let arg10 : BitVec 32 := Scf.iv v103 c1_i32_39 k0_t2
  let c1024_i32_106 : BitVec 32 := 1024#32
  let v269 : BitVec 32 := Scalar.muli arg10 c1024_i32_106
  let v270 : BitVec 32 := v269
  let v280 : Index := Scalar.indexCast v270
  let c384_114 : Index := 384#32
  ![0, v280.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x512 : Shape := ⟨3, ![16, 4096, 512]⟩
abbrev S64 : Shape := ⟨1, ![64]⟩
abbrev S128 : Shape := ⟨1, ![128]⟩
abbrev S16x16384x2x2x32 : Shape := ⟨5, ![16, 16384, 2, 2, 32]⟩
abbrev S16x2x16384x2x32 : Shape := ⟨5, ![16, 2, 16384, 2, 32]⟩
abbrev S16x2x4096x4x64 : Shape := ⟨5, ![16, 2, 4096, 4, 64]⟩
abbrev S16x4x2x4096x64 : Shape := ⟨5, ![16, 4, 2, 4096, 64]⟩
abbrev S_ : Shape := ⟨0, ![]⟩
abbrev S16x4096x4x128 : Shape := ⟨4, ![16, 4096, 4, 128]⟩
abbrev S16x4x4096x128 : Shape := ⟨4, ![16, 4, 4096, 128]⟩
abbrev S16x4x2x4096x4096 : Shape := ⟨5, ![16, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x128x4096 : Shape := ⟨4, ![16, 4, 128, 4096]⟩
abbrev S16x4096x4 : Shape := ⟨3, ![16, 4096, 4]⟩
abbrev S16x4096x4x1 : Shape := ⟨4, ![16, 4096, 4, 1]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16x16384x2x2x32, .f32⟩
  | .hbm, ⟨9, _⟩ => ⟨S16x2x16384x2x32, .f32⟩
  | .hbm, ⟨10, _⟩ => ⟨S16x2x4096x4x64, .f32⟩
  | .hbm, ⟨11, _⟩ => ⟨S16x4x2x4096x64, .f32⟩
  | .hbm, ⟨12, _⟩ => ⟨S_, .f32⟩
  | .hbm, ⟨13, _⟩ => ⟨S16x4x2x4096x64, .f32⟩
  | .hbm, ⟨14, _⟩ => ⟨S16x4x2x4096x64, .f32⟩
  | .hbm, ⟨15, _⟩ => ⟨S16x16384x2x2x32, .f32⟩
  | .hbm, ⟨16, _⟩ => ⟨S16x2x16384x2x32, .f32⟩
  | .hbm, ⟨17, _⟩ => ⟨S16x2x4096x4x64, .f32⟩
  | .hbm, ⟨18, _⟩ => ⟨S16x4x2x4096x64, .f32⟩
  | .hbm, ⟨19, _⟩ => ⟨S16x4096x4x128, .f32⟩
  | .hbm, ⟨20, _⟩ => ⟨S16x4x4096x128, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x4x2x4096x4096, .f32⟩
  | .hbm, ⟨33, _⟩ => ⟨S4096, .i32⟩
  | .hbm, ⟨34, _⟩ => ⟨S1x4096, .i32⟩
  | .hbm, ⟨35, _⟩ => ⟨S4096x1, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S16x4x2x4096x4096, .i1⟩
  | .hbm, ⟨42, _⟩ => ⟨S16x4x2x4096x4096, .f32⟩
  | .hbm, ⟨43, _⟩ => ⟨S16x4x2x4096x4096, .f32⟩
  | .hbm, ⟨44, _⟩ => ⟨S_, .f32⟩
  | .hbm, ⟨45, _⟩ => ⟨S16x4x2x4096, .f32⟩
  | .hbm, ⟨46, _⟩ => ⟨S_, .f32⟩
  | .hbm, ⟨47, _⟩ => ⟨S16x4x2x4096, .f32⟩
  | .hbm, ⟨48, _⟩ => ⟨S16x4x2x4096, .f32⟩
  | .hbm, ⟨49, _⟩ => ⟨S16x4x2x4096x1, .f32⟩
  | .hbm, ⟨50, _⟩ => ⟨S16x4x2x4096x4096, .f32⟩
  | .hbm, ⟨51, _⟩ => ⟨S16x4x2x4096x4096, .f32⟩
  | .hbm, ⟨52, _⟩ => ⟨S16x4x2x4096x4096, .f32⟩
  | .hbm, ⟨53, _⟩ => ⟨S_, .f32⟩
  | .hbm, ⟨54, _⟩ => ⟨S16x4x2x4096, .f32⟩
  | .hbm, ⟨55, _⟩ => ⟨S16x4x2x4096x1, .f32⟩
  | .hbm, ⟨56, _⟩ => ⟨S16x4x2x4096x4096, .f32⟩
  | .hbm, ⟨57, _⟩ => ⟨S16x4x2x4096x4096, .f32⟩
  | .hbm, ⟨58, _⟩ => ⟨S16x4x1x4096x4096, .f32⟩
  | .hbm, ⟨59, _⟩ => ⟨S16x4x4096x4096, .f32⟩
  | .hbm, ⟨60, _⟩ => ⟨S16x4x1x4096x4096, .f32⟩
  | .hbm, ⟨61, _⟩ => ⟨S16x4x4096x4096, .f32⟩
  | .hbm, ⟨62, _⟩ => ⟨S16x4x4096x4096, .f32⟩
  | .hbm, ⟨63, _⟩ => ⟨S16x4x4096x4096, .f32⟩
  | .hbm, ⟨64, _⟩ => ⟨S16x4x4096x4096, .f32⟩
  | .hbm, ⟨65, _⟩ => ⟨S16x4x128x4096, .f32⟩
  | .hbm, ⟨66, _⟩ => ⟨S16x4096x4x128, .f32⟩
  | .hbm, ⟨67, _⟩ => ⟨S16x4096x4x128, .f32⟩
  | .hbm, ⟨68, _⟩ => ⟨S_, .f32⟩
  | .hbm, ⟨69, _⟩ => ⟨S16x4096x4, .f32⟩
  | .hbm, ⟨70, _⟩ => ⟨S16x4096x4x1, .f32⟩
  | .hbm, ⟨71, _⟩ => ⟨S_, .f32⟩
  | .hbm, ⟨72, _⟩ => ⟨S16x4096x4x1, .f32⟩
  | .hbm, ⟨73, _⟩ => ⟨S16x4096x4x1, .f32⟩
  | .hbm, ⟨74, _⟩ => ⟨S_, .f32⟩
  | .hbm, ⟨75, _⟩ => ⟨S16x4096x4x1, .f32⟩
  | .hbm, ⟨76, _⟩ => ⟨S16x4096x4x1, .f32⟩
  | .hbm, ⟨77, _⟩ => ⟨S16x4096x4x1, .f32⟩
  | .hbm, ⟨78, _⟩ => ⟨S16x4096x4x128, .f32⟩
  | .hbm, ⟨79, _⟩ => ⟨S16x4096x4x128, .f32⟩
  | .hbm, ⟨80, _⟩ => ⟨S1x1x1x128, .f32⟩
  | .hbm, ⟨81, _⟩ => ⟨S16x4096x4x128, .f32⟩
  | .hbm, ⟨82, _⟩ => ⟨S16x4096x4x128, .f32⟩
  | .hbm, ⟨83, _⟩ => ⟨S_, .f32⟩
  | .hbm, ⟨84, _⟩ => ⟨S16x4096x4x128, .f32⟩
  | .hbm, ⟨85, _⟩ => ⟨S16x4096x4x128, .f32⟩
  | .hbm, ⟨86, _⟩ => ⟨S16x4096x512, .f32⟩
  | .hbm, ⟨87, _⟩ => ⟨S16x4096x512, .bf16⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S1x512x1024 : Shape := ⟨3, ![1, 512, 1024]⟩
abbrev S1x512x512 : Shape := ⟨3, ![1, 512, 512]⟩
abbrev S11x520x512 : Shape := ⟨3, ![11, 520, 512]⟩
abbrev S8x5632 : Shape := ⟨2, ![8, 5632]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S8x256 : Shape := ⟨2, ![8, 256]⟩
abbrev S1x520x512 : Shape := ⟨3, ![1, 520, 512]⟩
abbrev S520x512 : Shape := ⟨2, ![520, 512]⟩
abbrev S1024x256 : Shape := ⟨2, ![1024, 256]⟩
abbrev S512x256 : Shape := ⟨2, ![512, 256]⟩
abbrev S3x256 : Shape := ⟨2, ![3, 256]⟩
abbrev S3x512 : Shape := ⟨2, ![3, 512]⟩
abbrev S1x512 : Shape := ⟨2, ![1, 512]⟩
abbrev S256x1024 : Shape := ⟨2, ![256, 1024]⟩

abbrev nBuf : Space → Nat
  | .hbm => 15
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S2816x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S11x520x512, .f32⟩
  | .local _ .vmem, ⟨15, _⟩ => ⟨S8x5632, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S5632 : Shape := ⟨1, ![5632]⟩
abbrev S1x1x5632 : Shape := ⟨3, ![1, 1, 5632]⟩
abbrev S16x4096x2816 : Shape := ⟨3, ![16, 4096, 2816]⟩

abbrev nBuf : Space → Nat
  | .hbm => 84
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S2816x1024, .f32⟩
  | .hbm, ⟨8, _⟩ => ⟨S1024, .f32⟩
  | .hbm, ⟨9, _⟩ => ⟨S16x4096x512, .f32⟩
  | .hbm, ⟨10, _⟩ => ⟨S16x4096x512, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S_, .f32⟩
  | .hbm, ⟨16, _⟩ => ⟨S16x4096, .f32⟩
  | .hbm, ⟨17, _⟩ => ⟨S16x4096x1, .f32⟩
  | .hbm, ⟨18, _⟩ => ⟨S_, .f32⟩
  | .hbm, ⟨19, _⟩ => ⟨S16x4096x1, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S16x4096x1, .f32⟩
  | .hbm, ⟨25, _⟩ => ⟨S16x4096x1024, .f32⟩
  | .hbm, ⟨26, _⟩ => ⟨S16x4096x1024, .f32⟩
  | .hbm, ⟨27, _⟩ => ⟨S1x1x1024, .f32⟩
  | .hbm, ⟨28, _⟩ => ⟨S16x4096x1024, .f32⟩
  | .hbm, ⟨29, _⟩ => ⟨S16x4096x1024, .f32⟩
  | .hbm, ⟨30, _⟩ => ⟨S16x4096x5632, .f32⟩
  | .hbm, ⟨31, _⟩ => ⟨S_, .i32⟩
  | .hbm, ⟨32, _⟩ => ⟨S_, .f32⟩
  | .hbm, ⟨33, _⟩ => ⟨S16x4098x5632, .f32⟩
  | .hbm, ⟨34, _⟩ => ⟨S1x5632, .f32⟩
  | .hbm, ⟨35, _⟩ => ⟨S5632, .f32⟩
  | .hbm, ⟨36, _⟩ => ⟨S16x4096x5632, .f32⟩
  | .hbm, ⟨37, _⟩ => ⟨S1x1x5632, .f32⟩
  | .hbm, ⟨38, _⟩ => ⟨S16x4096x5632, .f32⟩
  | .hbm, ⟨39, _⟩ => ⟨S16x4096x5632, .f32⟩
  | .hbm, ⟨40, _⟩ => ⟨S1x5632, .f32⟩
  | .hbm, ⟨41, _⟩ => ⟨S5632, .f32⟩
  | .hbm, ⟨42, _⟩ => ⟨S16x4096x5632, .f32⟩
  | .hbm, ⟨43, _⟩ => ⟨S1x1x5632, .f32⟩
  | .hbm, ⟨44, _⟩ => ⟨S16x4096x5632, .f32⟩
  | .hbm, ⟨45, _⟩ => ⟨S16x4096x5632, .f32⟩
  | .hbm, ⟨46, _⟩ => ⟨S16x4096x5632, .f32⟩
  | .hbm, ⟨47, _⟩ => ⟨S1x5632, .f32⟩
  | .hbm, ⟨48, _⟩ => ⟨S5632, .f32⟩
  | .hbm, ⟨49, _⟩ => ⟨S16x4096x5632, .f32⟩
  | .hbm, ⟨50, _⟩ => ⟨S1x1x5632, .f32⟩
  | .hbm, ⟨51, _⟩ => ⟨S16x4096x5632, .f32⟩
  | .hbm, ⟨52, _⟩ => ⟨S16x4096x5632, .f32⟩
  | .hbm, ⟨53, _⟩ => ⟨S16x4096x5632, .f32⟩
  | .hbm, ⟨54, _⟩ => ⟨S16x4096x2816, .f32⟩
  | .hbm, ⟨55, _⟩ => ⟨S16x4096x2816, .f32⟩
  | .hbm, ⟨56, _⟩ => ⟨S16x4096x2816, .f32⟩
  | .hbm, ⟨57, _⟩ => ⟨S16x4096x2816, .f32⟩
  | .hbm, ⟨58, _⟩ => ⟨S_, .f32⟩
  | .hbm, ⟨59, _⟩ => ⟨S16x4096x2816, .f32⟩
  | .hbm, ⟨60, _⟩ => ⟨S16x4096x2816, .f32⟩
  | .hbm, ⟨61, _⟩ => ⟨S_, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S16x4096x2816, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S_, .f32⟩
  | .hbm, ⟨70, _⟩ => ⟨S16x4096, .f32⟩
  | .hbm, ⟨71, _⟩ => ⟨S16x4096x1, .f32⟩
  | .hbm, ⟨72, _⟩ => ⟨S_, .f32⟩
  | .hbm, ⟨73, _⟩ => ⟨S16x4096x1, .f32⟩
  | .hbm, ⟨74, _⟩ => ⟨S16x4096x1, .f32⟩
  | .hbm, ⟨75, _⟩ => ⟨S_, .f32⟩
  | .hbm, ⟨76, _⟩ => ⟨S16x4096x1, .f32⟩
  | .hbm, ⟨77, _⟩ => ⟨S16x4096x1, .f32⟩
  | .hbm, ⟨78, _⟩ => ⟨S16x4096x1, .f32⟩
  | .hbm, ⟨79, _⟩ => ⟨S16x4096x1024, .f32⟩
  | .hbm, ⟨80, _⟩ => ⟨S16x4096x1024, .f32⟩
  | .hbm, ⟨81, _⟩ => ⟨S1x1x1024, .f32⟩
  | .hbm, ⟨82, _⟩ => ⟨S16x4096x1024, .f32⟩
  | .hbm, ⟨83, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024 : Shape := ⟨1, ![1024]⟩
abbrev S1024x3592 : Shape := ⟨2, ![1024, 3592]⟩
abbrev S4x1536 : Shape := ⟨2, ![4, 1536]⟩
abbrev S1024x8 : Shape := ⟨2, ![1024, 8]⟩
abbrev S_ : Shape := ⟨0, ![]⟩
abbrev S1024x128 : Shape := ⟨2, ![1024, 128]⟩
abbrev S1024x512 : Shape := ⟨2, ![1024, 512]⟩
abbrev S1024x4x2x2x32 : Shape := ⟨5, ![1024, 4, 2, 2, 32]⟩
abbrev S1024x2560 : Shape := ⟨2, ![1024, 2560]⟩
abbrev S1024x3712 : Shape := ⟨2, ![1024, 3712]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x1024 : Shape := ⟨2, ![1, 1024]⟩
abbrev S16x4096x512 : Shape := ⟨3, ![16, 4096, 512]⟩
abbrev S16x4096x128 : Shape := ⟨3, ![16, 4096, 128]⟩
abbrev S1x512x1024 : Shape := ⟨3, ![1, 512, 1024]⟩
abbrev S512x128 : Shape := ⟨2, ![512, 128]⟩
abbrev S1x512x512 : Shape := ⟨3, ![1, 512, 512]⟩
abbrev S1x512x128 : Shape := ⟨3, ![1, 512, 128]⟩
abbrev S520x512 : Shape := ⟨2, ![520, 512]⟩
abbrev S8x1536 : Shape := ⟨2, ![8, 1536]⟩
abbrev S512x1024 : Shape := ⟨2, ![512, 1024]⟩
abbrev S512 : Shape := ⟨1, ![512]⟩
abbrev S512x1 : Shape := ⟨2, ![512, 1]⟩
abbrev S8x512 : Shape := ⟨2, ![8, 512]⟩
abbrev S512x512 : Shape := ⟨2, ![512, 512]⟩
abbrev S4x128 : Shape := ⟨2, ![4, 128]⟩
abbrev S1x128 : Shape := ⟨2, ![1, 128]⟩

abbrev nBuf : Space → Nat
  | .hbm => 56
  | .vmem => 29
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3592, .f32⟩
  | .hbm, ⟨3, _⟩ => ⟨S4x1536, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x512, .f32⟩
  | .hbm, ⟨9, _⟩ => ⟨S1024x4x2x2x32, .f32⟩
  | .hbm, ⟨10, _⟩ => ⟨S1024x4x2x2x32, .f32⟩
  | .hbm, ⟨11, _⟩ => ⟨S1024x512, .f32⟩
  | .hbm, ⟨12, _⟩ => ⟨S1024x512, .f32⟩
  | .hbm, ⟨13, _⟩ => ⟨S1024x4x2x2x32, .f32⟩
  | .hbm, ⟨14, _⟩ => ⟨S1024x4x2x2x32, .f32⟩
  | .hbm, ⟨15, _⟩ => ⟨S1024x512, .f32⟩
  | .hbm, ⟨16, _⟩ => ⟨S1024x2560, .f32⟩
  | .hbm, ⟨17, _⟩ => ⟨S1024x3712, .f32⟩
  | .hbm, ⟨18, _⟩ => ⟨S1024x3712, .bf16⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S1x4096x1x32, .f32⟩
  | .hbm, ⟨42, _⟩ => ⟨S1x4096x4x32, .f32⟩
  | .hbm, ⟨43, _⟩ => ⟨S4096x128, .f32⟩
  | .hbm, ⟨44, _⟩ => ⟨S4096x32, .f32⟩
  | .hbm, ⟨45, _⟩ => ⟨S4096x32, .f32⟩
  | .hbm, ⟨46, _⟩ => ⟨S4096x128, .f32⟩
  | .hbm, ⟨47, _⟩ => ⟨S1x1024, .f32⟩
  | .hbm, ⟨48, _⟩ => ⟨S16x4096x512, .bf16⟩
  | .hbm, ⟨49, _⟩ => ⟨S16x4096x512, .bf16⟩
  | .hbm, ⟨50, _⟩ => ⟨S16x4096x512, .bf16⟩
  | .hbm, ⟨51, _⟩ => ⟨S16x4096x512, .bf16⟩
  | .hbm, ⟨52, _⟩ => ⟨S16x4096x512, .bf16⟩
  | .hbm, ⟨53, _⟩ => ⟨S16x4096x512, .bf16⟩
  | .hbm, ⟨54, _⟩ => ⟨S16x4096x512, .bf16⟩
  | .hbm, ⟨55, _⟩ => ⟨S16x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3712, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S4x1536, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x128, .f32⟩
  | .local _ .vmem, ⟨24, _⟩ => ⟨S1x512x128, .f32⟩
  | .local _ .vmem, ⟨25, _⟩ => ⟨S520x512, .f32⟩
  | .local _ .vmem, ⟨26, _⟩ => ⟨S520x512, .f32⟩
  | .local _ .vmem, ⟨27, _⟩ => ⟨S520x512, .f32⟩
  | .local _ .vmem, ⟨28, _⟩ => ⟨S8x1536, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev main_v38_3 : Ref sig .tc := ⟨.hbm, 51, rfl⟩
abbrev main_v38_4 : Ref sig .tc := ⟨.hbm, 52, rfl⟩
abbrev main_v38_5 : Ref sig .tc := ⟨.hbm, 53, rfl⟩
abbrev main_v38_6 : Ref sig .tc := ⟨.hbm, 54, rfl⟩
abbrev main_v38_7 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S16x4096x1024 : Shape := ⟨3, ![16, 4096, 1024]⟩
abbrev S1024 : Shape := ⟨1, ![1024]⟩
abbrev S1024x3592 : Shape := ⟨2, ![1024, 3592]⟩
abbrev S4x1536 : Shape := ⟨2, ![4, 1536]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3592 : Shape := ⟨3, ![16, 4096, 3592]⟩
abbrev S16x4096x512 : Shape := ⟨3, ![16, 4096, 512]⟩
abbrev S16x4096x8 : Shape := ⟨3, ![16, 4096, 8]⟩
abbrev S16x4096x1536 : Shape := ⟨3, ![16, 4096, 1536]⟩
abbrev S16x4099x1536 : Shape := ⟨3, ![16, 4099, 1536]⟩
abbrev S1x1536 : Shape := ⟨2, ![1, 1536]⟩
abbrev S1536 : Shape := ⟨1, ![1536]⟩
abbrev S1x1x1536 : Shape := ⟨3, ![1, 1, 1536]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S16x4096x4x2x64 : Shape := ⟨5, ![16, 4096, 4, 2, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x1x32 : Shape := ⟨4, ![4096, 1, 1, 32]⟩
abbrev S16x4096x4x2x32 : Shape := ⟨5, ![16, 4096, 4, 2, 32]⟩
abbrev S1x4096x1x1x32 : Shape := ⟨5, ![1, 4096, 1, 1, 32]⟩
abbrev S16x16384x2x2x32 : Shape := ⟨5, ![16, 16384, 2, 2, 32]⟩
abbrev S16x4096x128 : Shape := ⟨3, ![16, 4096, 128]⟩

abbrev nBuf : Space → Nat
  | .hbm => 202
  | .vmem => 0
  | .smem => 0
  | _ => 0

abbrev hbmTy0_0 (i : Nat) : BufTy := match i % 128 with
  | 0 => ⟨S16x4096x1024, .f32⟩
  | 1 => ⟨S1024, .f32⟩
  | 2 => ⟨S1024x3592, .f32⟩
  | 3 => ⟨S4x1536, .f32⟩
  | 4 => ⟨S16x4096x1024, .f32⟩
  | 5 => ⟨S_, .f32⟩
  | 6 => ⟨S16x4096, .f32⟩
  | 7 => ⟨S16x4096x1, .f32⟩
  | 8 => ⟨S_, .f32⟩
  | 9 => ⟨S16x4096x1, .f32⟩
  | 10 => ⟨S16x4096x1, .f32⟩
  | 11 => ⟨S_, .f32⟩
  | 12 => ⟨S16x4096x1, .f32⟩
  | 13 => ⟨S16x4096x1, .f32⟩
  | 14 => ⟨S16x4096x1, .f32⟩
  | 15 => ⟨S16x4096x1024, .f32⟩
  | 16 => ⟨S16x4096x1024, .f32⟩
  | 17 => ⟨S1x1x1024, .f32⟩
  | 18 => ⟨S16x4096x1024, .f32⟩
  | 19 => ⟨S16x4096x1024, .f32⟩
  | 20 => ⟨S16x4096x3592, .f32⟩
  | 21 => ⟨S16x4096x512, .f32⟩
  | 22 => ⟨S16x4096x512, .f32⟩
  | 23 => ⟨S16x4096x512, .f32⟩
  | 24 => ⟨S16x4096x512, .f32⟩
  | 25 => ⟨S16x4096x512, .f32⟩
  | 26 => ⟨S16x4096x512, .f32⟩
  | 27 => ⟨S16x4096x512, .f32⟩
  | 28 => ⟨S16x4096x8, .f32⟩
  | 29 => ⟨S16x4096x1536, .f32⟩
  | 30 => ⟨S_, .i32⟩
  | 31 => ⟨S_, .f32⟩
  | 32 => ⟨S16x4099x1536, .f32⟩
  | 33 => ⟨S1x1536, .f32⟩
  | 34 => ⟨S1536, .f32⟩
  | 35 => ⟨S16x4096x1536, .f32⟩
  | 36 => ⟨S1x1x1536, .f32⟩
  | 37 => ⟨S16x4096x1536, .f32⟩
  | 38 => ⟨S16x4096x1536, .f32⟩
  | 39 => ⟨S1x1536, .f32⟩
  | 40 => ⟨S1536, .f32⟩
  | 41 => ⟨S16x4096x1536, .f32⟩
  | 42 => ⟨S1x1x1536, .f32⟩
  | 43 => ⟨S16x4096x1536, .f32⟩
  | 44 => ⟨S16x4096x1536, .f32⟩
  | 45 => ⟨S16x4096x1536, .f32⟩
  | 46 => ⟨S1x1536, .f32⟩
  | 47 => ⟨S1536, .f32⟩
  | 48 => ⟨S16x4096x1536, .f32⟩
  | 49 => ⟨S1x1x1536, .f32⟩
  | 50 => ⟨S16x4096x1536, .f32⟩
  | 51 => ⟨S16x4096x1536, .f32⟩
  | 52 => ⟨S16x4096x1536, .f32⟩
  | 53 => ⟨S1x1536, .f32⟩
  | 54 => ⟨S1536, .f32⟩
  | 55 => ⟨S16x4096x1536, .f32⟩
  | 56 => ⟨S1x1x1536, .f32⟩
  | 57 => ⟨S16x4096x1536, .f32⟩
  | 58 => ⟨S16x4096x1536, .f32⟩
  | 59 => ⟨S16x4096x1536, .f32⟩
  | 60 => ⟨S16x4096x1536, .f32⟩
  | 61 => ⟨S16x4096x1536, .f32⟩
  | 62 => ⟨S_, .f32⟩
  | 63 => ⟨S16x4096x1536, .f32⟩
  | 64 => ⟨S16x4096x1536, .f32⟩
  | 65 => ⟨S_, .f32⟩
  | 66 => ⟨S16x4096x1536, .f32⟩
  | 67 => ⟨S16x4096x1536, .f32⟩
  | 68 => ⟨S16x4096x1536, .f32⟩
  | 69 => ⟨S16x4096x512, .f32⟩
  | 70 => ⟨S16x4096x512, .f32⟩
  | 71 => ⟨S16x4096x512, .f32⟩
  | 72 => ⟨S16x4096x4x128, .f32⟩
  | 73 => ⟨S16x4096x4x128, .f32⟩
  | 74 => ⟨S_, .f32⟩
  | 75 => ⟨S16x4096x4, .f32⟩
  | 76 => ⟨S16x4096x4x1, .f32⟩
  | 77 => ⟨S_, .f32⟩
  | 78 => ⟨S16x4096x4x1, .f32⟩
  | 79 => ⟨S16x4096x4x1, .f32⟩
  | 80 => ⟨S16x4096x4x1, .f32⟩
  | 81 => ⟨S16x4096x4x128, .f32⟩
  | 82 => ⟨S16x4096x4x128, .f32⟩
  | 83 => ⟨S_, .f32⟩
  | 84 => ⟨S16x4096x4x128, .f32⟩
  | 85 => ⟨S16x4096x4x128, .f32⟩
  | 86 => ⟨S16x4096x4x128, .f32⟩
  | 87 => ⟨S16x4096x4x128, .f32⟩
  | 88 => ⟨S_, .f32⟩
  | 89 => ⟨S16x4096x4, .f32⟩
  | 90 => ⟨S16x4096x4x1, .f32⟩
  | 91 => ⟨S_, .f32⟩
  | 92 => ⟨S16x4096x4x1, .f32⟩
  | 93 => ⟨S16x4096x4x1, .f32⟩
  | 94 => ⟨S16x4096x4x1, .f32⟩
  | 95 => ⟨S16x4096x4x128, .f32⟩
  | 96 => ⟨S16x4096x4x128, .f32⟩
  | 97 => ⟨S16x4096x4x2x64, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S4096, .f32⟩
  | 113 => ⟨S4096x1, .f32⟩
  | 114 => ⟨S1x32, .f32⟩
  | 115 => ⟨S4096x32, .f32⟩
  | 116 => ⟨S4096x32, .f32⟩
  | 117 => ⟨S4096x32, .f32⟩
  | 118 => ⟨S4096x32, .f32⟩
  | 119 => ⟨S4096x1x1x32, .f32⟩
  | 120 => ⟨S4096x32, .f32⟩
  | 121 => ⟨S4096x1x1x32, .f32⟩
  | 122 => ⟨S16x4096x4x2x32, .f32⟩
  | 123 => ⟨S16x4096x4x2x32, .f32⟩
  | 124 => ⟨S1x4096x1x1x32, .f32⟩
  | 125 => ⟨S16x4096x4x2x32, .f32⟩
  | 126 => ⟨S16x4096x4x2x32, .f32⟩
  | 127 => ⟨S1x4096x1x1x32, .f32⟩
  | _ => ⟨S16x4096x1024, .f32⟩

abbrev hbmTy0_1 (i : Nat) : BufTy := match i % 128 with
  | 0 => ⟨S16x4096x4x2x32, .f32⟩
  | 1 => ⟨S16x4096x4x2x32, .f32⟩
  | 2 => ⟨S16x4096x4x2x32, .f32⟩
  | 3 => ⟨S1x4096x1x1x32, .f32⟩
  | 4 => ⟨S16x4096x4x2x32, .f32⟩
  | 5 => ⟨S16x4096x4x2x32, .f32⟩
  | 6 => ⟨S1x4096x1x1x32, .f32⟩
  | 7 => ⟨S16x4096x4x2x32, .f32⟩
  | 8 => ⟨S16x4096x4x2x32, .f32⟩
  | 9 => ⟨S16x4096x4x2x32, .f32⟩
  | 10 => ⟨S16x4096x4x2x64, .f32⟩
  | 11 => ⟨S_, .f32⟩
  | 12 => ⟨S16x4096x4x2x64, .f32⟩
  | 13 => ⟨S16x4096x4x2x64, .f32⟩
  | 14 => ⟨S16x16384x2x2x32, .f32⟩
  | 15 => ⟨S16x16384x2x2x32, .f32⟩
  | 16 => ⟨S16x4096x512, .f32⟩
  | 17 => ⟨S16x4096x512, .bf16⟩
  | 18 => ⟨S16x4096x4x2x64, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S4096, .f32⟩
  | 34 => ⟨S4096x1, .f32⟩
  | 35 => ⟨S1x32, .f32⟩
  | 36 => ⟨S4096x32, .f32⟩
  | 37 => ⟨S4096x32, .f32⟩
  | 38 => ⟨S4096x32, .f32⟩
  | 39 => ⟨S4096x32, .f32⟩
  | 40 => ⟨S4096x1x1x32, .f32⟩
  | 41 => ⟨S4096x32, .f32⟩
  | 42 => ⟨S4096x1x1x32, .f32⟩
  | 43 => ⟨S16x4096x4x2x32, .f32⟩
  | 44 => ⟨S16x4096x4x2x32, .f32⟩
  | 45 => ⟨S1x4096x1x1x32, .f32⟩
  | 46 => ⟨S16x4096x4x2x32, .f32⟩
  | 47 => ⟨S16x4096x4x2x32, .f32⟩
  | 48 => ⟨S1x4096x1x1x32, .f32⟩
  | 49 => ⟨S16x4096x4x2x32, .f32⟩
  | 50 => ⟨S16x4096x4x2x32, .f32⟩
  | 51 => ⟨S16x4096x4x2x32, .f32⟩
  | 52 => ⟨S1x4096x1x1x32, .f32⟩
  | 53 => ⟨S16x4096x4x2x32, .f32⟩
  | 54 => ⟨S16x4096x4x2x32, .f32⟩
  | 55 => ⟨S1x4096x1x1x32, .f32⟩
  | 56 => ⟨S16x4096x4x2x32, .f32⟩
  | 57 => ⟨S16x4096x4x2x32, .f32⟩
  | 58 => ⟨S16x4096x4x2x32, .f32⟩
  | 59 => ⟨S16x4096x4x2x64, .f32⟩
  | 60 => ⟨S16x16384x2x2x32, .f32⟩
  | 61 => ⟨S16x16384x2x2x32, .f32⟩
  | 62 => ⟨S16x4096x512, .f32⟩
  | 63 => ⟨S16x4096x512, .bf16⟩
  | 64 => ⟨S16x4096x512, .bf16⟩
  | 65 => ⟨S16x4096x512, .f32⟩
  | 66 => ⟨S16x4096x512, .bf16⟩
  | 67 => ⟨S16x4096x512, .f32⟩
  | 68 => ⟨S16x4096x512, .bf16⟩
  | 69 => ⟨S16x4096x512, .bf16⟩
  | 70 => ⟨S16x4096x512, .bf16⟩
  | 71 => ⟨S_, .i32⟩
  | 72 => ⟨S_, .f32⟩
  | 73 => ⟨S16x4096x128, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_2 : Ref sig .tc := ⟨.hbm, 74, rfl⟩
abbrev main_v57 : Ref sig .tc := ⟨.hbm, 75, rfl⟩
abbrev main_v58 : Ref sig .tc := ⟨.hbm, 76, rfl⟩
abbrev main_cst_3 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_4 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_5 : Ref sig .tc := ⟨.hbm, 88, rfl⟩
abbrev main_v68 : Ref sig .tc := ⟨.hbm, 89, rfl⟩
abbrev main_v69 : Ref sig .tc := ⟨.hbm, 90, rfl⟩
abbrev main_cst_6 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_7 : Ref sig .tc := ⟨.hbm, 99, rfl⟩
abbrev main_v77 : Ref sig .tc := ⟨.hbm, 100, rfl⟩
abbrev main_v78 : Ref sig .tc := ⟨.hbm, 101, rfl⟩
abbrev main_cst_8 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_9 : Ref sig .tc := ⟨.hbm, 106, rfl⟩
abbrev main_v82 : Ref sig .tc := ⟨.hbm, 107, rfl⟩
abbrev main_v83 : Ref sig .tc := ⟨.hbm, 108, rfl⟩
abbrev main_cst_10 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_11 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_12 : Ref sig .tc := ⟨.hbm, 148, rfl⟩
abbrev main_v121 : Ref sig .tc := ⟨.hbm, 149, rfl⟩
abbrev main_v122 : Ref sig .tc := ⟨.hbm, 150, rfl⟩
abbrev main_cst_13 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_14 : Ref sig .tc := ⟨.hbm, 155, rfl⟩
abbrev main_v126 : Ref sig .tc := ⟨.hbm, 156, rfl⟩
abbrev main_v127 : Ref sig .tc := ⟨.hbm, 157, rfl⟩
abbrev main_cst_15 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_c_16 : Ref sig .tc := ⟨.hbm, 199, rfl⟩
abbrev main_call2_v0 : Ref sig .tc := ⟨.hbm, 200, rfl⟩
abbrev main_v168 : Ref sig .tc := ⟨.hbm, 201, rfl⟩

abbrev nD : Nat := 1
abbrev τ : Topo := Topo.v7x

variable {F : FTy → Type} [FloatOps F]
-- ==== Proof.Attn.Scalars.lean ====
/- The scalar quantities the attention kernel computes for one stream: a masked score, a row's maximum and the
   weighted sum of the exponentials below it; and the readings of the constants and integer masks. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.Attn

open Cert.KernelIdeal Cert.KernelIdeal.Gen Idealize.ShloMosaic Idealize.ShloMosaic.TcCoe

/-- The score of one query row against key `x`. -/
def score {n : ℕ} (q : Fin 128 → EReal) (k : Fin n → Fin 128 → EReal) (x : Fin n) : EReal := ∑ d, q d * k x d

/-- The score, minus infinity at the keys past position `b`. -/
def masked {n : ℕ} (q : Fin 128 → EReal) (k : Fin n → Fin 128 → EReal) (b : ℕ) (x : Fin n) : EReal :=
  if (x : ℕ) ≤ b then score q k x else ⊥

/-- The largest entry of a row. -/
def rowMax {n : ℕ} (f : Fin n → EReal) : EReal := Finset.univ.fold max ⊥ f

/-- The sum of the values `w`, each weighted by the power of two of its score less `μ`. -/
def weigh {n : ℕ} (f : Fin n → EReal) (μ : EReal) (w : Fin n → EReal) : EReal := ∑ x, Ideal.exp2 (f x - μ) * w x

/-- The value row with ones appended: column `l` of the value block, or one from column 128 on. -/
def withOne (v : Fin 128 → EReal) (l : Fin 256) : EReal := if h : (l : ℕ) < 128 then v ⟨l, h⟩ else 1

/-- The mask constant is minus infinity. -/
theorem mask_eq : Named.named (F := Ideal) κ "mask" (φ := .f32) 4048155338#32 = (⊥ : EReal) := by
  simp [Named.named, κ]

/-- The starting value of the row maxima is minus infinity. -/
theorem ninf_eq : Ideal.ofBits FTy.f32 4286578688#32 = (⊥ : EReal) := by
  simp [Ideal.ofBits, Ideal.ieee]

/-- The position test of the mask as a comparison of numbers. -/
theorem select_le {α : Type} (x y z : ℕ) (hx : x < 4096) (hy : y < 4096) (hz : z < 4096) (a b : α) :
    Scalar.select (IntOp.cmpi CmpIPredicate.sle (BitVec.ofNat 32 x) (IntOp.addi (BitVec.ofNat 32 y) (BitVec.ofNat 32 z))) a b
      = if x ≤ y + z then a else b := by
  have e : IntOp.addi (BitVec.ofNat 32 y) (BitVec.ofNat 32 z) = BitVec.ofNat 32 (y + z) := by
    simp [IntOp.addi, BitVec.ofNat_add]
  have h : (BitVec.ofNat 32 x).sle (BitVec.ofNat 32 (y + z)) = decide (x ≤ y + z) := by
    rw [BitVec.sle_eq_decide, BitVec.toInt_eq_toNat_of_lt, BitVec.toInt_eq_toNat_of_lt] <;>
      simp only [BitVec.toNat_ofNat]
    · rw [Nat.mod_eq_of_lt (by omega), Nat.mod_eq_of_lt (by omega)]
      exact decide_eq_decide.mpr (by omega)
    · omega
    · omega
  rw [e]
  by_cases hh : x ≤ y + z <;> simp [Scalar.select, IntOp.cmpi, h, hh]

end Cert.Attn

end
-- ==== Proof.Attn.Halves.lean ====
/- One stream's work on one block of keys, read at an entry: the row maximum and the weighted sums the kernel stores
   for each half of its diagonal block, at the four widths the mask leaves, and for a full block of the loop. -/
module

public import proofs.«01_k».proof.Proof.Attn.Scalars

@[expose] public section

set_option maxRecDepth 16384

noncomputable section

namespace Cert.Attn

open Cert.KernelIdeal Cert.KernelIdeal.Gen Idealize.ShloMosaic Idealize.ShloMosaic.TcCoe

/-- Two reads of one row at the same column are the same. -/
theorem exp_entry {n : ℕ} (f : Fin n → EReal) (μ : EReal) {a b : Fin n} (h : (a : ℕ) = b) :
    Ideal.exp2 (f a - μ) = Ideal.exp2 (f b - μ) := by rw [Fin.ext h]

variable (q : FVec Ideal S512x128 .bf16)

section W256
variable (kb vb : FVec Ideal S1x256x128 .bf16) (r : Fin 256)

/-- The masked scores of the upper half of an even tile. -/
def f256 : Fin 256 → EReal := masked (fun d => q (ix2 ⟨r, by omega⟩ d)) (fun x d => kb (ix3 0 x d)) (r + 0)

theorem score256 (x : Fin 256) : k0_pay126 (F := Ideal) (k0_pay121 q kb) (ix2 r x) = f256 q kb r x := by
  pointwise [k0_pay126, k0_pay121, k0_pay112]
  rw [mask_eq]; exact select_le _ _ _ (by omega) (by omega) (by omega) _ _

theorem max256 (l : Fin 128) : k0_pay127 (F := Ideal) (k0_pay121 q kb) (ix2 r l) = rowMax (f256 q kb r) := by
  pointwise [k0_pay127]
  rw [ninf_eq]; exact Finset.fold_congr fun x _ => score256 q kb r x

theorem acc256 (l : Fin 256) : k0_pay128 (F := Ideal) (k0_pay117 vb) (k0_pay121 q kb) (ix3 0 r l)
    = weigh (f256 q kb r) (rowMax (f256 q kb r)) fun x => withOne (fun d => vb (ix3 0 x d)) l := by
  pointwise [k0_pay128, k0_pay117, k0_pay116]
  rw [weigh, Fin.sum_univ_two_halves 128 128 rfl]
  refine congrArg₂ (· + ·) (Finset.sum_congr rfl fun x _ => Ideal.mul_congr ?_ rfl)
    (Finset.sum_congr rfl fun x _ => Ideal.mul_congr ?_ rfl)
  all_goals
    erw [score256, max256]
    exact exp_entry _ _ (by simp only [] <;> omega)
end W256

section W512
variable (kb vb : FVec Ideal S1x512x128 .bf16) (r : Fin 256)

/-- The masked scores of the lower half of an even tile. -/
def f512 : Fin 512 → EReal := masked (fun d => q (ix2 ⟨256 + r, by omega⟩ d)) (fun x d => kb (ix3 0 x d)) (r + 256)

theorem score512 (x : Fin 512) : k0_pay182 (F := Ideal) (k0_pay173 q (k0_pay164 kb)) (ix2 r x) = f512 q kb r x := by
  pointwise [k0_pay182, k0_pay173, k0_pay164]
  rw [mask_eq]; exact select_le _ _ _ (by omega) (by omega) (by omega) _ _

theorem max512 (l : Fin 128) : k0_pay183 (F := Ideal) (k0_pay173 q (k0_pay164 kb)) (ix2 r l) = rowMax (f512 q kb r) := by
  pointwise [k0_pay183]
  rw [ninf_eq]; exact Finset.fold_congr fun x _ => score512 q kb r x

theorem acc512 (l : Fin 256) : k0_pay184 (F := Ideal) (k0_pay169 vb) (k0_pay173 q (k0_pay164 kb)) (ix3 0 r l)
    = weigh (f512 q kb r) (rowMax (f512 q kb r)) fun x => withOne (fun d => vb (ix3 0 x d)) l := by
  pointwise [k0_pay184, k0_pay169, k0_pay168]
  refine Finset.sum_congr rfl fun x _ => congrArg₂ (· * ·) ?_ rfl
  repeat' split
  all_goals
    erw [score512, max512]
    exact exp_entry _ _ (by simp only [] <;> omega)
end W512

section W768
variable (kb vb : FVec Ideal S1x768x128 .bf16) (r : Fin 256)

/-- The masked scores of the upper half of an odd tile. -/
def f768 : Fin 768 → EReal := masked (fun d => q (ix2 ⟨r, by omega⟩ d)) (fun x d => kb (ix3 0 x d)) (r + 512)

theorem score768 (x : Fin 768) : k0_pay15 (F := Ideal) (k0_pay11 q kb) (ix2 r x) = f768 q kb r x := by
  pointwise [k0_pay15, k0_pay11, k0_pay2]
  rw [mask_eq]; exact select_le _ _ _ (by omega) (by omega) (by omega) _ _

theorem max768 (l : Fin 128) : k0_pay16 (F := Ideal) (k0_pay11 q kb) (ix2 r l) = rowMax (f768 q kb r) := by
  pointwise [k0_pay16]
  rw [ninf_eq]; exact Finset.fold_congr fun x _ => score768 q kb r x

theorem acc768 (l : Fin 256) : k0_pay17 (F := Ideal) (k0_pay7 vb) (k0_pay11 q kb) (ix3 0 r l)
    = weigh (f768 q kb r) (rowMax (f768 q kb r)) fun x => withOne (fun d => vb (ix3 0 x d)) l := by
  pointwise [k0_pay17, k0_pay7, k0_pay6]
  refine Finset.sum_congr rfl fun x _ => congrArg₂ (· * ·) ?_ rfl
  repeat' split
  all_goals
    erw [score768, max768]
    exact exp_entry _ _ (by simp only [] <;> omega)
end W768

section W1024
variable (kb vb : FVec Ideal S1x1024x128 .bf16) (r : Fin 256)

/-- The masked scores of the lower half of an odd tile. -/
def f1024 : Fin 1024 → EReal := masked (fun d => q (ix2 ⟨256 + r, by omega⟩ d)) (fun x d => kb (ix3 0 x d)) (r + 768)

theorem score1024 (x : Fin 1024) : k0_pay101 (F := Ideal) (k0_pay66 q (k0_pay57 kb)) (ix2 r x) = f1024 q kb r x := by
  pointwise [k0_pay101, k0_pay66, k0_pay57]
  rw [mask_eq]; exact select_le _ _ _ (by omega) (by omega) (by omega) _ _

theorem max1024 (l : Fin 128) : k0_pay102 (F := Ideal) (k0_pay66 q (k0_pay57 kb)) (ix2 r l) = rowMax (f1024 q kb r) := by
  pointwise [k0_pay102]
  rw [ninf_eq]; exact Finset.fold_congr fun x _ => score1024 q kb r x

theorem acc1024 (l : Fin 256) : k0_pay103 (F := Ideal) (k0_pay62 k0_pay61 vb) (k0_pay66 q (k0_pay57 kb)) (ix3 0 r l)
    = weigh (f1024 q kb r) (rowMax (f1024 q kb r)) fun x => withOne (fun d => vb (ix3 0 x d)) l := by
  pointwise [k0_pay103, k0_pay62, k0_pay61]
  refine Finset.sum_congr rfl fun x _ => congrArg₂ (· * ·) ?_ rfl
  repeat' split
  all_goals
    erw [score1024, max1024]
    exact exp_entry _ _ (by simp only [] <;> omega)
end W1024

section Step
variable (kb vb : FVec Ideal S1x1024x128 .bf16) (mo : FVec Ideal S1x512x128 .f32) (ao : FVec Ideal S1x512x256 .f32)
variable (r : Fin 512)

/-- The scores of a row against a full block of keys. -/
def fStep : Fin 1024 → EReal := score (fun d => q (ix2 r d)) (fun x d => kb (ix3 0 x d))

theorem scoreStep (x : Fin 1024) : k0_pay227 (F := Ideal) q kb (ix2 r x) = fStep q kb r x := by
  pointwise [k0_pay227, k0_pay218]
  rfl

theorem maxStep (l : Fin 128) : k0_pay232 (F := Ideal) (k0_pay227 q kb) mo (ix2 r l)
    = max (mo (ix3 0 r l)) (rowMax (fStep q kb r)) := by
  pointwise [k0_pay232, k0_pay231]
  rw [ninf_eq]; exact congrArg _ (Finset.fold_congr fun x _ => scoreStep q kb r x)

theorem accStep (μ : EReal) (hm : ∀ l : Fin 128, mo (ix3 0 r l) = μ) (l : Fin 256) :
    k0_pay233 (F := Ideal) (k0_pay223 vb) (k0_pay227 q kb) mo ao (ix3 0 r l)
      = Ideal.exp2 (μ - max μ (rowMax (fStep q kb r))) * ao (ix3 0 r l)
        + weigh (fStep q kb r) (max μ (rowMax (fStep q kb r))) fun x => withOne (fun d => vb (ix3 0 x d)) l := by
  pointwise [k0_pay233, k0_pay223, k0_pay222, k0_pay231]
  refine congrArg₂ (· + ·) (congrArg₂ (· * ·) ?_ rfl) (Finset.sum_congr rfl fun x _ => congrArg₂ (· * ·) ?_ rfl)
  · split <;> (erw [maxStep, hm]; rfl)
  · repeat' split
    all_goals
      erw [scoreStep, maxStep, hm]
      exact exp_entry _ _ (by simp only [] <;> omega)
end Step

end Cert.Attn

end
-- ==== Proof.Attn.Trip.lean ====
/- One trip of the kernel's loop over the full key blocks, read entry by entry: from the row maxima and weighted sums
   held before the trip to those held after it, for all eight streams at once. -/
module

public import proofs.«01_k».proof.Proof.Attn.Halves
public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe

/-- A key or value block read at a position and a column, zero outside it. -/
def at3 (X : S1x4096x512.Idx → EReal) (j d : ℕ) : EReal :=
  if h : j < 4096 ∧ d < 512 then X (ix3 0 ⟨j, h.1⟩ ⟨d, h.2⟩) else 0

/-- A load of a slab of positions and a head's columns, entry by entry. -/
theorem load_at3 {κ' : Kind} {sp : Space} (v : View sig κ' sp S1x4096x512 .bf16) (X : v.ty.Contents (Elt Ideal))
    (n o e : ℕ) (inb) (x : Fin n) (d : Fin 128) :
    v.readAt (Elt Ideal) (Rect.unit (s := S1x4096x512) ![0, o, e] ![1, n, 128] inb).toLoadRect X (ix3 0 x d)
      = at3 (v.read (Elt Ideal) X) (o + x) (e + d) := by
  have h1 : o + n ≤ 4096 := by have := inb 1; simpa using this
  have h2 : e + 128 ≤ 512 := by have := inb 2; simpa using this
  rw [at3, dif_pos ⟨by omega, by omega⟩]
  refine congrArg (v.read (Elt Ideal) X) (funext fun a => Fin.ext ?_)
  match a with
  | ⟨0, _⟩ => simp [LoadRect.idx, Rect.unit]
  | ⟨1, _⟩ => simp [LoadRect.idx, Rect.unit]
  | ⟨2, _⟩ => simp [LoadRect.idx, Rect.unit]

/-- An index of a one-slab shape is its row and column. -/
theorem exists_ix3 {n w : ℕ} (x : (⟨3, ![1, n, w]⟩ : Shape).Idx) : ∃ (r : Fin n) (l : Fin w), x = ix3 0 r l :=
  ⟨x 1, x 2, (eq_ix3 x).trans (by rw [show x 0 = (0 : Fin 1) from Fin.eq_zero _])⟩

/-- The entries of stream `s`'s slab of a scratch array sit at the array's rows `s`. -/
theorem slab_emb (w s : ℕ) (hs : s < 8) (inb) (r : Fin 512) (l : Fin w) :
    (Rect.unit (s := ⟨3, ![8, 512, w]⟩) ![s, 0, 0] ![1, 512, w] inb).emb (ix3 0 r l) = ix3 ⟨s, hs⟩ r l := by
  refine funext fun a => Fin.ext ?_
  match a with
  | ⟨0, _⟩ => simp [Rect.emb, LoadRect.idx, Rect.unit]
  | ⟨1, _⟩ => simp [Rect.emb, LoadRect.idx, Rect.unit]
  | ⟨2, _⟩ => simp [Rect.emb, LoadRect.idx, Rect.unit]

variable (Q : Fin 8 → FVec Ideal S512x128 .bf16) (K V : ℕ → ℕ → EReal) (o : ℕ)

/-- Stream `s`'s scores at row `r` against the block of keys that starts at position `o`. -/
def blockScores (s : Fin 8) (r : Fin 512) : Fin 1024 → EReal :=
  score (fun d => Q s (ix2 r d)) fun x d => K (o + x) ((s : ℕ) / 2 * 128 + d)

/-- The row maxima after a block. -/
def newM (M : S8x512x128.Idx → EReal) (y : S8x512x128.Idx) : EReal :=
  max (M y) (rowMax (blockScores Q K o (y 0) (y 1)))

/-- The weighted sums after a block. -/
def newA (M : S8x512x128.Idx → EReal) (A : S8x512x256.Idx → EReal) (y : S8x512x256.Idx) : EReal :=
  Ideal.exp2 (M (ix3 (y 0) (y 1) 0) - newM Q K o M (ix3 (y 0) (y 1) 0)) * A y
    + weigh (blockScores Q K o (y 0) (y 1)) (newM Q K o M (ix3 (y 0) (y 1) 0)) fun x =>
        withOne (fun d => V (o + x) ((y 0 : ℕ) / 2 * 128 + d)) (y 2)

/-- What the body stores of stream `s`'s maxima. -/
theorem piece_M {κ' : Kind} {sp : Space} (v : View sig κ' sp S8x512x128 .f32) (f : v.ty.Contents (Elt Ideal))
    (s : ℕ) (hs : s < 8) (inb) (q : FVec Ideal S512x128 .bf16) (hq : Q ⟨s, hs⟩ = q) (kb : FVec Ideal S1x1024x128 .bf16)
    (hk : ∀ (x : Fin 1024) (d : Fin 128), kb (ix3 0 x d) = K (o + x) (s / 2 * 128 + d)) (x : S1x512x128.Idx) :
    k0_pay234 (F := Ideal) (k0_pay232 (k0_pay227 q kb)
        (v.readAt (Elt Ideal) (Rect.unit (s := S8x512x128) ![s, 0, 0] S1x512x128.size inb).toLoadRect f)) x
      = newM Q K o (v.read (Elt Ideal) f) ((Rect.unit (s := S8x512x128) ![s, 0, 0] S1x512x128.size inb).emb x) := by
  obtain ⟨r, l, rfl⟩ : ∃ (r : Fin 512) (l : Fin 128), x = ix3 0 r l :=
    exists_ix3 x
  subst hq
  have e := slab_emb 128 s hs inb r l
  rw [show (Rect.unit (s := S8x512x128) ![s, 0, 0] S1x512x128.size inb).emb (ix3 0 r l) = ix3 ⟨s, hs⟩ r l from e]
  pointwise [k0_pay234]
  refine (maxStep _ _ _ r l).trans (congrArg₂ max (congrArg (v.read (Elt Ideal) f) e) (congrArg rowMax ?_))
  funext x
  unfold fStep blockScores score
  exact Finset.sum_congr rfl fun d _ => Ideal.mul_congr rfl (hk x d)

/-- What the body stores of stream `s`'s weighted sums. -/
theorem piece_A {κ' : Kind} {sp : Space} (v : View sig κ' sp S8x512x128 .f32) (f : v.ty.Contents (Elt Ideal))
    (v' : View sig κ' sp S8x512x256 .f32) (f' : v'.ty.Contents (Elt Ideal))
    (hM : ∀ (s : Fin 8) (r : Fin 512) (l : Fin 128), v.read (Elt Ideal) f (ix3 s r l) = v.read (Elt Ideal) f (ix3 s r 0))
    (s : ℕ) (hs : s < 8) (inb inb') (q : FVec Ideal S512x128 .bf16) (hq : Q ⟨s, hs⟩ = q)
    (kb vb : FVec Ideal S1x1024x128 .bf16)
    (hk : ∀ (x : Fin 1024) (d : Fin 128), kb (ix3 0 x d) = K (o + x) (s / 2 * 128 + d))
    (hv : ∀ (x : Fin 1024) (d : Fin 128), vb (ix3 0 x d) = V (o + x) (s / 2 * 128 + d)) (x : S1x512x256.Idx) :
    k0_pay233 (F := Ideal) (k0_pay223 vb) (k0_pay227 q kb)
        (v.readAt (Elt Ideal) (Rect.unit (s := S8x512x128) ![s, 0, 0] S1x512x128.size inb).toLoadRect f)
        (v'.readAt (Elt Ideal) (Rect.unit (s := S8x512x256) ![s, 0, 0] S1x512x256.size inb').toLoadRect f') x
      = newA Q K V o (v.read (Elt Ideal) f) (v'.read (Elt Ideal) f')
          ((Rect.unit (s := S8x512x256) ![s, 0, 0] S1x512x256.size inb').emb x) := by
  obtain ⟨r, l, rfl⟩ : ∃ (r : Fin 512) (l : Fin 256), x = ix3 0 r l :=
    exists_ix3 x
  subst hq
  have e := slab_emb 256 s hs inb' r l
  rw [show (Rect.unit (s := S8x512x256) ![s, 0, 0] S1x512x256.size inb').emb (ix3 0 r l) = ix3 ⟨s, hs⟩ r l from e]
  have hf : fStep (Q ⟨s, hs⟩) kb r = blockScores Q K o ⟨s, hs⟩ r := by
    funext x
    unfold fStep blockScores score
    exact Finset.sum_congr rfl fun d _ => Ideal.mul_congr rfl (hk x d)
  refine (accStep _ _ _ _ _ r (v.read (Elt Ideal) f (ix3 ⟨s, hs⟩ r 0)) (fun l => ?_) l).trans ?_
  · exact (congrArg (v.read (Elt Ideal) f) (slab_emb 128 s hs inb r l)).trans (hM _ _ _)
  · rw [hf]
    refine congrArg₂ (· + ·) (congrArg₂ (· * ·) rfl (congrArg (v'.read (Elt Ideal) f') e)) ?_
    refine Finset.sum_congr rfl fun x _ => congrArg₂ (· * ·) rfl ?_
    exact congrArg (fun w => withOne w l) (funext fun d => hv x d)

end Cert.Attn

end
-- ==== Proof.Attn.Held.lean ====
/- What the scratch arrays hold between key blocks: each row's running maximum is some real number, and its sums are the
   sums over the keys taken so far, weighed by powers of two relative to that number. -/
module

public import proofs.«01_k».proof.Proof.Attn.Trip

@[expose] public section

noncomputable section

namespace Cert.Attn

open Cert.KernelIdeal Cert.KernelIdeal.Gen Idealize.ShloMosaic Idealize.ShloMosaic.TcCoe

/-- A maximum over entries that are real or `⊥`, one of them real, is real. -/
theorem rowMax_real {n : ℕ} (f : Fin n → EReal) (hf : ∀ x, f x = ⊥ ∨ ∃ a : ℝ, f x = a) (x₀ : Fin n) (a₀ : ℝ)
    (h₀ : f x₀ = a₀) : ∃ μ : ℝ, rowMax f = μ := by
  have hs : rowMax f = Finset.univ.sup f := rfl
  obtain ⟨x, -, hx⟩ := Finset.exists_mem_eq_sup Finset.univ ⟨x₀, Finset.mem_univ _⟩ f
  have hle : f x₀ ≤ Finset.univ.sup f := Finset.le_sup (Finset.mem_univ _)
  rw [hs, hx]
  rcases hf x with h | h
  · rw [hx, h, h₀] at hle
    exact absurd (le_bot_iff.mp hle) (EReal.coe_ne_bot _)
  · exact h

/-- Sums of reals are real. -/
theorem sum_real {ι : Type*} (s : Finset ι) (g : ι → ℝ) : ∑ x ∈ s, (g x : EReal) = ((∑ x ∈ s, g x : ℝ) : EReal) := by
  classical
  induction s using Finset.induction_on with
  | empty => rfl
  | insert a s ha ih => rw [Finset.sum_insert ha, Finset.sum_insert ha, ih, EReal.coe_add]

/-- Scores of real queries and keys are real. -/
theorem score_real {n : ℕ} (q : Fin 128 → ℝ) (k : Fin n → Fin 128 → ℝ) (x : Fin n) :
    score (fun d => (q d : EReal)) (fun x d => (k x d : EReal)) x = ((∑ d, q d * k x d : ℝ) : EReal) := by
  unfold score
  rw [← sum_real]
  exact Finset.sum_congr rfl fun d _ => (EReal.coe_mul _ _).symm

/-- A weighted sum over scores that are `⊥` beyond a bound keeps the terms up to it. -/
theorem weigh_real {n : ℕ} (b o : ℕ) (hb : b < n) (g w : ℕ → ℝ) (μ : ℝ) :
    weigh (fun x : Fin n => if (x : ℕ) ≤ b then (g (o + x) : EReal) else ⊥) μ (fun x => (w (o + x) : EReal))
      = ((∑ j ∈ Finset.Ico o (o + b + 1), (2 : ℝ) ^ (g j - μ) * w j : ℝ) : EReal) := by
  have h (x : Fin n) : Ideal.exp2 ((if (x : ℕ) ≤ b then (g (o + x) : EReal) else ⊥) - μ) * (w (o + x) : EReal)
      = (((if (x : ℕ) ≤ b then (2 : ℝ) ^ (g (o + x) - μ) * w (o + x) else 0 : ℝ)) : EReal) := by
    split
    · rw [← EReal.coe_sub, Ideal.exp2_coe, ← EReal.coe_mul]; rfl
    · rw [EReal.bot_sub, show Ideal.exp2 ⊥ = 0 from rfl, zero_mul]; rfl
  unfold weigh
  rw [Finset.sum_congr rfl fun x _ => h x, sum_real,
    Fin.sum_univ_eq_sum_range (fun j => if j ≤ b then (2 : ℝ) ^ (g (o + j) - μ) * w (o + j) else 0) n,
    Finset.sum_Ico_eq_sum_range, ← Finset.sum_filter]
  refine congrArg _ (Finset.sum_congr (Finset.ext fun j => ?_) fun _ _ => rfl)
  simp only [Finset.mem_filter, Finset.mem_range]
  omega

/-- A row of values followed by ones. -/
def ones (v : Fin 128 → ℝ) (l : Fin 256) : ℝ := if h : (l : ℕ) < 128 then v ⟨l, h⟩ else 1

theorem withOne_real (v : Fin 128 → ℝ) (l : Fin 256) : withOne (fun d => (v d : EReal)) l = (ones v l : EReal) := by
  unfold withOne ones; split <;> rfl

section
variable (q : Fin 8 → Fin 512 → Fin 128 → ℝ) (kk vv : ℕ → ℕ → ℝ)

/-- Stream `s`'s real score of row `r` against key `j`. -/
def sc (s : Fin 8) (r : Fin 512) (j : ℕ) : ℝ := ∑ d : Fin 128, q s r d * kk j ((s : ℕ) / 2 * 128 + d)

/-- Stream `s`'s value entry of key `j`, with the ones that count the weights. -/
def vl (s : Fin 8) (l : Fin 256) (j : ℕ) : ℝ := ones (fun d => vv j ((s : ℕ) / 2 * 128 + d)) l

/-- The sum over the keys `P`, weighed relative to `μ`. -/
def part (s : Fin 8) (r : Fin 512) (l : Fin 256) (P : Finset ℕ) (μ : ℝ) : ℝ :=
  ∑ j ∈ P, (2 : ℝ) ^ (sc q kk s r j - μ) * vl vv s l j

/-- The arrays hold the keys `P r` of every row `r`. -/
def Held (P : Fin 512 → Finset ℕ) (M : S8x512x128.Idx → EReal) (A : S8x512x256.Idx → EReal) : Prop :=
  ∀ (s : Fin 8) (r : Fin 512), ∃ μ : ℝ, (∀ l, M (ix3 s r l) = (μ : EReal)) ∧
    ∀ l, A (ix3 s r l) = (part q kk vv s r l (P r) μ : EReal)

theorem Held.lane {P : Fin 512 → Finset ℕ} {M : S8x512x128.Idx → EReal} {A : S8x512x256.Idx → EReal}
    (h : Held q kk vv P M A) (s : Fin 8) (r : Fin 512) (l : Fin 128) : M (ix3 s r l) = M (ix3 s r 0) := by
  obtain ⟨μ, hμ, -⟩ := h s r
  rw [hμ, hμ]

/-- Changing the number the weights are relative to. -/
theorem part_shift (s : Fin 8) (r : Fin 512) (l : Fin 256) (P : Finset ℕ) (μ ν : ℝ) :
    (2 : ℝ) ^ (μ - ν) * part q kk vv s r l P μ = part q kk vv s r l P ν := by
  unfold part
  rw [Finset.mul_sum]
  refine Finset.sum_congr rfl fun j _ => ?_
  rw [← mul_assoc, ← Real.rpow_add (by norm_num)]
  congr 2; ring

variable (Q : Fin 8 → FVec Ideal S512x128 .bf16) (K V : ℕ → ℕ → EReal)
variable (hQ : ∀ s r d, Q s (ix2 r d) = (q s r d : EReal)) (hK : ∀ j e, K j e = (kk j e : EReal))
variable (hV : ∀ j e, V j e = (vv j e : EReal))
include hQ hK

theorem masked_real {n : ℕ} (s : Fin 8) (r : Fin 512) (o b : ℕ) (x : Fin n) :
    masked (fun d => Q s (ix2 r d)) (fun x d => K (o + (x : Fin n)) ((s : ℕ) / 2 * 128 + d)) b x
      = if (x : ℕ) ≤ b then (sc q kk s r (o + x) : EReal) else ⊥ := by
  simp only [masked, hQ, hK]
  rw [score_real (fun d => q s r d) (fun x d => kk (o + x) ((s : ℕ) / 2 * 128 + d))]
  rfl

theorem masked_max {n : ℕ} (s : Fin 8) (r : Fin 512) (o b : ℕ) (hn : 0 < n) :
    ∃ μ : ℝ, rowMax (masked (fun d => Q s (ix2 r d)) (fun (x : Fin n) d => K (o + x) ((s : ℕ) / 2 * 128 + d)) b) = μ := by
  refine rowMax_real _ (fun x => ?_) ⟨0, hn⟩ (sc q kk s r o) ?_
  · rw [masked_real q kk Q K hQ hK]
    split
    · exact Or.inr ⟨_, rfl⟩
    · exact Or.inl rfl
  · rw [masked_real q kk Q K hQ hK, if_pos (Nat.zero_le _)]
    rfl

include hV

theorem masked_weigh {n : ℕ} (s : Fin 8) (r : Fin 512) (l : Fin 256) (o b : ℕ) (hb : b < n) (μ : ℝ) :
    weigh (masked (fun d => Q s (ix2 r d)) (fun (x : Fin n) d => K (o + x) ((s : ℕ) / 2 * 128 + d)) b) μ
        (fun x => withOne (fun d => V (o + x) ((s : ℕ) / 2 * 128 + d)) l)
      = (part q kk vv s r l (Finset.Ico o (o + b + 1)) μ : EReal) := by
  simp only [hV, withOne_real]
  rw [show masked (fun d => Q s (ix2 r d)) (fun (x : Fin n) d => K (o + x) ((s : ℕ) / 2 * 128 + d)) b
    = _ from funext fun x => masked_real q kk Q K hQ hK s r o b x]
  exact weigh_real b o hb (sc q kk s r) (vl vv s l) μ

/-- One full block more. -/
theorem Held.step {P : Fin 512 → Finset ℕ} {M : S8x512x128.Idx → EReal} {A : S8x512x256.Idx → EReal} (o : ℕ)
    (h : Held q kk vv P M A) (hP : ∀ r, Disjoint (P r) (Finset.Ico o (o + 1024))) :
    Held q kk vv (fun r => P r ∪ Finset.Ico o (o + 1024)) (newM Q K o M) (newA Q K V o M A) := by
  intro s r
  obtain ⟨μ, hμ, hA⟩ := h s r
  have hb : blockScores Q K o s r
      = masked (fun d => Q s (ix2 r d)) (fun (x : Fin 1024) d => K (o + x) ((s : ℕ) / 2 * 128 + d)) 1023 :=
    funext fun x => (if_pos (by omega)).symm
  obtain ⟨ν, hν⟩ := masked_max q kk Q K hQ hK (n := 1024) s r o 1023 (by norm_num)
  have hm (l : Fin 128) : newM Q K o M (ix3 s r l) = ((max μ ν : ℝ) : EReal) := by
    show max (M (ix3 s r l)) (rowMax (blockScores Q K o s r)) = _
    rw [hμ, hb, hν]
    exact (EReal.coe_strictMono.monotone.map_max).symm
  refine ⟨max μ ν, hm, fun l => ?_⟩
  show Ideal.exp2 (M (ix3 s r 0) - newM Q K o M (ix3 s r 0)) * A (ix3 s r l)
    + weigh (blockScores Q K o s r) (newM Q K o M (ix3 s r 0)) (fun x =>
        withOne (fun d => V (o + x) ((s : ℕ) / 2 * 128 + d)) l) = _
  rw [hm, hμ, hA, hb, masked_weigh q kk vv Q K V hQ hK hV (n := 1024) s r l o 1023 (by norm_num), ← EReal.coe_sub,
    Ideal.exp2_coe, ← EReal.coe_mul, ← EReal.coe_add]
  refine congrArg _ ?_
  refine (congrArg₂ (· + ·) (part_shift q kk vv s r l (P r) μ (max μ ν)) rfl).trans ?_
  exact (Finset.sum_union (hP r)).symm

end

end Cert.Attn

end
-- ==== Proof.Attn.Diag.lean ====
/- The diagonal block: what the kernel stores of it, half by half, is each row's maximum and weighted sums over the
   keys up to that row. -/
module

public import proofs.«01_k».proof.Proof.Attn.Held

@[expose] public section

set_option maxRecDepth 16384

noncomputable section

namespace Cert.Attn

open Cert.KernelIdeal Cert.KernelIdeal.Gen Idealize.ShloMosaic Idealize.ShloMosaic.TcCoe

/-- An even tile's diagonal block starts at the tile's first position. -/
theorem start_even (j : Fin 8) : (Scalar.indexCast (Scalar.muli (BitVec.ofNat 32 j) 512#32)).toNat = j * 512 := by
  revert j; decide +kernel

/-- An odd tile's diagonal block starts one tile earlier. -/
theorem start_odd (j : Fin 8) (h : j.val % 2 = 1) :
    (Scalar.indexCast (Scalar.muli (Scalar.subi (BitVec.ofNat 32 j) 1#32) 512#32)).toNat = (j - 1) * 512 := by
  revert j; decide +kernel

/-- A load of a slab of positions and a head's columns, at offsets given as a vector. -/
theorem load_off {κ' : Kind} {sp : Space} (v : View sig κ' sp S1x4096x512 .bf16) (X : v.ty.Contents (Elt Ideal))
    (n o e : ℕ) (off : Fin 3 → ℕ) (h : off = ![0, o, e]) (inb) (x : Fin n) (d : Fin 128) :
    v.readAt (Elt Ideal) (Rect.unit (s := S1x4096x512) off ![1, n, 128] inb).toLoadRect X (ix3 0 x d)
      = at3 (v.read (Elt Ideal) X) (o + x) (e + d) := by
  subst h
  exact load_at3 v X n o e inb x d

/-- The entries of half a stream's slab of a scratch array. -/
theorem half_emb (w s r₀ : ℕ) (hs : s < 8) (hr : r₀ ≤ 256) (inb) (r : Fin 256) (l : Fin w) :
    (Rect.unit (s := ⟨3, ![8, 512, w]⟩) ![s, r₀, 0] ![1, 256, w] inb).emb (ix3 0 r l)
      = ix3 ⟨s, hs⟩ ⟨r₀ + r, by omega⟩ l := by
  refine funext fun a => Fin.ext ?_
  match a with
  | ⟨0, _⟩ => simp [Rect.emb, LoadRect.idx, Rect.unit]
  | ⟨1, _⟩ => simp [Rect.emb, LoadRect.idx, Rect.unit]
  | ⟨2, _⟩ => simp [Rect.emb, LoadRect.idx, Rect.unit]

section
variable (Q : Fin 8 → FVec Ideal S512x128 .bf16) (K V : ℕ → ℕ → EReal) (o n₁ n₂ off : ℕ)

/-- Stream `s`'s scores at row `r` against `n` keys from position `o`, kept up to the `b`-th. -/
def diagF (n b : ℕ) (s : Fin 8) (r : Fin 512) : Fin n → EReal :=
  masked (fun d => Q s (ix2 r d)) (fun x d => K (o + x) ((s : ℕ) / 2 * 128 + d)) b

/-- How many keys row `r` is scored against: `n₁` in the upper half, `n₂` in the lower one. -/
def width (r : ℕ) : ℕ := if r < 256 then n₁ else n₂

/-- The row maxima of the diagonal block. -/
def diagM (y : S8x512x128.Idx) : EReal :=
  rowMax (diagF Q K o (width n₁ n₂ (y 1)) ((y 1 : ℕ) + off) (y 0) (y 1))

/-- The weighted sums of the diagonal block. -/
def diagA (y : S8x512x256.Idx) : EReal :=
  weigh (diagF Q K o (width n₁ n₂ (y 1)) ((y 1 : ℕ) + off) (y 0) (y 1))
    (rowMax (diagF Q K o (width n₁ n₂ (y 1)) ((y 1 : ℕ) + off) (y 0) (y 1)))
    fun x => withOne (fun d => V (o + x) ((y 0 : ℕ) / 2 * 128 + d)) (y 2)

theorem diagF_eq {n b b' s : ℕ} (hs : s < 8) (r r' : Fin 512) (q : FVec Ideal S512x128 .bf16) (hq : Q ⟨s, hs⟩ = q)
    (kb : (⟨3, ![1, n, 128]⟩ : Shape).Idx → EReal)
    (hk : ∀ (x : Fin n) (d : Fin 128), kb (ix3 0 x d) = K (o + x) (s / 2 * 128 + d)) (hr : r = r') (hb : b = b') :
    masked (fun d => q (ix2 r d)) (fun (x : Fin n) d => kb (ix3 0 x d)) b = diagF Q K o n b' ⟨s, hs⟩ r' := by
  subst hq hr hb
  unfold diagF
  rw [show (fun (x : Fin n) (d : Fin 128) => kb (ix3 0 x d)) = _ from funext fun x => funext fun d => hk x d]

theorem row256 (s : ℕ) (hs : s < 8) (q : FVec Ideal S512x128 .bf16) (hq : Q ⟨s, hs⟩ = q) (kb : FVec Ideal S1x256x128 .bf16)
    (hk : ∀ (x : Fin 256) (d : Fin 128), kb (ix3 0 x d) = K (o + x) (s / 2 * 128 + d)) (r : Fin 256) :
    f256 q kb r = diagF Q K o 256 (0 + r + 0) ⟨s, hs⟩ ⟨0 + r, by omega⟩ :=
  diagF_eq Q K o hs _ _ q hq kb hk (Fin.ext (by simp)) (by omega)

theorem diagM256 (s : ℕ) (hs : s < 8) (inb) (q : FVec Ideal S512x128 .bf16) (hq : Q ⟨s, hs⟩ = q)
    (kb : FVec Ideal S1x256x128 .bf16)
    (hk : ∀ (x : Fin 256) (d : Fin 128), kb (ix3 0 x d) = K (o + x) (s / 2 * 128 + d)) (x : S1x256x128.Idx) :
    k0_pay129 (F := Ideal) (k0_pay121 q kb) x
      = diagM Q K o 256 n₂ 0 ((Rect.unit (s := S8x512x128) ![s, 0, 0] S1x256x128.size inb).emb x) := by
  obtain ⟨r, l, rfl⟩ : ∃ (r : Fin 256) (l : Fin 128), x = ix3 0 r l := exists_ix3 x
  rw [show (Rect.unit (s := S8x512x128) ![s, 0, 0] S1x256x128.size inb).emb (ix3 0 r l)
    = ix3 ⟨s, hs⟩ ⟨0 + r, by omega⟩ l from half_emb 128 s 0 hs (by omega) inb r l]
  have hw : width 256 n₂ (0 + r) = 256 := if_pos (by omega)
  refine Eq.trans (b := k0_pay127 (F := Ideal) (k0_pay121 q kb) (ix2 r l)) (by pointwise [k0_pay129]) ((max256 q kb r l).trans ?_)
  rw [row256 Q K o s hs q hq kb hk r]
  show _ = rowMax (diagF Q K o (width 256 n₂ (0 + r)) (0 + r + 0) ⟨s, hs⟩ ⟨0 + r, _⟩)
  rw [hw]

theorem diagA256 (s : ℕ) (hs : s < 8) (inb) (q : FVec Ideal S512x128 .bf16) (hq : Q ⟨s, hs⟩ = q)
    (kb vb : FVec Ideal S1x256x128 .bf16)
    (hk : ∀ (x : Fin 256) (d : Fin 128), kb (ix3 0 x d) = K (o + x) (s / 2 * 128 + d))
    (hv : ∀ (x : Fin 256) (d : Fin 128), vb (ix3 0 x d) = V (o + x) (s / 2 * 128 + d)) (x : S1x256x256.Idx) :
    k0_pay128 (F := Ideal) (k0_pay117 vb) (k0_pay121 q kb) x
      = diagA Q K V o 256 n₂ 0 ((Rect.unit (s := S8x512x256) ![s, 0, 0] S1x256x256.size inb).emb x) := by
  obtain ⟨r, l, rfl⟩ : ∃ (r : Fin 256) (l : Fin 256), x = ix3 0 r l := exists_ix3 x
  rw [show (Rect.unit (s := S8x512x256) ![s, 0, 0] S1x256x256.size inb).emb (ix3 0 r l)
    = ix3 ⟨s, hs⟩ ⟨0 + r, by omega⟩ l from half_emb 256 s 0 hs (by omega) inb r l]
  have hw : width 256 n₂ (0 + r) = 256 := if_pos (by omega)
  refine (acc256 q kb vb r l).trans ?_
  rw [row256 Q K o s hs q hq kb hk r]
  show _ = weigh (diagF Q K o (width 256 n₂ (0 + r)) (0 + r + 0) ⟨s, hs⟩ ⟨0 + r, _⟩)
    (rowMax (diagF Q K o (width 256 n₂ (0 + r)) (0 + r + 0) ⟨s, hs⟩ ⟨0 + r, _⟩))
    fun x => withOne (fun d => V (o + x) (s / 2 * 128 + d)) l
  rw [hw]
  simp only [hv]

theorem row512 (s : ℕ) (hs : s < 8) (q : FVec Ideal S512x128 .bf16) (hq : Q ⟨s, hs⟩ = q) (kb : FVec Ideal S1x512x128 .bf16)
    (hk : ∀ (x : Fin 512) (d : Fin 128), kb (ix3 0 x d) = K (o + x) (s / 2 * 128 + d)) (r : Fin 256) :
    f512 q kb r = diagF Q K o 512 (256 + r + 0) ⟨s, hs⟩ ⟨256 + r, by omega⟩ :=
  diagF_eq Q K o hs _ _ q hq kb hk (Fin.ext (by simp)) (by omega)

theorem diagM512 (s : ℕ) (hs : s < 8) (inb) (q : FVec Ideal S512x128 .bf16) (hq : Q ⟨s, hs⟩ = q)
    (kb : FVec Ideal S1x512x128 .bf16)
    (hk : ∀ (x : Fin 512) (d : Fin 128), kb (ix3 0 x d) = K (o + x) (s / 2 * 128 + d)) (x : S1x256x128.Idx) :
    k0_pay185 (F := Ideal) (k0_pay173 q (k0_pay164 kb)) x
      = diagM Q K o n₁ 512 0 ((Rect.unit (s := S8x512x128) ![s, 256, 0] S1x256x128.size inb).emb x) := by
  obtain ⟨r, l, rfl⟩ : ∃ (r : Fin 256) (l : Fin 128), x = ix3 0 r l := exists_ix3 x
  rw [show (Rect.unit (s := S8x512x128) ![s, 256, 0] S1x256x128.size inb).emb (ix3 0 r l)
    = ix3 ⟨s, hs⟩ ⟨256 + r, by omega⟩ l from half_emb 128 s 256 hs (by omega) inb r l]
  have hw : width n₁ 512 (256 + r) = 512 := if_neg (by omega)
  refine Eq.trans (b := k0_pay183 (F := Ideal) (k0_pay173 q (k0_pay164 kb)) (ix2 r l)) (by pointwise [k0_pay185]) ((max512 q kb r l).trans ?_)
  rw [row512 Q K o s hs q hq kb hk r]
  show _ = rowMax (diagF Q K o (width n₁ 512 (256 + r)) (256 + r + 0) ⟨s, hs⟩ ⟨256 + r, _⟩)
  rw [hw]

theorem diagA512 (s : ℕ) (hs : s < 8) (inb) (q : FVec Ideal S512x128 .bf16) (hq : Q ⟨s, hs⟩ = q)
    (kb vb : FVec Ideal S1x512x128 .bf16)
    (hk : ∀ (x : Fin 512) (d : Fin 128), kb (ix3 0 x d) = K (o + x) (s / 2 * 128 + d))
    (hv : ∀ (x : Fin 512) (d : Fin 128), vb (ix3 0 x d) = V (o + x) (s / 2 * 128 + d)) (x : S1x256x256.Idx) :
    k0_pay184 (F := Ideal) (k0_pay169 vb) (k0_pay173 q (k0_pay164 kb)) x
      = diagA Q K V o n₁ 512 0 ((Rect.unit (s := S8x512x256) ![s, 256, 0] S1x256x256.size inb).emb x) := by
  obtain ⟨r, l, rfl⟩ : ∃ (r : Fin 256) (l : Fin 256), x = ix3 0 r l := exists_ix3 x
  rw [show (Rect.unit (s := S8x512x256) ![s, 256, 0] S1x256x256.size inb).emb (ix3 0 r l)
    = ix3 ⟨s, hs⟩ ⟨256 + r, by omega⟩ l from half_emb 256 s 256 hs (by omega) inb r l]
  have hw : width n₁ 512 (256 + r) = 512 := if_neg (by omega)
  refine (acc512 q kb vb r l).trans ?_
  rw [row512 Q K o s hs q hq kb hk r]
  show _ = weigh (diagF Q K o (width n₁ 512 (256 + r)) (256 + r + 0) ⟨s, hs⟩ ⟨256 + r, _⟩)
    (rowMax (diagF Q K o (width n₁ 512 (256 + r)) (256 + r + 0) ⟨s, hs⟩ ⟨256 + r, _⟩))
    fun x => withOne (fun d => V (o + x) (s / 2 * 128 + d)) l
  rw [hw]
  simp only [hv]

theorem row768 (s : ℕ) (hs : s < 8) (q : FVec Ideal S512x128 .bf16) (hq : Q ⟨s, hs⟩ = q) (kb : FVec Ideal S1x768x128 .bf16)
    (hk : ∀ (x : Fin 768) (d : Fin 128), kb (ix3 0 x d) = K (o + x) (s / 2 * 128 + d)) (r : Fin 256) :
    f768 q kb r = diagF Q K o 768 (0 + r + 512) ⟨s, hs⟩ ⟨0 + r, by omega⟩ :=
  diagF_eq Q K o hs _ _ q hq kb hk (Fin.ext (by simp)) (by omega)

theorem diagM768 (s : ℕ) (hs : s < 8) (inb) (q : FVec Ideal S512x128 .bf16) (hq : Q ⟨s, hs⟩ = q)
    (kb : FVec Ideal S1x768x128 .bf16)
    (hk : ∀ (x : Fin 768) (d : Fin 128), kb (ix3 0 x d) = K (o + x) (s / 2 * 128 + d)) (x : S1x256x128.Idx) :
    k0_pay18 (F := Ideal) (k0_pay11 q kb) x
      = diagM Q K o 768 n₂ 512 ((Rect.unit (s := S8x512x128) ![s, 0, 0] S1x256x128.size inb).emb x) := by
  obtain ⟨r, l, rfl⟩ : ∃ (r : Fin 256) (l : Fin 128), x = ix3 0 r l := exists_ix3 x
  rw [show (Rect.unit (s := S8x512x128) ![s, 0, 0] S1x256x128.size inb).emb (ix3 0 r l)
    = ix3 ⟨s, hs⟩ ⟨0 + r, by omega⟩ l from half_emb 128 s 0 hs (by omega) inb r l]
  have hw : width 768 n₂ (0 + r) = 768 := if_pos (by omega)
  refine Eq.trans (b := k0_pay16 (F := Ideal) (k0_pay11 q kb) (ix2 r l)) (by pointwise [k0_pay18]) ((max768 q kb r l).trans ?_)
  rw [row768 Q K o s hs q hq kb hk r]
  show _ = rowMax (diagF Q K o (width 768 n₂ (0 + r)) (0 + r + 512) ⟨s, hs⟩ ⟨0 + r, _⟩)
  rw [hw]

theorem diagA768 (s : ℕ) (hs : s < 8) (inb) (q : FVec Ideal S512x128 .bf16) (hq : Q ⟨s, hs⟩ = q)
    (kb vb : FVec Ideal S1x768x128 .bf16)
    (hk : ∀ (x : Fin 768) (d : Fin 128), kb (ix3 0 x d) = K (o + x) (s / 2 * 128 + d))
    (hv : ∀ (x : Fin 768) (d : Fin 128), vb (ix3 0 x d) = V (o + x) (s / 2 * 128 + d)) (x : S1x256x256.Idx) :
    k0_pay17 (F := Ideal) (k0_pay7 vb) (k0_pay11 q kb) x
      = diagA Q K V o 768 n₂ 512 ((Rect.unit (s := S8x512x256) ![s, 0, 0] S1x256x256.size inb).emb x) := by
  obtain ⟨r, l, rfl⟩ : ∃ (r : Fin 256) (l : Fin 256), x = ix3 0 r l := exists_ix3 x
  rw [show (Rect.unit (s := S8x512x256) ![s, 0, 0] S1x256x256.size inb).emb (ix3 0 r l)
    = ix3 ⟨s, hs⟩ ⟨0 + r, by omega⟩ l from half_emb 256 s 0 hs (by omega) inb r l]
  have hw : width 768 n₂ (0 + r) = 768 := if_pos (by omega)
  refine (acc768 q kb vb r l).trans ?_
  rw [row768 Q K o s hs q hq kb hk r]
  show _ = weigh (diagF Q K o (width 768 n₂ (0 + r)) (0 + r + 512) ⟨s, hs⟩ ⟨0 + r, _⟩)
    (rowMax (diagF Q K o (width 768 n₂ (0 + r)) (0 + r + 512) ⟨s, hs⟩ ⟨0 + r, _⟩))
    fun x => withOne (fun d => V (o + x) (s / 2 * 128 + d)) l
  rw [hw]
  simp only [hv]

theorem row1024 (s : ℕ) (hs : s < 8) (q : FVec Ideal S512x128 .bf16) (hq : Q ⟨s, hs⟩ = q) (kb : FVec Ideal S1x1024x128 .bf16)
    (hk : ∀ (x : Fin 1024) (d : Fin 128), kb (ix3 0 x d) = K (o + x) (s / 2 * 128 + d)) (r : Fin 256) :
    f1024 q kb r = diagF Q K o 1024 (256 + r + 512) ⟨s, hs⟩ ⟨256 + r, by omega⟩ :=
  diagF_eq Q K o hs _ _ q hq kb hk (Fin.ext (by simp)) (by omega)

theorem diagM1024 (s : ℕ) (hs : s < 8) (inb) (q : FVec Ideal S512x128 .bf16) (hq : Q ⟨s, hs⟩ = q)
    (kb : FVec Ideal S1x1024x128 .bf16)
    (hk : ∀ (x : Fin 1024) (d : Fin 128), kb (ix3 0 x d) = K (o + x) (s / 2 * 128 + d)) (x : S1x256x128.Idx) :
    k0_pay50 (F := Ideal) (k0_pay102 (k0_pay66 q (k0_pay57 kb))) x
      = diagM Q K o n₁ 1024 512 ((Rect.unit (s := S8x512x128) ![s, 256, 0] S1x256x128.size inb).emb x) := by
  obtain ⟨r, l, rfl⟩ : ∃ (r : Fin 256) (l : Fin 128), x = ix3 0 r l := exists_ix3 x
  rw [show (Rect.unit (s := S8x512x128) ![s, 256, 0] S1x256x128.size inb).emb (ix3 0 r l)
    = ix3 ⟨s, hs⟩ ⟨256 + r, by omega⟩ l from half_emb 128 s 256 hs (by omega) inb r l]
  have hw : width n₁ 1024 (256 + r) = 1024 := if_neg (by omega)
  refine Eq.trans (b := k0_pay102 (F := Ideal) (k0_pay66 q (k0_pay57 kb)) (ix2 r l)) (by pointwise [k0_pay50]) ((max1024 q kb r l).trans ?_)
  rw [row1024 Q K o s hs q hq kb hk r]
  show _ = rowMax (diagF Q K o (width n₁ 1024 (256 + r)) (256 + r + 512) ⟨s, hs⟩ ⟨256 + r, _⟩)
  rw [hw]

theorem diagA1024 (s : ℕ) (hs : s < 8) (inb) (q : FVec Ideal S512x128 .bf16) (hq : Q ⟨s, hs⟩ = q)
    (kb vb : FVec Ideal S1x1024x128 .bf16)
    (hk : ∀ (x : Fin 1024) (d : Fin 128), kb (ix3 0 x d) = K (o + x) (s / 2 * 128 + d))
    (hv : ∀ (x : Fin 1024) (d : Fin 128), vb (ix3 0 x d) = V (o + x) (s / 2 * 128 + d)) (x : S1x256x256.Idx) :
    k0_pay103 (F := Ideal) (k0_pay62 k0_pay61 vb) (k0_pay66 q (k0_pay57 kb)) x
      = diagA Q K V o n₁ 1024 512 ((Rect.unit (s := S8x512x256) ![s, 256, 0] S1x256x256.size inb).emb x) := by
  obtain ⟨r, l, rfl⟩ : ∃ (r : Fin 256) (l : Fin 256), x = ix3 0 r l := exists_ix3 x
  rw [show (Rect.unit (s := S8x512x256) ![s, 256, 0] S1x256x256.size inb).emb (ix3 0 r l)
    = ix3 ⟨s, hs⟩ ⟨256 + r, by omega⟩ l from half_emb 256 s 256 hs (by omega) inb r l]
  have hw : width n₁ 1024 (256 + r) = 1024 := if_neg (by omega)
  refine (acc1024 q kb vb r l).trans ?_
  rw [row1024 Q K o s hs q hq kb hk r]
  show _ = weigh (diagF Q K o (width n₁ 1024 (256 + r)) (256 + r + 512) ⟨s, hs⟩ ⟨256 + r, _⟩)
    (rowMax (diagF Q K o (width n₁ 1024 (256 + r)) (256 + r + 512) ⟨s, hs⟩ ⟨256 + r, _⟩))
    fun x => withOne (fun d => V (o + x) (s / 2 * 128 + d)) l
  rw [hw]
  simp only [hv]

variable (q : Fin 8 → Fin 512 → Fin 128 → ℝ) (kk vv : ℕ → ℕ → ℝ)
variable (hQ : ∀ s r d, Q s (ix2 r d) = (q s r d : EReal)) (hK : ∀ j e, K j e = (kk j e : EReal))
variable (hV : ∀ j e, V j e = (vv j e : EReal))
include hQ hK hV

/-- After the diagonal block every row holds the keys from the block's start up to the row. -/
theorem held_diag (hw : ∀ r : Fin 512, (r : ℕ) + off < width n₁ n₂ r) :
    Held q kk vv (fun r => Finset.Ico o (o + (r + off) + 1)) (diagM Q K o n₁ n₂ off) (diagA Q K V o n₁ n₂ off) := by
  intro s r
  obtain ⟨μ, hμ⟩ := masked_max q kk Q K hQ hK (n := width n₁ n₂ r) s r o (r + off) (lt_of_le_of_lt (Nat.zero_le _) (hw r))
  refine ⟨μ, fun _ => hμ, fun l => ?_⟩
  show weigh (diagF Q K o (width n₁ n₂ r) (r + off) s r) (rowMax (diagF Q K o (width n₁ n₂ r) (r + off) s r))
    (fun x => withOne (fun d => V (o + x) ((s : ℕ) / 2 * 128 + d)) l) = _
  unfold diagF
  rw [hμ]
  exact masked_weigh q kk vv Q K V hQ hK hV s r l o (r + off) (hw r) μ

end

end Cert.Attn

end
-- ==== Proof.Attn.Loop.lean ====
/- The kernel's loop over the full key blocks, trip by trip: the generated pieces of a trip are the eight streams' new
   maxima and sums. -/
module

public import proofs.«01_k».proof.Proof.Attn.Trip

@[expose] public section

set_option maxRecDepth 16384

noncomputable section

namespace Cert.Attn

open Cert.KernelIdeal Cert.KernelIdeal.Gen Idealize.ShloMosaic Idealize.ShloMosaic.TcCoe

/-- The number of full blocks before the diagonal one. -/
theorem trips_t1 (i : grid0.Coords) : (k0_t1_loop i).trips = (i 1).val / 2 := by
  have h : ∀ j : Fin 8, ∀ i : grid0.Coords, i 1 = j → (k0_t1_loop i).trips = j.val / 2 := by
    intro j i hi
    unfold k0_t1_loop
    rw [hi]
    clear hi i
    revert j; decide +kernel
  exact h _ i rfl

/-- The loop's remainder is empty. -/
theorem trips_t2 (i : grid0.Coords) : (k0_t2_loop i).trips = 0 := by
  have h : ∀ j : Fin 8, ∀ i : grid0.Coords, i 1 = j → (k0_t2_loop i).trips = 0 := by
    intro j i hi
    unfold k0_t2_loop
    rw [hi]
    clear hi i
    revert j; decide +kernel
  exact h _ i rfl

/-- Trip `k` starts at position `1024 k`. -/
theorem trip_start (k : ℕ) (hk : k < 4) :
    (Scalar.indexCast (Scalar.muli (Scf.iv 0#32 1#32 k) 1024#32)).toNat = k * 1024 := by
  revert k; decide +kernel

section
variable (𝒱 : Variants) (c : Dev nD) (bd : Option 𝒱.V) (i : grid0.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x512 .bf16) (harg7 : arg7.IsWhole) (arg8 : Memref sig .tc .vmem S8x512x128 .f32) (harg8 : arg8.IsWhole) (arg9 : Memref sig .tc .vmem S8x512x256 .f32) (harg9 : arg9.IsWhole) (arg1 : BitVec 32) (v24 : FVec Ideal S512x128 .bf16) (v27 : FVec Ideal S512x128 .bf16) (v33 : FVec Ideal S512x128 .bf16) (v36 : FVec Ideal S512x128 .bf16) (v42 : FVec Ideal S512x128 .bf16) (v45 : FVec Ideal S512x128 .bf16) (v51 : FVec Ideal S512x128 .bf16) (v54 : FVec Ideal S512x128 .bf16) (v78 : BitVec 1) (X_arg3 : BufTy.Contents (Elt Ideal) arg3.view.ty) (X_arg4 : BufTy.Contents (Elt Ideal) arg4.view.ty)
variable (f8 : BufTy.Contents (Elt Ideal) arg8.view.ty) (f9 : BufTy.Contents (Elt Ideal) arg9.view.ty)

/-- The eight streams' queries, in order. -/
abbrev qs : Fin 8 → FVec Ideal S512x128 .bf16 := ![v24, v27, v33, v36, v42, v45, v51, v54]

theorem trip_M (k : Fin (k0_t1_loop i).trips) :
    arg8.view.read (Elt Ideal) (arg8.view.writes (Elt Ideal) f8 ((trip_k0_t1 (F := Ideal) 𝒱 c bd i arg2 harg2 arg3 harg3 arg4 harg4 arg5 harg5 arg6 harg6 arg7 harg7 arg8 harg8 arg9 harg9 arg1 v24 v27 v33 v36 v42 v45 v51 v54 v78 X_arg3 X_arg4 k).1 f8 f9))
      = newM (qs v24 v27 v33 v36 v42 v45 v51 v54) (at3 (arg3.view.read (Elt Ideal) X_arg3)) (k * 1024)
          (arg8.view.read (Elt Ideal) f8) := by
  have hk : k.val < 4 := by
    have h1 : k.val < (i 1).val / 2 := trips_t1 i ▸ k.isLt
    have h2 : (i 1).val < 8 := (i 1).isLt
    omega
  have ho := trip_start k hk
  have hk' (e : ℕ) (inb) (x : Fin 1024) (d : Fin 128) :
      arg3.view.readAt (Elt Ideal) (Rect.unit (s := S1x4096x512)
          ![0, (Scalar.indexCast (Scalar.muli (Scf.iv 0#32 1#32 k) 1024#32)).toNat, e] ![1, 1024, 128] inb).toLoadRect
          X_arg3 (ix3 0 x d) = at3 (arg3.view.read (Elt Ideal) X_arg3) (k * 1024 + x) (e + d) :=
    (load_at3 arg3.view X_arg3 1024 _ e inb x d).trans (by rw [ho])
  refine funext fun y => ?_
  have hc := View.cover_of_tiledL ((trip_k0_t1 (F := Ideal) 𝒱 c bd i arg2 harg2 arg3 harg3 arg4 harg4 arg5 harg5 arg6 harg6 arg7 harg7 arg8 harg8 arg9 harg9 arg1 v24 v27 v33 v36 v42 v45 v51 v54 v78 X_arg3 X_arg4 k).1 f8 f9) S1x512x128.size (by sl_kernel_rfl) y
  refine (View.read_writes_apply_eq_canon _ _ _ _ hc).trans (View.canon_apply_of_pieces _ _ ?_ _ hc)
  unfold trip_k0_t1
  dsimp only
  sl_unfold_words
  simp only [List.forall_mem_cons]
  exact ⟨fun x => piece_M _ _ _ arg8.view f8 7 (by decide) _ v54 rfl _ (hk' 384 _) x,
    fun x => piece_M _ _ _ arg8.view f8 6 (by decide) _ v51 rfl _ (hk' 384 _) x,
    fun x => piece_M _ _ _ arg8.view f8 5 (by decide) _ v45 rfl _ (hk' 256 _) x,
    fun x => piece_M _ _ _ arg8.view f8 4 (by decide) _ v42 rfl _ (hk' 256 _) x,
    fun x => piece_M _ _ _ arg8.view f8 3 (by decide) _ v36 rfl _ (hk' 128 _) x,
    fun x => piece_M _ _ _ arg8.view f8 2 (by decide) _ v33 rfl _ (hk' 128 _) x,
    fun x => piece_M _ _ _ arg8.view f8 1 (by decide) _ v27 rfl _ (hk' 0 _) x,
    fun x => piece_M _ _ _ arg8.view f8 0 (by decide) _ v24 rfl _ (hk' 0 _) x, fun _ h => absurd h (by simp)⟩

theorem trip_A (k : Fin (k0_t1_loop i).trips)
    (hM : ∀ (s : Fin 8) (r : Fin 512) (l : Fin 128), arg8.view.read (Elt Ideal) f8 (ix3 s r l)
      = arg8.view.read (Elt Ideal) f8 (ix3 s r 0)) :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg1 v24 v27 v33 v36 v42 v45 v51 v54 v78 X_arg3 X_arg4 k).2.1 f8 f9))
      = newA (qs v24 v27 v33 v36 v42 v45 v51 v54) (at3 (arg3.view.read (Elt Ideal) X_arg3))
          (at3 (arg4.view.read (Elt Ideal) X_arg4)) (k * 1024)
          (arg8.view.read (Elt Ideal) f8) (arg9.view.read (Elt Ideal) f9) := by
  have hk : k.val < 4 := by
    have h1 : k.val < (i 1).val / 2 := trips_t1 i ▸ k.isLt
    have h2 : (i 1).val < 8 := (i 1).isLt
    omega
  have ho := trip_start k hk
  have hk' (e : ℕ) (inb) (x : Fin 1024) (d : Fin 128) :
      arg3.view.readAt (Elt Ideal) (Rect.unit (s := S1x4096x512)
          ![0, (Scalar.indexCast (Scalar.muli (Scf.iv 0#32 1#32 k) 1024#32)).toNat, e] ![1, 1024, 128] inb).toLoadRect
          X_arg3 (ix3 0 x d) = at3 (arg3.view.read (Elt Ideal) X_arg3) (k * 1024 + x) (e + d) :=
    (load_at3 arg3.view X_arg3 1024 _ e inb x d).trans (by rw [ho])
  have hv' (e : ℕ) (inb) (x : Fin 1024) (d : Fin 128) :
      arg4.view.readAt (Elt Ideal) (Rect.unit (s := S1x4096x512)
          ![0, (Scalar.indexCast (Scalar.muli (Scf.iv 0#32 1#32 k) 1024#32)).toNat, e] ![1, 1024, 128] inb).toLoadRect
          X_arg4 (ix3 0 x d) = at3 (arg4.view.read (Elt Ideal) X_arg4) (k * 1024 + x) (e + d) :=
    (load_at3 arg4.view X_arg4 1024 _ e inb x d).trans (by rw [ho])
  refine funext fun y => ?_
  have hc := View.cover_of_tiledL ((trip_k0_t1 (F := Ideal) 𝒱 c bd i arg2 harg2 arg3 harg3 arg4 harg4 arg5 harg5 arg6 harg6 arg7 harg7 arg8 harg8 arg9 harg9 arg1 v24 v27 v33 v36 v42 v45 v51 v54 v78 X_arg3 X_arg4 k).2.1 f8 f9) S1x512x256.size (by sl_kernel_rfl) y
  refine (View.read_writes_apply_eq_canon _ _ _ _ hc).trans (View.canon_apply_of_pieces _ _ ?_ _ hc)
  unfold trip_k0_t1
  dsimp only
  sl_unfold_words
  simp only [List.forall_mem_cons]
  exact ⟨fun x => piece_A _ _ _ _ arg8.view f8 arg9.view f9 hM 7 (by decide) _ _ v54 rfl _ _ (hk' 384 _)
        (hv' 384 _) x,
    fun x => piece_A _ _ _ _ arg8.view f8 arg9.view f9 hM 6 (by decide) _ _ v51 rfl _ _ (hk' 384 _)
        (hv' 384 _) x,
    fun x => piece_A _ _ _ _ arg8.view f8 arg9.view f9 hM 5 (by decide) _ _ v45 rfl _ _ (hk' 256 _)
        (hv' 256 _) x,
    fun x => piece_A _ _ _ _ arg8.view f8 arg9.view f9 hM 4 (by decide) _ _ v42 rfl _ _ (hk' 256 _)
        (hv' 256 _) x,
    fun x => piece_A _ _ _ _ arg8.view f8 arg9.view f9 hM 3 (by decide) _ _ v36 rfl _ _ (hk' 128 _)
        (hv' 128 _) x,
    fun x => piece_A _ _ _ _ arg8.view f8 arg9.view f9 hM 2 (by decide) _ _ v33 rfl _ _ (hk' 128 _)
        (hv' 128 _) x,
    fun x => piece_A _ _ _ _ arg8.view f8 arg9.view f9 hM 1 (by decide) _ _ v27 rfl _ _ (hk' 0 _)
        (hv' 0 _) x,
    fun x => piece_A _ _ _ _ arg8.view f8 arg9.view f9 hM 0 (by decide) _ _ v24 rfl _ _ (hk' 0 _)
        (hv' 0 _) x, fun _ h => absurd h (by simp)⟩

end
end Cert.Attn

end
-- ==== Proof.Attn.Start.lean ====
/- What the scratch arrays hold when the loop starts: the diagonal block of the tile, for even and for odd tiles. -/
module

public import proofs.«01_k».proof.Proof.Attn.Diag
public import proofs.«01_k».proof.Proof.Attn.Loop

@[expose] public section

set_option maxRecDepth 16384
set_option maxHeartbeats 4000000

noncomputable section

namespace Cert.Attn

open Cert.KernelIdeal Cert.KernelIdeal.Gen Idealize.ShloMosaic Idealize.ShloMosaic.TcCoe

section
variable (c : Dev nD) (i : grid0.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x512 .bf16) (harg7 : arg7.IsWhole) (arg8 : Memref sig .tc .vmem S8x512x128 .f32) (harg8 : arg8.IsWhole) (arg9 : Memref sig .tc .vmem S8x512x256 .f32) (harg9 : arg9.IsWhole)
variable (x0 : Vec Ideal S1x512x512 .bf16) (x1 : Vec Ideal S1x4096x512 .bf16) (x2 : Vec Ideal S1x4096x512 .bf16)

/-- Stream `s`'s queries of a tile: the head's columns, with the lanes of the other map put to zero. -/
abbrev tileQ : Fin 8 → FVec Ideal S512x128 .bf16 := qs
  (kernelRun0_A.sl.r (F := Ideal) c arg2 harg2 x0)
  (kernelRun0_A.sl.r_1 (F := Ideal) c arg2 harg2 x0)
  (kernelRun0_A.sl.r_2 (F := Ideal) c arg2 harg2 x0)
  (kernelRun0_A.sl.r_3 (F := Ideal) c arg2 harg2 x0)
  (kernelRun0_A.sl.r_5 (F := Ideal) c arg2 harg2 x0)
  (kernelRun0_A.sl.r_6 (F := Ideal) c arg2 harg2 x0)
  (kernelRun0_A.sl.r_7 (F := Ideal) c arg2 harg2 x0)
  (kernelRun0_A.sl.r_8 (F := Ideal) c arg2 harg2 x0)

theorem startM_A (hc1 : cond0_1 i) :
    arg8.view.read (Elt Ideal) (arg8.view.writes (Elt Ideal) arg8.view.junk (kernelRun0_A.sl.HS0_16 (F := Ideal) c i arg2 harg2 arg3 harg3 hc1 x0 x1))
      = diagM (tileQ c arg2 harg2 x0) (at3 (arg3.view.read (Elt Ideal) (harg3.unread x1))) ((i 1 : ℕ) * 512) 256 512 0 := by
  have k9 (inb) (x : Fin 256) (d : Fin 128) : arg3.view.readAt (Elt Ideal)
        (Rect.unit (s := S1x4096x512) (k0_off9 i) ![1, 256, 128] inb).toLoadRect (harg3.unread x1) (ix3 0 x d)
          = at3 (arg3.view.read (Elt Ideal) (harg3.unread x1)) ((i 1 : ℕ) * 512 + x) (0 + d) :=
    load_off arg3.view _ 256 _ 0 _ (congrArg (fun z => ![0, z, 0]) (start_even (i 1))) inb x d
  have k10 (inb) (x : Fin 256) (d : Fin 128) : arg3.view.readAt (Elt Ideal)
        (Rect.unit (s := S1x4096x512) (k0_off10 i) ![1, 256, 128] inb).toLoadRect (harg3.unread x1) (ix3 0 x d)
          = at3 (arg3.view.read (Elt Ideal) (harg3.unread x1)) ((i 1 : ℕ) * 512 + x) (128 + d) :=
    load_off arg3.view _ 256 _ 128 _ (congrArg (fun z => ![0, z, 128]) (start_even (i 1))) inb x d
  have k11 (inb) (x : Fin 256) (d : Fin 128) : arg3.view.readAt (Elt Ideal)
        (Rect.unit (s := S1x4096x512) (k0_off11 i) ![1, 256, 128] inb).toLoadRect (harg3.unread x1) (ix3 0 x d)
          = at3 (arg3.view.read (Elt Ideal) (harg3.unread x1)) ((i 1 : ℕ) * 512 + x) (256 + d) :=
    load_off arg3.view _ 256 _ 256 _ (congrArg (fun z => ![0, z, 256]) (start_even (i 1))) inb x d
  have k12 (inb) (x : Fin 256) (d : Fin 128) : arg3.view.readAt (Elt Ideal)
        (Rect.unit (s := S1x4096x512) (k0_off12 i) ![1, 256, 128] inb).toLoadRect (harg3.unread x1) (ix3 0 x d)
          = at3 (arg3.view.read (Elt Ideal) (harg3.unread x1)) ((i 1 : ℕ) * 512 + x) (384 + d) :=
    load_off arg3.view _ 256 _ 384 _ (congrArg (fun z => ![0, z, 384]) (start_even (i 1))) inb x d
  have k13 (inb) (x : Fin 512) (d : Fin 128) : arg3.view.readAt (Elt Ideal)
        (Rect.unit (s := S1x4096x512) (k0_off13 i) ![1, 512, 128] inb).toLoadRect (harg3.unread x1) (ix3 0 x d)
          = at3 (arg3.view.read (Elt Ideal) (harg3.unread x1)) ((i 1 : ℕ) * 512 + x) (0 + d) :=
    load_off arg3.view _ 512 _ 0 _ (congrArg (fun z => ![0, z, 0]) (start_even (i 1))) inb x d
  have k14 (inb) (x : Fin 512) (d : Fin 128) : arg3.view.readAt (Elt Ideal)
        (Rect.unit (s := S1x4096x512) (k0_off14 i) ![1, 512, 128] inb).toLoadRect (harg3.unread x1) (ix3 0 x d)
          = at3 (arg3.view.read (Elt Ideal) (harg3.unread x1)) ((i 1 : ℕ) * 512 + x) (128 + d) :=
    load_off arg3.view _ 512 _ 128 _ (congrArg (fun z => ![0, z, 128]) (start_even (i 1))) inb x d
  have k15 (inb) (x : Fin 512) (d : Fin 128) : arg3.view.readAt (Elt Ideal)
        (Rect.unit (s := S1x4096x512) (k0_off15 i) ![1, 512, 128] inb).toLoadRect (harg3.unread x1) (ix3 0 x d)
          = at3 (arg3.view.read (Elt Ideal) (harg3.unread x1)) ((i 1 : ℕ) * 512 + x) (256 + d) :=
    load_off arg3.view _ 512 _ 256 _ (congrArg (fun z => ![0, z, 256]) (start_even (i 1))) inb x d
  have k16 (inb) (x : Fin 512) (d : Fin 128) : arg3.view.readAt (Elt Ideal)
        (Rect.unit (s := S1x4096x512) (k0_off16 i) ![1, 512, 128] inb).toLoadRect (harg3.unread x1) (ix3 0 x d)
          = at3 (arg3.view.read (Elt Ideal) (harg3.unread x1)) ((i 1 : ℕ) * 512 + x) (384 + d) :=
    load_off arg3.view _ 512 _ 384 _ (congrArg (fun z => ![0, z, 384]) (start_even (i 1))) inb x d
  refine funext fun y => ?_
  have hc := View.cover_of_tiledL (kernelRun0_A.sl.HS0_16 (F := Ideal) c i arg2 harg2 arg3 harg3 hc1 x0 x1) S1x256x128.size (by sl_kernel_rfl) y
  refine (View.read_writes_apply_eq_canon _ _ _ _ hc).trans (View.canon_apply_of_pieces _ _ ?_ _ hc)
  unfold kernelRun0_A.sl.HS0_16
  simp only [List.forall_mem_cons]
  exact ⟨fun x => diagM512 (tileQ c arg2 harg2 x0) (at3 (arg3.view.read (Elt Ideal) (harg3.unread x1))) _ _ 7 (by decide) _ (kernelRun0_A.sl.r_8 (F := Ideal) c arg2 harg2 x0) rfl _ (k16 _) x,
    fun x => diagM512 (tileQ c arg2 harg2 x0) (at3 (arg3.view.read (Elt Ideal) (harg3.unread x1))) _ _ 6 (by decide) _ (kernelRun0_A.sl.r_7 (F := Ideal) c arg2 harg2 x0) rfl _ (k16 _) x,
    fun x => diagM512 (tileQ c arg2 harg2 x0) (at3 (arg3.view.read (Elt Ideal) (harg3.unread x1))) _ _ 5 (by decide) _ (kernelRun0_A.sl.r_6 (F := Ideal) c arg2 harg2 x0) rfl _ (k15 _) x,
    fun x => diagM512 (tileQ c arg2 harg2 x0) (at3 (arg3.view.read (Elt Ideal) (harg3.unread x1))) _ _ 4 (by decide) _ (kernelRun0_A.sl.r_5 (F := Ideal) c arg2 harg2 x0) rfl _ (k15 _) x,
    fun x => diagM512 (tileQ c arg2 harg2 x0) (at3 (arg3.view.read (Elt Ideal) (harg3.unread x1))) _ _ 3 (by decide) _ (kernelRun0_A.sl.r_3 (F := Ideal) c arg2 harg2 x0) rfl _ (k14 _) x,
    fun x => diagM512 (tileQ c arg2 harg2 x0) (at3 (arg3.view.read (Elt Ideal) (harg3.unread x1))) _ _ 2 (by decide) _ (kernelRun0_A.sl.r_2 (F := Ideal) c arg2 harg2 x0) rfl _ (k14 _) x,
    fun x => diagM512 (tileQ c arg2 harg2 x0) (at3 (arg3.view.read (Elt Ideal) (harg3.unread x1))) _ _ 1 (by decide) _ (kernelRun0_A.sl.r_1 (F := Ideal) c arg2 harg2 x0) rfl _ (k13 _) x,
    fun x => diagM512 (tileQ c arg2 harg2 x0) (at3 (arg3.view.read (Elt Ideal) (harg3.unread x1))) _ _ 0 (by decide) _ (kernelRun0_A.sl.r (F := Ideal) c arg2 harg2 x0) rfl _ (k13 _) x,
    fun x => diagM256 (tileQ c arg2 harg2 x0) (at3 (arg3.view.read (Elt Ideal) (harg3.unread x1))) _ _ 7 (by decide) _ (kernelRun0_A.sl.r_8 (F := Ideal) c arg2 harg2 x0) rfl _ (k12 _) x,
    fun x => diagM256 (tileQ c arg2 harg2 x0) (at3 (arg3.view.read (Elt Ideal) (harg3.unread x1))) _ _ 6 (by decide) _ (kernelRun0_A.sl.r_7 (F := Ideal) c arg2 harg2 x0) rfl _ (k12 _) x,
    fun x => diagM256 (tileQ c arg2 harg2 x0) (at3 (arg3.view.read (Elt Ideal) (harg3.unread x1))) _ _ 5 (by decide) _ (kernelRun0_A.sl.r_6 (F := Ideal) c arg2 harg2 x0) rfl _ (k11 _) x,
    fun x => (congrFun (show k0_pay151 (F := Ideal) (k0_pay148 (kernelRun0_A.sl.r_10 (F := Ideal) c i arg2 harg2 arg3 harg3 hc1 x0 x1)) = k0_pay129 (kernelRun0_A.sl.r_10 (F := Ideal) c i arg2 harg2 arg3 harg3 hc1 x0 x1) from rfl) x).trans
      (diagM256 (tileQ c arg2 harg2 x0) (at3 (arg3.view.read (Elt Ideal) (harg3.unread x1))) _ _ 4 (by decide) _ (kernelRun0_A.sl.r_5 (F := Ideal) c arg2 harg2 x0) rfl (arg3.view.readAt (Elt Ideal) (Rect.unit (s := S1x4096x512) (k0_off11 i) S1x256x128.size (k0_off11_inb i hc1)).toLoadRect (harg3.unread x1)) (k11 _) x),
    fun x => diagM256 (tileQ c arg2 harg2 x0) (at3 (arg3.view.read (Elt Ideal) (harg3.unread x1))) _ _ 3 (by decide) _ (kernelRun0_A.sl.r_3 (F := Ideal) c arg2 harg2 x0) rfl _ (k10 _) x,
    fun x => diagM256 (tileQ c arg2 harg2 x0) (at3 (arg3.view.read (Elt Ideal) (harg3.unread x1))) _ _ 2 (by decide) _ (kernelRun0_A.sl.r_2 (F := Ideal) c arg2 harg2 x0) rfl _ (k10 _) x,
    fun x => diagM256 (tileQ c arg2 harg2 x0) (at3 (arg3.view.read (Elt Ideal) (harg3.unread x1))) _ _ 1 (by decide) _ (kernelRun0_A.sl.r_1 (F := Ideal) c arg2 harg2 x0) rfl _ (k9 _) x,
    fun x => diagM256 (tileQ c arg2 harg2 x0) (at3 (arg3.view.read (Elt Ideal) (harg3.unread x1))) _ _ 0 (by decide) _ (kernelRun0_A.sl.r (F := Ideal) c arg2 harg2 x0) rfl _ (k9 _) x,
    fun _ h => absurd h (by simp)⟩

theorem startA_A (hc1 : cond0_1 i) :
    arg9.view.read (Elt Ideal) (arg9.view.writes (Elt Ideal) arg9.view.junk (kernelRun0_A.sl.HS1_16 (F := Ideal) c i arg2 harg2 arg3 harg3 arg4 harg4 hc1 x0 x1 x2))
      = diagA (tileQ c arg2 harg2 x0) (at3 (arg3.view.read (Elt Ideal) (harg3.unread x1))) (at3 (arg4.view.read (Elt Ideal) (harg4.unread x2))) ((i 1 : ℕ) * 512) 256 512 0 := by
  have k9 (inb) (x : Fin 256) (d : Fin 128) : arg3.view.readAt (Elt Ideal)
        (Rect.unit (s := S1x4096x512) (k0_off9 i) ![1, 256, 128] inb).toLoadRect (harg3.unread x1) (ix3 0 x d)
          = at3 (arg3.view.read (Elt Ideal) (harg3.unread x1)) ((i 1 : ℕ) * 512 + x) (0 + d) :=
    load_off arg3.view _ 256 _ 0 _ (congrArg (fun z => ![0, z, 0]) (start_even (i 1))) inb x d
  have k10 (inb) (x : Fin 256) (d : Fin 128) : arg3.view.readAt (Elt Ideal)
        (Rect.unit (s := S1x4096x512) (k0_off10 i) ![1, 256, 128] inb).toLoadRect (harg3.unread x1) (ix3 0 x d)
          = at3 (arg3.view.read (Elt Ideal) (harg3.unread x1)) ((i 1 : ℕ) * 512 + x) (128 + d) :=
    load_off arg3.view _ 256 _ 128 _ (congrArg (fun z => ![0, z, 128]) (start_even (i 1))) inb x d
  have k11 (inb) (x : Fin 256) (d : Fin 128) : arg3.view.readAt (Elt Ideal)
        (Rect.unit (s := S1x4096x512) (k0_off11 i) ![1, 256, 128] inb).toLoadRect (harg3.unread x1) (ix3 0 x d)
          = at3 (arg3.view.read (Elt Ideal) (harg3.unread x1)) ((i 1 : ℕ) * 512 + x) (256 + d) :=
    load_off arg3.view _ 256 _ 256 _ (congrArg (fun z => ![0, z, 256]) (start_even (i 1))) inb x d
  have k12 (inb) (x : Fin 256) (d : Fin 128) : arg3.view.readAt (Elt Ideal)
        (Rect.unit (s := S1x4096x512) (k0_off12 i) ![1, 256, 128] inb).toLoadRect (harg3.unread x1) (ix3 0 x d)
          = at3 (arg3.view.read (Elt Ideal) (harg3.unread x1)) ((i 1 : ℕ) * 512 + x) (384 + d) :=
    load_off arg3.view _ 256 _ 384 _ (congrArg (fun z => ![0, z, 384]) (start_even (i 1))) inb x d
  have k13 (inb) (x : Fin 512) (d : Fin 128) : arg3.view.readAt (Elt Ideal)
        (Rect.unit (s := S1x4096x512) (k0_off13 i) ![1, 512, 128] inb).toLoadRect (harg3.unread x1) (ix3 0 x d)
          = at3 (arg3.view.read (Elt Ideal) (harg3.unread x1)) ((i 1 : ℕ) * 512 + x) (0 + d) :=
    load_off arg3.view _ 512 _ 0 _ (congrArg (fun z => ![0, z, 0]) (start_even (i 1))) inb x d
  have k14 (inb) (x : Fin 512) (d : Fin 128) : arg3.view.readAt (Elt Ideal)
        (Rect.unit (s := S1x4096x512) (k0_off14 i) ![1, 512, 128] inb).toLoadRect (harg3.unread x1) (ix3 0 x d)
          = at3 (arg3.view.read (Elt Ideal) (harg3.unread x1)) ((i 1 : ℕ) * 512 + x) (128 + d) :=
    load_off arg3.view _ 512 _ 128 _ (congrArg (fun z => ![0, z, 128]) (start_even (i 1))) inb x d
  have k15 (inb) (x : Fin 512) (d : Fin 128) : arg3.view.readAt (Elt Ideal)
        (Rect.unit (s := S1x4096x512) (k0_off15 i) ![1, 512, 128] inb).toLoadRect (harg3.unread x1) (ix3 0 x d)
          = at3 (arg3.view.read (Elt Ideal) (harg3.unread x1)) ((i 1 : ℕ) * 512 + x) (256 + d) :=
    load_off arg3.view _ 512 _ 256 _ (congrArg (fun z => ![0, z, 256]) (start_even (i 1))) inb x d
  have k16 (inb) (x : Fin 512) (d : Fin 128) : arg3.view.readAt (Elt Ideal)
        (Rect.unit (s := S1x4096x512) (k0_off16 i) ![1, 512, 128] inb).toLoadRect (harg3.unread x1) (ix3 0 x d)
          = at3 (arg3.view.read (Elt Ideal) (harg3.unread x1)) ((i 1 : ℕ) * 512 + x) (384 + d) :=
    load_off arg3.view _ 512 _ 384 _ (congrArg (fun z => ![0, z, 384]) (start_even (i 1))) inb x d
  have v9 (inb) (x : Fin 256) (d : Fin 128) : arg4.view.readAt (Elt Ideal)
        (Rect.unit (s := S1x4096x512) (k0_off9 i) ![1, 256, 128] inb).toLoadRect (harg4.unread x2) (ix3 0 x d)
          = at3 (arg4.view.read (Elt Ideal) (harg4.unread x2)) ((i 1 : ℕ) * 512 + x) (0 + d) :=
    load_off arg4.view _ 256 _ 0 _ (congrArg (fun z => ![0, z, 0]) (start_even (i 1))) inb x d
  have v10 (inb) (x : Fin 256) (d : Fin 128) : arg4.view.readAt (Elt Ideal)
        (Rect.unit (s := S1x4096x512) (k0_off10 i) ![1, 256, 128] inb).toLoadRect (harg4.unread x2) (ix3 0 x d)
          = at3 (arg4.view.read (Elt Ideal) (harg4.unread x2)) ((i 1 : ℕ) * 512 + x) (128 + d) :=
    load_off arg4.view _ 256 _ 128 _ (congrArg (fun z => ![0, z, 128]) (start_even (i 1))) inb x d
  have v11 (inb) (x : Fin 256) (d : Fin 128) : arg4.view.readAt (Elt Ideal)
        (Rect.unit (s := S1x4096x512) (k0_off11 i) ![1, 256, 128] inb).toLoadRect (harg4.unread x2) (ix3 0 x d)
          = at3 (arg4.view.read (Elt Ideal) (harg4.unread x2)) ((i 1 : ℕ) * 512 + x) (256 + d) :=
    load_off arg4.view _ 256 _ 256 _ (congrArg (fun z => ![0, z, 256]) (start_even (i 1))) inb x d
  have v12 (inb) (x : Fin 256) (d : Fin 128) : arg4.view.readAt (Elt Ideal)
        (Rect.unit (s := S1x4096x512) (k0_off12 i) ![1, 256, 128] inb).toLoadRect (harg4.unread x2) (ix3 0 x d)
          = at3 (arg4.view.read (Elt Ideal) (harg4.unread x2)) ((i 1 : ℕ) * 512 + x) (384 + d) :=
    load_off arg4.view _ 256 _ 384 _ (congrArg (fun z => ![0, z, 384]) (start_even (i 1))) inb x d
  have v13 (inb) (x : Fin 512) (d : Fin 128) : arg4.view.readAt (Elt Ideal)
        (Rect.unit (s := S1x4096x512) (k0_off13 i) ![1, 512, 128] inb).toLoadRect (harg4.unread x2) (ix3 0 x d)
          = at3 (arg4.view.read (Elt Ideal) (harg4.unread x2)) ((i 1 : ℕ) * 512 + x) (0 + d) :=
    load_off arg4.view _ 512 _ 0 _ (congrArg (fun z => ![0, z, 0]) (start_even (i 1))) inb x d
  have v14 (inb) (x : Fin 512) (d : Fin 128) : arg4.view.readAt (Elt Ideal)
        (Rect.unit (s := S1x4096x512) (k0_off14 i) ![1, 512, 128] inb).toLoadRect (harg4.unread x2) (ix3 0 x d)
          = at3 (arg4.view.read (Elt Ideal) (harg4.unread x2)) ((i 1 : ℕ) * 512 + x) (128 + d) :=
    load_off arg4.view _ 512 _ 128 _ (congrArg (fun z => ![0, z, 128]) (start_even (i 1))) inb x d
  have v15 (inb) (x : Fin 512) (d : Fin 128) : arg4.view.readAt (Elt Ideal)
        (Rect.unit (s := S1x4096x512) (k0_off15 i) ![1, 512, 128] inb).toLoadRect (harg4.unread x2) (ix3 0 x d)
          = at3 (arg4.view.read (Elt Ideal) (harg4.unread x2)) ((i 1 : ℕ) * 512 + x) (256 + d) :=
    load_off arg4.view _ 512 _ 256 _ (congrArg (fun z => ![0, z, 256]) (start_even (i 1))) inb x d
  have v16 (inb) (x : Fin 512) (d : Fin 128) : arg4.view.readAt (Elt Ideal)
        (Rect.unit (s := S1x4096x512) (k0_off16 i) ![1, 512, 128] inb).toLoadRect (harg4.unread x2) (ix3 0 x d)
          = at3 (arg4.view.read (Elt Ideal) (harg4.unread x2)) ((i 1 : ℕ) * 512 + x) (384 + d) :=
    load_off arg4.view _ 512 _ 384 _ (congrArg (fun z => ![0, z, 384]) (start_even (i 1))) inb x d
  refine funext fun y => ?_
  have hc := View.cover_of_tiledL (kernelRun0_A.sl.HS1_16 (F := Ideal) c i arg2 harg2 arg3 harg3 arg4 harg4 hc1 x0 x1 x2) S1x256x256.size (by sl_kernel_rfl) y
  refine (View.read_writes_apply_eq_canon _ _ _ _ hc).trans (View.canon_apply_of_pieces _ _ ?_ _ hc)
  unfold kernelRun0_A.sl.HS1_16
  simp only [List.forall_mem_cons]
  exact ⟨fun x => diagA512 (tileQ c arg2 harg2 x0) (at3 (arg3.view.read (Elt Ideal) (harg3.unread x1))) (at3 (arg4.view.read (Elt Ideal) (harg4.unread x2))) _ _ 7 (by decide) _ (kernelRun0_A.sl.r_8 (F := Ideal) c arg2 harg2 x0) rfl _ _ (k16 _) (v16 _) x,
    fun x => diagA512 (tileQ c arg2 harg2 x0) (at3 (arg3.view.read (Elt Ideal) (harg3.unread x1))) (at3 (arg4.view.read (Elt Ideal) (harg4.unread x2))) _ _ 6 (by decide) _ (kernelRun0_A.sl.r_7 (F := Ideal) c arg2 harg2 x0) rfl _ _ (k16 _) (v16 _) x,
    fun x => diagA512 (tileQ c arg2 harg2 x0) (at3 (arg3.view.read (Elt Ideal) (harg3.unread x1))) (at3 (arg4.view.read (Elt Ideal) (harg4.unread x2))) _ _ 5 (by decide) _ (kernelRun0_A.sl.r_6 (F := Ideal) c arg2 harg2 x0) rfl _ _ (k15 _) (v15 _) x,
    fun x => diagA512 (tileQ c arg2 harg2 x0) (at3 (arg3.view.read (Elt Ideal) (harg3.unread x1))) (at3 (arg4.view.read (Elt Ideal) (harg4.unread x2))) _ _ 4 (by decide) _ (kernelRun0_A.sl.r_5 (F := Ideal) c arg2 harg2 x0) rfl _ _ (k15 _) (v15 _) x,
    fun x => diagA512 (tileQ c arg2 harg2 x0) (at3 (arg3.view.read (Elt Ideal) (harg3.unread x1))) (at3 (arg4.view.read (Elt Ideal) (harg4.unread x2))) _ _ 3 (by decide) _ (kernelRun0_A.sl.r_3 (F := Ideal) c arg2 harg2 x0) rfl _ _ (k14 _) (v14 _) x,
    fun x => diagA512 (tileQ c arg2 harg2 x0) (at3 (arg3.view.read (Elt Ideal) (harg3.unread x1))) (at3 (arg4.view.read (Elt Ideal) (harg4.unread x2))) _ _ 2 (by decide) _ (kernelRun0_A.sl.r_2 (F := Ideal) c arg2 harg2 x0) rfl _ _ (k14 _) (v14 _) x,
    fun x => diagA512 (tileQ c arg2 harg2 x0) (at3 (arg3.view.read (Elt Ideal) (harg3.unread x1))) (at3 (arg4.view.read (Elt Ideal) (harg4.unread x2))) _ _ 1 (by decide) _ (kernelRun0_A.sl.r_1 (F := Ideal) c arg2 harg2 x0) rfl _ _ (k13 _) (v13 _) x,
    fun x => diagA512 (tileQ c arg2 harg2 x0) (at3 (arg3.view.read (Elt Ideal) (harg3.unread x1))) (at3 (arg4.view.read (Elt Ideal) (harg4.unread x2))) _ _ 0 (by decide) _ (kernelRun0_A.sl.r (F := Ideal) c arg2 harg2 x0) rfl _ _ (k13 _) (v13 _) x,
    fun x => diagA256 (tileQ c arg2 harg2 x0) (at3 (arg3.view.read (Elt Ideal) (harg3.unread x1))) (at3 (arg4.view.read (Elt Ideal) (harg4.unread x2))) _ _ 7 (by decide) _ (kernelRun0_A.sl.r_8 (F := Ideal) c arg2 harg2 x0) rfl _ _ (k12 _) (v12 _) x,
    fun x => diagA256 (tileQ c arg2 harg2 x0) (at3 (arg3.view.read (Elt Ideal) (harg3.unread x1))) (at3 (arg4.view.read (Elt Ideal) (harg4.unread x2))) _ _ 6 (by decide) _ (kernelRun0_A.sl.r_7 (F := Ideal) c arg2 harg2 x0) rfl _ _ (k12 _) (v12 _) x,
    fun x => diagA256 (tileQ c arg2 harg2 x0) (at3 (arg3.view.read (Elt Ideal) (harg3.unread x1))) (at3 (arg4.view.read (Elt Ideal) (harg4.unread x2))) _ _ 5 (by decide) _ (kernelRun0_A.sl.r_6 (F := Ideal) c arg2 harg2 x0) rfl _ _ (k11 _) (v11 _) x,
    fun x => diagA256 (tileQ c arg2 harg2 x0) (at3 (arg3.view.read (Elt Ideal) (harg3.unread x1))) (at3 (arg4.view.read (Elt Ideal) (harg4.unread x2))) _ _ 4 (by decide) _ (kernelRun0_A.sl.r_5 (F := Ideal) c arg2 harg2 x0) rfl _ _ (k11 _) (v11 _) x,
    fun x => diagA256 (tileQ c arg2 harg2 x0) (at3 (arg3.view.read (Elt Ideal) (harg3.unread x1))) (at3 (arg4.view.read (Elt Ideal) (harg4.unread x2))) _ _ 3 (by decide) _ (kernelRun0_A.sl.r_3 (F := Ideal) c arg2 harg2 x0) rfl _ _ (k10 _) (v10 _) x,
    fun x => diagA256 (tileQ c arg2 harg2 x0) (at3 (arg3.view.read (Elt Ideal) (harg3.unread x1))) (at3 (arg4.view.read (Elt Ideal) (harg4.unread x2))) _ _ 2 (by decide) _ (kernelRun0_A.sl.r_2 (F := Ideal) c arg2 harg2 x0) rfl _ _ (k10 _) (v10 _) x,
    fun x => diagA256 (tileQ c arg2 harg2 x0) (at3 (arg3.view.read (Elt Ideal) (harg3.unread x1))) (at3 (arg4.view.read (Elt Ideal) (harg4.unread x2))) _ _ 1 (by decide) _ (kernelRun0_A.sl.r_1 (F := Ideal) c arg2 harg2 x0) rfl _ _ (k9 _) (v9 _) x,
    fun x => diagA256 (tileQ c arg2 harg2 x0) (at3 (arg3.view.read (Elt Ideal) (harg3.unread x1))) (at3 (arg4.view.read (Elt Ideal) (harg4.unread x2))) _ _ 0 (by decide) _ (kernelRun0_A.sl.r (F := Ideal) c arg2 harg2 x0) rfl _ _ (k9 _) (v9 _) x,
    fun _ h => absurd h (by simp)⟩

theorem startM_B (hc0 : cond0_0 i) (hodd : (i 1).val % 2 = 1) :
    arg8.view.read (Elt Ideal) (arg8.view.writes (Elt Ideal) arg8.view.junk (kernelRun0_B.sl.HS0_16 (F := Ideal) c i arg2 harg2 arg3 harg3 hc0 x0 x1))
      = diagM (tileQ c arg2 harg2 x0) (at3 (arg3.view.read (Elt Ideal) (harg3.unread x1))) (((i 1 : ℕ) - 1) * 512) 768 1024 512 := by
  have k1 (inb) (x : Fin 768) (d : Fin 128) : arg3.view.readAt (Elt Ideal)
        (Rect.unit (s := S1x4096x512) (k0_off1 i) ![1, 768, 128] inb).toLoadRect (harg3.unread x1) (ix3 0 x d)
          = at3 (arg3.view.read (Elt Ideal) (harg3.unread x1)) (((i 1 : ℕ) - 1) * 512 + x) (0 + d) :=
    load_off arg3.view _ 768 _ 0 _ (congrArg (fun z => ![0, z, 0]) (start_odd (i 1) hodd)) inb x d
  have k2 (inb) (x : Fin 768) (d : Fin 128) : arg3.view.readAt (Elt Ideal)
        (Rect.unit (s := S1x4096x512) (k0_off2 i) ![1, 768, 128] inb).toLoadRect (harg3.unread x1) (ix3 0 x d)
          = at3 (arg3.view.read (Elt Ideal) (harg3.unread x1)) (((i 1 : ℕ) - 1) * 512 + x) (128 + d) :=
    load_off arg3.view _ 768 _ 128 _ (congrArg (fun z => ![0, z, 128]) (start_odd (i 1) hodd)) inb x d
  have k3 (inb) (x : Fin 768) (d : Fin 128) : arg3.view.readAt (Elt Ideal)
        (Rect.unit (s := S1x4096x512) (k0_off3 i) ![1, 768, 128] inb).toLoadRect (harg3.unread x1) (ix3 0 x d)
          = at3 (arg3.view.read (Elt Ideal) (harg3.unread x1)) (((i 1 : ℕ) - 1) * 512 + x) (256 + d) :=
    load_off arg3.view _ 768 _ 256 _ (congrArg (fun z => ![0, z, 256]) (start_odd (i 1) hodd)) inb x d
  have k4 (inb) (x : Fin 768) (d : Fin 128) : arg3.view.readAt (Elt Ideal)
        (Rect.unit (s := S1x4096x512) (k0_off4 i) ![1, 768, 128] inb).toLoadRect (harg3.unread x1) (ix3 0 x d)
          = at3 (arg3.view.read (Elt Ideal) (harg3.unread x1)) (((i 1 : ℕ) - 1) * 512 + x) (384 + d) :=
    load_off arg3.view _ 768 _ 384 _ (congrArg (fun z => ![0, z, 384]) (start_odd (i 1) hodd)) inb x d
  have k5 (inb) (x : Fin 1024) (d : Fin 128) : arg3.view.readAt (Elt Ideal)
        (Rect.unit (s := S1x4096x512) (k0_off5 i) ![1, 1024, 128] inb).toLoadRect (harg3.unread x1) (ix3 0 x d)
          = at3 (arg3.view.read (Elt Ideal) (harg3.unread x1)) (((i 1 : ℕ) - 1) * 512 + x) (0 + d) :=
    load_off arg3.view _ 1024 _ 0 _ (congrArg (fun z => ![0, z, 0]) (start_odd (i 1) hodd)) inb x d
  have k6 (inb) (x : Fin 1024) (d : Fin 128) : arg3.view.readAt (Elt Ideal)
        (Rect.unit (s := S1x4096x512) (k0_off6 i) ![1, 1024, 128] inb).toLoadRect (harg3.unread x1) (ix3 0 x d)
          = at3 (arg3.view.read (Elt Ideal) (harg3.unread x1)) (((i 1 : ℕ) - 1) * 512 + x) (128 + d) :=
    load_off arg3.view _ 1024 _ 128 _ (congrArg (fun z => ![0, z, 128]) (start_odd (i 1) hodd)) inb x d
  have k7 (inb) (x : Fin 1024) (d : Fin 128) : arg3.view.readAt (Elt Ideal)
        (Rect.unit (s := S1x4096x512) (k0_off7 i) ![1, 1024, 128] inb).toLoadRect (harg3.unread x1) (ix3 0 x d)
          = at3 (arg3.view.read (Elt Ideal) (harg3.unread x1)) (((i 1 : ℕ) - 1) * 512 + x) (256 + d) :=
    load_off arg3.view _ 1024 _ 256 _ (congrArg (fun z => ![0, z, 256]) (start_odd (i 1) hodd)) inb x d
  have k8 (inb) (x : Fin 1024) (d : Fin 128) : arg3.view.readAt (Elt Ideal)
        (Rect.unit (s := S1x4096x512) (k0_off8 i) ![1, 1024, 128] inb).toLoadRect (harg3.unread x1) (ix3 0 x d)
          = at3 (arg3.view.read (Elt Ideal) (harg3.unread x1)) (((i 1 : ℕ) - 1) * 512 + x) (384 + d) :=
    load_off arg3.view _ 1024 _ 384 _ (congrArg (fun z => ![0, z, 384]) (start_odd (i 1) hodd)) inb x d
  refine funext fun y => ?_
  have hc := View.cover_of_tiledL (kernelRun0_B.sl.HS0_16 (F := Ideal) c i arg2 harg2 arg3 harg3 hc0 x0 x1) S1x256x128.size (by sl_kernel_rfl) y
  refine (View.read_writes_apply_eq_canon _ _ _ _ hc).trans (View.canon_apply_of_pieces _ _ ?_ _ hc)
  unfold kernelRun0_B.sl.HS0_16
  simp only [List.forall_mem_cons]
  exact ⟨fun x => diagM1024 (tileQ c arg2 harg2 x0) (at3 (arg3.view.read (Elt Ideal) (harg3.unread x1))) _ _ 7 (by decide) _ (kernelRun0_B.sl.r_50 (F := Ideal) c arg2 harg2 x0) rfl _ (k8 _) x,
    fun x => diagM1024 (tileQ c arg2 harg2 x0) (at3 (arg3.view.read (Elt Ideal) (harg3.unread x1))) _ _ 6 (by decide) _ (kernelRun0_B.sl.r_49 (F := Ideal) c arg2 harg2 x0) rfl _ (k8 _) x,
    fun x => diagM1024 (tileQ c arg2 harg2 x0) (at3 (arg3.view.read (Elt Ideal) (harg3.unread x1))) _ _ 5 (by decide) _ (kernelRun0_B.sl.r_48 (F := Ideal) c arg2 harg2 x0) rfl _ (k7 _) x,
    fun x => diagM1024 (tileQ c arg2 harg2 x0) (at3 (arg3.view.read (Elt Ideal) (harg3.unread x1))) _ _ 4 (by decide) _ (kernelRun0_B.sl.r_47 (F := Ideal) c arg2 harg2 x0) rfl _ (k7 _) x,
    fun x => diagM1024 (tileQ c arg2 harg2 x0) (at3 (arg3.view.read (Elt Ideal) (harg3.unread x1))) _ _ 3 (by decide) _ (kernelRun0_B.sl.r_3 (F := Ideal) c arg2 harg2 x0) rfl _ (k6 _) x,
    fun x => diagM1024 (tileQ c arg2 harg2 x0) (at3 (arg3.view.read (Elt Ideal) (harg3.unread x1))) _ _ 2 (by decide) _ (kernelRun0_B.sl.r_2 (F := Ideal) c arg2 harg2 x0) rfl _ (k6 _) x,
    fun x => diagM1024 (tileQ c arg2 harg2 x0) (at3 (arg3.view.read (Elt Ideal) (harg3.unread x1))) _ _ 1 (by decide) _ (kernelRun0_B.sl.r_1 (F := Ideal) c arg2 harg2 x0) rfl _ (k5 _) x,
    fun x => diagM1024 (tileQ c arg2 harg2 x0) (at3 (arg3.view.read (Elt Ideal) (harg3.unread x1))) _ _ 0 (by decide) _ (kernelRun0_B.sl.r (F := Ideal) c arg2 harg2 x0) rfl _ (k5 _) x,
    fun x => diagM768 (tileQ c arg2 harg2 x0) (at3 (arg3.view.read (Elt Ideal) (harg3.unread x1))) _ _ 7 (by decide) _ (kernelRun0_B.sl.r_50 (F := Ideal) c arg2 harg2 x0) rfl _ (k4 _) x,
    fun x => diagM768 (tileQ c arg2 harg2 x0) (at3 (arg3.view.read (Elt Ideal) (harg3.unread x1))) _ _ 6 (by decide) _ (kernelRun0_B.sl.r_49 (F := Ideal) c arg2 harg2 x0) rfl _ (k4 _) x,
    fun x => diagM768 (tileQ c arg2 harg2 x0) (at3 (arg3.view.read (Elt Ideal) (harg3.unread x1))) _ _ 5 (by decide) _ (kernelRun0_B.sl.r_48 (F := Ideal) c arg2 harg2 x0) rfl _ (k3 _) x,
    fun x => diagM768 (tileQ c arg2 harg2 x0) (at3 (arg3.view.read (Elt Ideal) (harg3.unread x1))) _ _ 4 (by decide) _ (kernelRun0_B.sl.r_47 (F := Ideal) c arg2 harg2 x0) rfl _ (k3 _) x,
    fun x => diagM768 (tileQ c arg2 harg2 x0) (at3 (arg3.view.read (Elt Ideal) (harg3.unread x1))) _ _ 3 (by decide) _ (kernelRun0_B.sl.r_3 (F := Ideal) c arg2 harg2 x0) rfl _ (k2 _) x,
    fun x => diagM768 (tileQ c arg2 harg2 x0) (at3 (arg3.view.read (Elt Ideal) (harg3.unread x1))) _ _ 2 (by decide) _ (kernelRun0_B.sl.r_2 (F := Ideal) c arg2 harg2 x0) rfl _ (k2 _) x,
    fun x => diagM768 (tileQ c arg2 harg2 x0) (at3 (arg3.view.read (Elt Ideal) (harg3.unread x1))) _ _ 1 (by decide) _ (kernelRun0_B.sl.r_1 (F := Ideal) c arg2 harg2 x0) rfl _ (k1 _) x,
    fun x => diagM768 (tileQ c arg2 harg2 x0) (at3 (arg3.view.read (Elt Ideal) (harg3.unread x1))) _ _ 0 (by decide) _ (kernelRun0_B.sl.r (F := Ideal) c arg2 harg2 x0) rfl _ (k1 _) x,
    fun _ h => absurd h (by simp)⟩

theorem startA_B (hc0 : cond0_0 i) (hodd : (i 1).val % 2 = 1) :
    arg9.view.read (Elt Ideal) (arg9.view.writes (Elt Ideal) arg9.view.junk (kernelRun0_B.sl.HS1_16 (F := Ideal) c i arg2 harg2 arg3 harg3 arg4 harg4 hc0 x0 x1 x2))
      = diagA (tileQ c arg2 harg2 x0) (at3 (arg3.view.read (Elt Ideal) (harg3.unread x1))) (at3 (arg4.view.read (Elt Ideal) (harg4.unread x2))) (((i 1 : ℕ) - 1) * 512) 768 1024 512 := by
  have k1 (inb) (x : Fin 768) (d : Fin 128) : arg3.view.readAt (Elt Ideal)
        (Rect.unit (s := S1x4096x512) (k0_off1 i) ![1, 768, 128] inb).toLoadRect (harg3.unread x1) (ix3 0 x d)
          = at3 (arg3.view.read (Elt Ideal) (harg3.unread x1)) (((i 1 : ℕ) - 1) * 512 + x) (0 + d) :=
    load_off arg3.view _ 768 _ 0 _ (congrArg (fun z => ![0, z, 0]) (start_odd (i 1) hodd)) inb x d
  have k2 (inb) (x : Fin 768) (d : Fin 128) : arg3.view.readAt (Elt Ideal)
        (Rect.unit (s := S1x4096x512) (k0_off2 i) ![1, 768, 128] inb).toLoadRect (harg3.unread x1) (ix3 0 x d)
          = at3 (arg3.view.read (Elt Ideal) (harg3.unread x1)) (((i 1 : ℕ) - 1) * 512 + x) (128 + d) :=
    load_off arg3.view _ 768 _ 128 _ (congrArg (fun z => ![0, z, 128]) (start_odd (i 1) hodd)) inb x d
  have k3 (inb) (x : Fin 768) (d : Fin 128) : arg3.view.readAt (Elt Ideal)
        (Rect.unit (s := S1x4096x512) (k0_off3 i) ![1, 768, 128] inb).toLoadRect (harg3.unread x1) (ix3 0 x d)
          = at3 (arg3.view.read (Elt Ideal) (harg3.unread x1)) (((i 1 : ℕ) - 1) * 512 + x) (256 + d) :=
    load_off arg3.view _ 768 _ 256 _ (congrArg (fun z => ![0, z, 256]) (start_odd (i 1) hodd)) inb x d
  have k4 (inb) (x : Fin 768) (d : Fin 128) : arg3.view.readAt (Elt Ideal)
        (Rect.unit (s := S1x4096x512) (k0_off4 i) ![1, 768, 128] inb).toLoadRect (harg3.unread x1) (ix3 0 x d)
          = at3 (arg3.view.read (Elt Ideal) (harg3.unread x1)) (((i 1 : ℕ) - 1) * 512 + x) (384 + d) :=
    load_off arg3.view _ 768 _ 384 _ (congrArg (fun z => ![0, z, 384]) (start_odd (i 1) hodd)) inb x d
  have k5 (inb) (x : Fin 1024) (d : Fin 128) : arg3.view.readAt (Elt Ideal)
        (Rect.unit (s := S1x4096x512) (k0_off5 i) ![1, 1024, 128] inb).toLoadRect (harg3.unread x1) (ix3 0 x d)
          = at3 (arg3.view.read (Elt Ideal) (harg3.unread x1)) (((i 1 : ℕ) - 1) * 512 + x) (0 + d) :=
    load_off arg3.view _ 1024 _ 0 _ (congrArg (fun z => ![0, z, 0]) (start_odd (i 1) hodd)) inb x d
  have k6 (inb) (x : Fin 1024) (d : Fin 128) : arg3.view.readAt (Elt Ideal)
        (Rect.unit (s := S1x4096x512) (k0_off6 i) ![1, 1024, 128] inb).toLoadRect (harg3.unread x1) (ix3 0 x d)
          = at3 (arg3.view.read (Elt Ideal) (harg3.unread x1)) (((i 1 : ℕ) - 1) * 512 + x) (128 + d) :=
    load_off arg3.view _ 1024 _ 128 _ (congrArg (fun z => ![0, z, 128]) (start_odd (i 1) hodd)) inb x d
  have k7 (inb) (x : Fin 1024) (d : Fin 128) : arg3.view.readAt (Elt Ideal)
        (Rect.unit (s := S1x4096x512) (k0_off7 i) ![1, 1024, 128] inb).toLoadRect (harg3.unread x1) (ix3 0 x d)
          = at3 (arg3.view.read (Elt Ideal) (harg3.unread x1)) (((i 1 : ℕ) - 1) * 512 + x) (256 + d) :=
    load_off arg3.view _ 1024 _ 256 _ (congrArg (fun z => ![0, z, 256]) (start_odd (i 1) hodd)) inb x d
  have k8 (inb) (x : Fin 1024) (d : Fin 128) : arg3.view.readAt (Elt Ideal)
        (Rect.unit (s := S1x4096x512) (k0_off8 i) ![1, 1024, 128] inb).toLoadRect (harg3.unread x1) (ix3 0 x d)
          = at3 (arg3.view.read (Elt Ideal) (harg3.unread x1)) (((i 1 : ℕ) - 1) * 512 + x) (384 + d) :=
    load_off arg3.view _ 1024 _ 384 _ (congrArg (fun z => ![0, z, 384]) (start_odd (i 1) hodd)) inb x d
  have v1 (inb) (x : Fin 768) (d : Fin 128) : arg4.view.readAt (Elt Ideal)
        (Rect.unit (s := S1x4096x512) (k0_off1 i) ![1, 768, 128] inb).toLoadRect (harg4.unread x2) (ix3 0 x d)
          = at3 (arg4.view.read (Elt Ideal) (harg4.unread x2)) (((i 1 : ℕ) - 1) * 512 + x) (0 + d) :=
    load_off arg4.view _ 768 _ 0 _ (congrArg (fun z => ![0, z, 0]) (start_odd (i 1) hodd)) inb x d
  have v2 (inb) (x : Fin 768) (d : Fin 128) : arg4.view.readAt (Elt Ideal)
        (Rect.unit (s := S1x4096x512) (k0_off2 i) ![1, 768, 128] inb).toLoadRect (harg4.unread x2) (ix3 0 x d)
          = at3 (arg4.view.read (Elt Ideal) (harg4.unread x2)) (((i 1 : ℕ) - 1) * 512 + x) (128 + d) :=
    load_off arg4.view _ 768 _ 128 _ (congrArg (fun z => ![0, z, 128]) (start_odd (i 1) hodd)) inb x d
  have v3 (inb) (x : Fin 768) (d : Fin 128) : arg4.view.readAt (Elt Ideal)
        (Rect.unit (s := S1x4096x512) (k0_off3 i) ![1, 768, 128] inb).toLoadRect (harg4.unread x2) (ix3 0 x d)
          = at3 (arg4.view.read (Elt Ideal) (harg4.unread x2)) (((i 1 : ℕ) - 1) * 512 + x) (256 + d) :=
    load_off arg4.view _ 768 _ 256 _ (congrArg (fun z => ![0, z, 256]) (start_odd (i 1) hodd)) inb x d
  have v4 (inb) (x : Fin 768) (d : Fin 128) : arg4.view.readAt (Elt Ideal)
        (Rect.unit (s := S1x4096x512) (k0_off4 i) ![1, 768, 128] inb).toLoadRect (harg4.unread x2) (ix3 0 x d)
          = at3 (arg4.view.read (Elt Ideal) (harg4.unread x2)) (((i 1 : ℕ) - 1) * 512 + x) (384 + d) :=
    load_off arg4.view _ 768 _ 384 _ (congrArg (fun z => ![0, z, 384]) (start_odd (i 1) hodd)) inb x d
  have v5 (inb) (x : Fin 1024) (d : Fin 128) : arg4.view.readAt (Elt Ideal)
        (Rect.unit (s := S1x4096x512) (k0_off5 i) ![1, 1024, 128] inb).toLoadRect (harg4.unread x2) (ix3 0 x d)
          = at3 (arg4.view.read (Elt Ideal) (harg4.unread x2)) (((i 1 : ℕ) - 1) * 512 + x) (0 + d) :=
    load_off arg4.view _ 1024 _ 0 _ (congrArg (fun z => ![0, z, 0]) (start_odd (i 1) hodd)) inb x d
  have v6 (inb) (x : Fin 1024) (d : Fin 128) : arg4.view.readAt (Elt Ideal)
        (Rect.unit (s := S1x4096x512) (k0_off6 i) ![1, 1024, 128] inb).toLoadRect (harg4.unread x2) (ix3 0 x d)
          = at3 (arg4.view.read (Elt Ideal) (harg4.unread x2)) (((i 1 : ℕ) - 1) * 512 + x) (128 + d) :=
    load_off arg4.view _ 1024 _ 128 _ (congrArg (fun z => ![0, z, 128]) (start_odd (i 1) hodd)) inb x d
  have v7 (inb) (x : Fin 1024) (d : Fin 128) : arg4.view.readAt (Elt Ideal)
        (Rect.unit (s := S1x4096x512) (k0_off7 i) ![1, 1024, 128] inb).toLoadRect (harg4.unread x2) (ix3 0 x d)
          = at3 (arg4.view.read (Elt Ideal) (harg4.unread x2)) (((i 1 : ℕ) - 1) * 512 + x) (256 + d) :=
    load_off arg4.view _ 1024 _ 256 _ (congrArg (fun z => ![0, z, 256]) (start_odd (i 1) hodd)) inb x d
  have v8 (inb) (x : Fin 1024) (d : Fin 128) : arg4.view.readAt (Elt Ideal)
        (Rect.unit (s := S1x4096x512) (k0_off8 i) ![1, 1024, 128] inb).toLoadRect (harg4.unread x2) (ix3 0 x d)
          = at3 (arg4.view.read (Elt Ideal) (harg4.unread x2)) (((i 1 : ℕ) - 1) * 512 + x) (384 + d) :=
    load_off arg4.view _ 1024 _ 384 _ (congrArg (fun z => ![0, z, 384]) (start_odd (i 1) hodd)) inb x d
  refine funext fun y => ?_
  have hc := View.cover_of_tiledL (kernelRun0_B.sl.HS1_16 (F := Ideal) c i arg2 harg2 arg3 harg3 arg4 harg4 hc0 x0 x1 x2) S1x256x256.size (by sl_kernel_rfl) y
  refine (View.read_writes_apply_eq_canon _ _ _ _ hc).trans (View.canon_apply_of_pieces _ _ ?_ _ hc)
  unfold kernelRun0_B.sl.HS1_16
  simp only [List.forall_mem_cons]
  exact ⟨fun x => diagA1024 (tileQ c arg2 harg2 x0) (at3 (arg3.view.read (Elt Ideal) (harg3.unread x1))) (at3 (arg4.view.read (Elt Ideal) (harg4.unread x2))) _ _ 7 (by decide) _ (kernelRun0_B.sl.r_50 (F := Ideal) c arg2 harg2 x0) rfl _ _ (k8 _) (v8 _) x,
    fun x => diagA1024 (tileQ c arg2 harg2 x0) (at3 (arg3.view.read (Elt Ideal) (harg3.unread x1))) (at3 (arg4.view.read (Elt Ideal) (harg4.unread x2))) _ _ 6 (by decide) _ (kernelRun0_B.sl.r_49 (F := Ideal) c arg2 harg2 x0) rfl _ _ (k8 _) (v8 _) x,
    fun x => diagA1024 (tileQ c arg2 harg2 x0) (at3 (arg3.view.read (Elt Ideal) (harg3.unread x1))) (at3 (arg4.view.read (Elt Ideal) (harg4.unread x2))) _ _ 5 (by decide) _ (kernelRun0_B.sl.r_48 (F := Ideal) c arg2 harg2 x0) rfl _ _ (k7 _) (v7 _) x,
    fun x => diagA1024 (tileQ c arg2 harg2 x0) (at3 (arg3.view.read (Elt Ideal) (harg3.unread x1))) (at3 (arg4.view.read (Elt Ideal) (harg4.unread x2))) _ _ 4 (by decide) _ (kernelRun0_B.sl.r_47 (F := Ideal) c arg2 harg2 x0) rfl _ _ (k7 _) (v7 _) x,
    fun x => diagA1024 (tileQ c arg2 harg2 x0) (at3 (arg3.view.read (Elt Ideal) (harg3.unread x1))) (at3 (arg4.view.read (Elt Ideal) (harg4.unread x2))) _ _ 3 (by decide) _ (kernelRun0_B.sl.r_3 (F := Ideal) c arg2 harg2 x0) rfl _ _ (k6 _) (v6 _) x,
    fun x => diagA1024 (tileQ c arg2 harg2 x0) (at3 (arg3.view.read (Elt Ideal) (harg3.unread x1))) (at3 (arg4.view.read (Elt Ideal) (harg4.unread x2))) _ _ 2 (by decide) _ (kernelRun0_B.sl.r_2 (F := Ideal) c arg2 harg2 x0) rfl _ _ (k6 _) (v6 _) x,
    fun x => diagA1024 (tileQ c arg2 harg2 x0) (at3 (arg3.view.read (Elt Ideal) (harg3.unread x1))) (at3 (arg4.view.read (Elt Ideal) (harg4.unread x2))) _ _ 1 (by decide) _ (kernelRun0_B.sl.r_1 (F := Ideal) c arg2 harg2 x0) rfl _ _ (k5 _) (v5 _) x,
    fun x => diagA1024 (tileQ c arg2 harg2 x0) (at3 (arg3.view.read (Elt Ideal) (harg3.unread x1))) (at3 (arg4.view.read (Elt Ideal) (harg4.unread x2))) _ _ 0 (by decide) _ (kernelRun0_B.sl.r (F := Ideal) c arg2 harg2 x0) rfl _ _ (k5 _) (v5 _) x,
    fun x => diagA768 (tileQ c arg2 harg2 x0) (at3 (arg3.view.read (Elt Ideal) (harg3.unread x1))) (at3 (arg4.view.read (Elt Ideal) (harg4.unread x2))) _ _ 7 (by decide) _ (kernelRun0_B.sl.r_50 (F := Ideal) c arg2 harg2 x0) rfl _ _ (k4 _) (v4 _) x,
    fun x => diagA768 (tileQ c arg2 harg2 x0) (at3 (arg3.view.read (Elt Ideal) (harg3.unread x1))) (at3 (arg4.view.read (Elt Ideal) (harg4.unread x2))) _ _ 6 (by decide) _ (kernelRun0_B.sl.r_49 (F := Ideal) c arg2 harg2 x0) rfl _ _ (k4 _) (v4 _) x,
    fun x => diagA768 (tileQ c arg2 harg2 x0) (at3 (arg3.view.read (Elt Ideal) (harg3.unread x1))) (at3 (arg4.view.read (Elt Ideal) (harg4.unread x2))) _ _ 5 (by decide) _ (kernelRun0_B.sl.r_48 (F := Ideal) c arg2 harg2 x0) rfl _ _ (k3 _) (v3 _) x,
    fun x => diagA768 (tileQ c arg2 harg2 x0) (at3 (arg3.view.read (Elt Ideal) (harg3.unread x1))) (at3 (arg4.view.read (Elt Ideal) (harg4.unread x2))) _ _ 4 (by decide) _ (kernelRun0_B.sl.r_47 (F := Ideal) c arg2 harg2 x0) rfl _ _ (k3 _) (v3 _) x,
    fun x => diagA768 (tileQ c arg2 harg2 x0) (at3 (arg3.view.read (Elt Ideal) (harg3.unread x1))) (at3 (arg4.view.read (Elt Ideal) (harg4.unread x2))) _ _ 3 (by decide) _ (kernelRun0_B.sl.r_3 (F := Ideal) c arg2 harg2 x0) rfl _ _ (k2 _) (v2 _) x,
    fun x => diagA768 (tileQ c arg2 harg2 x0) (at3 (arg3.view.read (Elt Ideal) (harg3.unread x1))) (at3 (arg4.view.read (Elt Ideal) (harg4.unread x2))) _ _ 2 (by decide) _ (kernelRun0_B.sl.r_2 (F := Ideal) c arg2 harg2 x0) rfl _ _ (k2 _) (v2 _) x,
    fun x => diagA768 (tileQ c arg2 harg2 x0) (at3 (arg3.view.read (Elt Ideal) (harg3.unread x1))) (at3 (arg4.view.read (Elt Ideal) (harg4.unread x2))) _ _ 1 (by decide) _ (kernelRun0_B.sl.r_1 (F := Ideal) c arg2 harg2 x0) rfl _ _ (k1 _) (v1 _) x,
    fun x => diagA768 (tileQ c arg2 harg2 x0) (at3 (arg3.view.read (Elt Ideal) (harg3.unread x1))) (at3 (arg4.view.read (Elt Ideal) (harg4.unread x2))) _ _ 0 (by decide) _ (kernelRun0_B.sl.r (F := Ideal) c arg2 harg2 x0) rfl _ _ (k1 _) (v1 _) x,
    fun _ h => absurd h (by simp)⟩

end

end Cert.Attn

end
-- ==== Proof.Attn.Sweep.lean ====
/- The whole sweep of a tile over its keys: the diagonal block, then the full blocks before it.  At its end every row holds
   the keys up to its own position. -/
module

public import proofs.«01_k».proof.Proof.Attn.Start

@[expose] public section

set_option maxRecDepth 16384

noncomputable section

namespace Cert.Attn

open Cert.KernelIdeal Cert.KernelIdeal.Gen Idealize.ShloMosaic Idealize.ShloMosaic.TcCoe

section
variable (𝒱 : Variants) (c : Dev nD) (bd : Option 𝒱.V) (i : grid0.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x512 .bf16) (harg7 : arg7.IsWhole) (arg8 : Memref sig .tc .vmem S8x512x128 .f32) (harg8 : arg8.IsWhole) (arg9 : Memref sig .tc .vmem S8x512x256 .f32) (harg9 : arg9.IsWhole) (arg1 : BitVec 32) (v24 : FVec Ideal S512x128 .bf16) (v27 : FVec Ideal S512x128 .bf16) (v33 : FVec Ideal S512x128 .bf16) (v36 : FVec Ideal S512x128 .bf16) (v42 : FVec Ideal S512x128 .bf16) (v45 : FVec Ideal S512x128 .bf16) (v51 : FVec Ideal S512x128 .bf16) (v54 : FVec Ideal S512x128 .bf16) (v78 : BitVec 1) (X_arg3 : BufTy.Contents (Elt Ideal) arg3.view.ty) (X_arg4 : BufTy.Contents (Elt Ideal) arg4.view.ty)
variable (G8 : BufTy.Contents (Elt Ideal) arg8.view.ty) (G9 : BufTy.Contents (Elt Ideal) arg9.view.ty)
variable (q : Fin 8 → Fin 512 → Fin 128 → ℝ) (kk vv : ℕ → ℕ → ℝ)
variable (hQ : ∀ s r d, qs v24 v27 v33 v36 v42 v45 v51 v54 s (ix2 r d) = (q s r d : EReal))
variable (hK : ∀ j e, at3 (arg3.view.read (Elt Ideal) X_arg3) j e = (kk j e : EReal))
variable (hV : ∀ j e, at3 (arg4.view.read (Elt Ideal) X_arg4) j e = (vv j e : EReal))
include hQ hK hV

/-- After `n` full blocks the arrays hold the first `1024 n` keys beside those they held before. -/
theorem sweep (P : Fin 512 → Finset ℕ)
    (h0 : Held q kk vv P (arg8.view.read (Elt Ideal) G8) (arg9.view.read (Elt Ideal) G9))
    (hP : ∀ r, Disjoint (P r) (Finset.range ((i 1 : ℕ) / 2 * 1024))) (n : ℕ) (hn : n ≤ (i 1 : ℕ) / 2) :
    Held q kk vv (fun r => P r ∪ Finset.range (n * 1024))
      (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 arg1 v24 v27 v33 v36 v42 v45 v51 v54 v78 X_arg3 X_arg4 G8 G9 n).1))
      (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg1 v24 v27 v33 v36 v42 v45 v51 v54 v78 X_arg3 X_arg4 G8 G9 n).2)) := by
  induction n with
  | zero =>
    rw [show (fun r => P r ∪ Finset.range (0 * 1024)) = P from funext fun r => by simp]
    exact h0
  | succ n ih =>
    have hlt : n < (k0_t1_loop i).trips := by rw [trips_t1]; omega
    have hih := ih (by omega)
    have hs := Held.step q kk vv _ _ _ hQ hK hV (n * 1024) hih (fun r => by
      refine Finset.disjoint_union_left.mpr ⟨(hP r).mono_right fun j hj => ?_, ?_⟩
      · simp only [Finset.mem_Ico, Finset.mem_range] at hj ⊢; omega
      · exact Finset.disjoint_left.mpr fun j hj hj' => by
          simp only [Finset.mem_Ico, Finset.mem_range] at hj hj'; omega)
    rw [show (fun r => P r ∪ Finset.range ((n + 1) * 1024))
        = fun r => P r ∪ Finset.range (n * 1024) ∪ Finset.Ico (n * 1024) (n * 1024 + 1024) from funext fun r => by
      ext j
      simp only [Finset.mem_union, Finset.mem_Ico, Finset.mem_range]
      constructor
      · rintro (h | h)
        · exact Or.inl (Or.inl h)
        · by_cases hj : j < n * 1024
          · exact Or.inl (Or.inr hj)
          · exact Or.inr (by omega)
      · rintro ((h | h) | h)
        · exact Or.inl h
        · exact Or.inr (by omega)
        · exact Or.inr (by omega)]
    rw [pb_k0_t1_succ (F := Ideal) 𝒱 c bd i arg2 harg2 arg3 harg3 arg4 harg4 arg5 harg5 arg6 harg6 arg7 harg7 arg8 harg8 arg9 harg9 arg1 v24 v27 v33 v36 v42 v45 v51 v54 v78 X_arg3 X_arg4 G8 G9 ⟨n, hlt⟩]
    dsimp only
    rw [View.writes_append, View.writes_append]
    rw [trip_M 𝒱 c bd i arg2 harg2 arg3 harg3 arg4 harg4 arg5 harg5 arg6 harg6 arg7 harg7 arg8 harg8 arg9 harg9 arg1 v24 v27 v33 v36 v42 v45 v51 v54 v78 X_arg3 X_arg4 _ _ ⟨n, hlt⟩,
      trip_A 𝒱 c bd i arg2 harg2 arg3 harg3 arg4 harg4 arg5 harg5 arg6 harg6 arg7 harg7 arg8 harg8 arg9 harg9 arg1 v24 v27 v33 v36 v42 v45 v51 v54 v78 X_arg3 X_arg4 _ _ ⟨n, hlt⟩ (Held.lane q kk vv hih)]
    exact hs

end

section
variable (c : Dev nD) (i : grid0.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x512 .bf16) (harg7 : arg7.IsWhole) (arg8 : Memref sig .tc .vmem S8x512x128 .f32) (harg8 : arg8.IsWhole) (arg9 : Memref sig .tc .vmem S8x512x256 .f32) (harg9 : arg9.IsWhole)
variable (x0 : Vec Ideal S1x512x512 .bf16) (x1 : Vec Ideal S1x4096x512 .bf16) (x2 : Vec Ideal S1x4096x512 .bf16)
variable (q : Fin 8 → Fin 512 → Fin 128 → ℝ) (kk vv : ℕ → ℕ → ℝ)
variable (hQ : ∀ s r d, tileQ c arg2 harg2 x0 s (ix2 r d) = (q s r d : EReal))
variable (hK : ∀ j e, at3 (arg3.view.read (Elt Ideal) (harg3.unread x1)) j e = (kk j e : EReal))
variable (hV : ∀ j e, at3 (arg4.view.read (Elt Ideal) (harg4.unread x2)) j e = (vv j e : EReal))
include hQ hK hV

/-- What the eight streams' sums are read as at the end of an even tile. -/
theorem final_A (hc1 : cond0_1 i) (hev : (i 1).val % 2 = 0) : ∃ A : S8x512x256.Idx → EReal,
      (∀ s r, ∃ μ : ℝ, ∀ l, A (ix3 s r l) = (part q kk vv s r l (Finset.range ((i 1 : ℕ) * 512 + r + 1)) μ : EReal)) ∧
      (∀ r l, kernelRun0_A.sl.v121 (F := Ideal) c i arg2 harg2 arg3 harg3 arg4 harg4 arg5 harg5 arg6 harg6 arg7 harg7 arg8 harg8 arg9 harg9 hc1 x0 x1 x2 (ix3 0 r l) = A (ix3 ⟨0, by decide⟩ r l)) ∧
      (∀ r l, kernelRun0_A.sl.v123 (F := Ideal) c i arg2 harg2 arg3 harg3 arg4 harg4 arg5 harg5 arg6 harg6 arg7 harg7 arg8 harg8 arg9 harg9 hc1 x0 x1 x2 (ix3 0 r l) = A (ix3 ⟨1, by decide⟩ r l)) ∧
      (∀ r l, kernelRun0_A.sl.v158 (F := Ideal) c i arg2 harg2 arg3 harg3 arg4 harg4 arg5 harg5 arg6 harg6 arg7 harg7 arg8 harg8 arg9 harg9 hc1 x0 x1 x2 (ix3 0 r l) = A (ix3 ⟨2, by decide⟩ r l)) ∧
      (∀ r l, kernelRun0_A.sl.v160 (F := Ideal) c i arg2 harg2 arg3 harg3 arg4 harg4 arg5 harg5 arg6 harg6 arg7 harg7 arg8 harg8 arg9 harg9 hc1 x0 x1 x2 (ix3 0 r l) = A (ix3 ⟨3, by decide⟩ r l)) ∧
      (∀ r l, kernelRun0_A.sl.v195 (F := Ideal) c i arg2 harg2 arg3 harg3 arg4 harg4 arg5 harg5 arg6 harg6 arg7 harg7 arg8 harg8 arg9 harg9 hc1 x0 x1 x2 (ix3 0 r l) = A (ix3 ⟨4, by decide⟩ r l)) ∧
      (∀ r l, kernelRun0_A.sl.v197 (F := Ideal) c i arg2 harg2 arg3 harg3 arg4 harg4 arg5 harg5 arg6 harg6 arg7 harg7 arg8 harg8 arg9 harg9 hc1 x0 x1 x2 (ix3 0 r l) = A (ix3 ⟨5, by decide⟩ r l)) ∧
      (∀ r l, kernelRun0_A.sl.v232 (F := Ideal) c i arg2 harg2 arg3 harg3 arg4 harg4 arg5 harg5 arg6 harg6 arg7 harg7 arg8 harg8 arg9 harg9 hc1 x0 x1 x2 (ix3 0 r l) = A (ix3 ⟨6, by decide⟩ r l)) ∧
      (∀ r l, kernelRun0_A.sl.v234 (F := Ideal) c i arg2 harg2 arg3 harg3 arg4 harg4 arg5 harg5 arg6 harg6 arg7 harg7 arg8 harg8 arg9 harg9 hc1 x0 x1 x2 (ix3 0 r l) = A (ix3 ⟨7, by decide⟩ r l)) := by
  have h1 := trips_t1 i
  have h2 := trips_t2 i
  have hb : (i 1 : ℕ) < 8 := (i 1).isLt
  have hd := held_diag (tileQ c arg2 harg2 x0) (at3 (arg3.view.read (Elt Ideal) (harg3.unread x1)))
    (at3 (arg4.view.read (Elt Ideal) (harg4.unread x2))) ((i 1 : ℕ) * 512) 256 512 0 q kk vv hQ hK hV
    (fun r => by unfold width; split <;> omega)
  rw [← startM_A c i arg2 harg2 arg3 harg3 arg8 x0 x1 hc1,
    ← startA_A c i arg2 harg2 arg3 harg3 arg4 harg4 arg9 x0 x1 x2 hc1] at hd
  have hsw := sweep Variants.none c none i arg2 harg2 arg3 harg3 arg4 harg4 arg5 harg5 arg6 harg6 arg7 harg7 arg8 harg8
    arg9 harg9 (BitVec.ofNat 32 (i 1).val) (kernelRun0_A.sl.r (F := Ideal) c arg2 harg2 x0) (kernelRun0_A.sl.r_1 (F := Ideal) c arg2 harg2 x0) (kernelRun0_A.sl.r_2 (F := Ideal) c arg2 harg2 x0) (kernelRun0_A.sl.r_3 (F := Ideal) c arg2 harg2 x0) (kernelRun0_A.sl.r_5 (F := Ideal) c arg2 harg2 x0) (kernelRun0_A.sl.r_6 (F := Ideal) c arg2 harg2 x0) (kernelRun0_A.sl.r_7 (F := Ideal) c arg2 harg2 x0) (kernelRun0_A.sl.r_8 (F := Ideal) c arg2 harg2 x0) (kernelRun0_A.sl.v78 i) (harg3.unread x1) (harg4.unread x2)
    _ _ q kk vv hQ hK hV _ hd (fun r => Finset.disjoint_left.mpr fun j hj hj' => by
      simp only [Finset.mem_Ico, Finset.mem_range] at hj hj'; omega) ((i 1 : ℕ) / 2) le_rfl
  refine ⟨arg9.view.read (Elt Ideal) (arg9.view.writes (Elt Ideal) arg9.view.junk ((pb_k0_t1 (F := Ideal) Variants.none c none i arg2 harg2 arg3 harg3 arg4 harg4 arg5 harg5 arg6 harg6 arg7 harg7 arg8 harg8 arg9 harg9 (BitVec.ofNat 32 (i 1).val) (kernelRun0_A.sl.r (F := Ideal) c arg2 harg2 x0) (kernelRun0_A.sl.r_1 (F := Ideal) c arg2 harg2 x0) (kernelRun0_A.sl.r_2 (F := Ideal) c arg2 harg2 x0) (kernelRun0_A.sl.r_3 (F := Ideal) c arg2 harg2 x0) (kernelRun0_A.sl.r_5 (F := Ideal) c arg2 harg2 x0) (kernelRun0_A.sl.r_6 (F := Ideal) c arg2 harg2 x0) (kernelRun0_A.sl.r_7 (F := Ideal) c arg2 harg2 x0) (kernelRun0_A.sl.r_8 (F := Ideal) c arg2 harg2 x0) (kernelRun0_A.sl.v78 i) (harg3.unread x1) (harg4.unread x2) (arg8.view.writes (Elt Ideal) arg8.view.junk (kernelRun0_A.sl.HS0_16 (F := Ideal) c i arg2 harg2 arg3 harg3 hc1 x0 x1)) (arg9.view.writes (Elt Ideal) arg9.view.junk (kernelRun0_A.sl.HS1_16 (F := Ideal) c i arg2 harg2 arg3 harg3 arg4 harg4 hc1 x0 x1 x2)) ((i 1 : ℕ) / 2)).2 ++ (kernelRun0_A.sl.HS1_16 (F := Ideal) c i arg2 harg2 arg3 harg3 arg4 harg4 hc1 x0 x1 x2))), fun s r => ?_, ?_⟩
  · obtain ⟨μ, -, hμ⟩ := hsw s r
    refine ⟨μ, fun l => ?_⟩
    rw [View.writes_append]
    refine (hμ l).trans (congrArg (fun P => ((part q kk vv s r l P μ : ℝ) : EReal)) (Finset.ext fun j => ?_))
    simp only [Finset.mem_union, Finset.mem_Ico, Finset.mem_range]
    omega
  · unfold kernelRun0_A.sl.v121 kernelRun0_A.sl.v123 kernelRun0_A.sl.v158 kernelRun0_A.sl.v160 kernelRun0_A.sl.v195 kernelRun0_A.sl.v197 kernelRun0_A.sl.v232 kernelRun0_A.sl.v234
    rw [show Scf.trips (k0_t1_loop i).lb (k0_t1_loop i).ub (k0_t1_loop i).st = (i 1 : ℕ) / 2 from h1,
      show Scf.trips (k0_t2_loop i).lb (k0_t2_loop i).ub (k0_t2_loop i).st = 0 from h2]
    exact ⟨fun r l => congrArg (arg9.view.read (Elt Ideal) _) (slab_emb 256 0 (by decide) _ r l),
      fun r l => congrArg (arg9.view.read (Elt Ideal) _) (slab_emb 256 1 (by decide) _ r l),
      fun r l => congrArg (arg9.view.read (Elt Ideal) _) (slab_emb 256 2 (by decide) _ r l),
      fun r l => congrArg (arg9.view.read (Elt Ideal) _) (slab_emb 256 3 (by decide) _ r l),
      fun r l => congrArg (arg9.view.read (Elt Ideal) _) (slab_emb 256 4 (by decide) _ r l),
      fun r l => congrArg (arg9.view.read (Elt Ideal) _) (slab_emb 256 5 (by decide) _ r l),
      fun r l => congrArg (arg9.view.read (Elt Ideal) _) (slab_emb 256 6 (by decide) _ r l),
      fun r l => congrArg (arg9.view.read (Elt Ideal) _) (slab_emb 256 7 (by decide) _ r l)⟩

/-- What the eight streams' sums are read as at the end of an odd tile. -/
theorem final_B (hc0 : cond0_0 i) (hodd : (i 1).val % 2 = 1) : ∃ A : S8x512x256.Idx → EReal,
      (∀ s r, ∃ μ : ℝ, ∀ l, A (ix3 s r l) = (part q kk vv s r l (Finset.range ((i 1 : ℕ) * 512 + r + 1)) μ : EReal)) ∧
      (∀ r l, kernelRun0_B.sl.v121 (F := Ideal) c i arg2 harg2 arg3 harg3 arg4 harg4 arg5 harg5 arg6 harg6 arg7 harg7 arg8 harg8 arg9 harg9 hc0 x0 x1 x2 (ix3 0 r l) = A (ix3 ⟨0, by decide⟩ r l)) ∧
      (∀ r l, kernelRun0_B.sl.v123 (F := Ideal) c i arg2 harg2 arg3 harg3 arg4 harg4 arg5 harg5 arg6 harg6 arg7 harg7 arg8 harg8 arg9 harg9 hc0 x0 x1 x2 (ix3 0 r l) = A (ix3 ⟨1, by decide⟩ r l)) ∧
      (∀ r l, kernelRun0_B.sl.v158 (F := Ideal) c i arg2 harg2 arg3 harg3 arg4 harg4 arg5 harg5 arg6 harg6 arg7 harg7 arg8 harg8 arg9 harg9 hc0 x0 x1 x2 (ix3 0 r l) = A (ix3 ⟨2, by decide⟩ r l)) ∧
      (∀ r l, kernelRun0_B.sl.v160 (F := Ideal) c i arg2 harg2 arg3 harg3 arg4 harg4 arg5 harg5 arg6 harg6 arg7 harg7 arg8 harg8 arg9 harg9 hc0 x0 x1 x2 (ix3 0 r l) = A (ix3 ⟨3, by decide⟩ r l)) ∧
      (∀ r l, kernelRun0_B.sl.v195 (F := Ideal) c i arg2 harg2 arg3 harg3 arg4 harg4 arg5 harg5 arg6 harg6 arg7 harg7 arg8 harg8 arg9 harg9 hc0 x0 x1 x2 (ix3 0 r l) = A (ix3 ⟨4, by decide⟩ r l)) ∧
      (∀ r l, kernelRun0_B.sl.v197 (F := Ideal) c i arg2 harg2 arg3 harg3 arg4 harg4 arg5 harg5 arg6 harg6 arg7 harg7 arg8 harg8 arg9 harg9 hc0 x0 x1 x2 (ix3 0 r l) = A (ix3 ⟨5, by decide⟩ r l)) ∧
      (∀ r l, kernelRun0_B.sl.v232 (F := Ideal) c i arg2 harg2 arg3 harg3 arg4 harg4 arg5 harg5 arg6 harg6 arg7 harg7 arg8 harg8 arg9 harg9 hc0 x0 x1 x2 (ix3 0 r l) = A (ix3 ⟨6, by decide⟩ r l)) ∧
      (∀ r l, kernelRun0_B.sl.v234 (F := Ideal) c i arg2 harg2 arg3 harg3 arg4 harg4 arg5 harg5 arg6 harg6 arg7 harg7 arg8 harg8 arg9 harg9 hc0 x0 x1 x2 (ix3 0 r l) = A (ix3 ⟨7, by decide⟩ r l)) := by
  have h1 := trips_t1 i
  have h2 := trips_t2 i
  have hb : (i 1 : ℕ) < 8 := (i 1).isLt
  have hd := held_diag (tileQ c arg2 harg2 x0) (at3 (arg3.view.read (Elt Ideal) (harg3.unread x1)))
    (at3 (arg4.view.read (Elt Ideal) (harg4.unread x2))) (((i 1 : ℕ) - 1) * 512) 768 1024 512 q kk vv hQ hK hV
    (fun r => by unfold width; split <;> omega)
  rw [← startM_B c i arg2 harg2 arg3 harg3 arg8 x0 x1 hc0 hodd,
    ← startA_B c i arg2 harg2 arg3 harg3 arg4 harg4 arg9 x0 x1 x2 hc0 hodd] at hd
  have hsw := sweep Variants.none c none i arg2 harg2 arg3 harg3 arg4 harg4 arg5 harg5 arg6 harg6 arg7 harg7 arg8 harg8
    arg9 harg9 (BitVec.ofNat 32 (i 1).val) (kernelRun0_B.sl.r (F := Ideal) c arg2 harg2 x0) (kernelRun0_B.sl.r_1 (F := Ideal) c arg2 harg2 x0) (kernelRun0_B.sl.r_2 (F := Ideal) c arg2 harg2 x0) (kernelRun0_B.sl.r_3 (F := Ideal) c arg2 harg2 x0) (kernelRun0_B.sl.r_47 (F := Ideal) c arg2 harg2 x0) (kernelRun0_B.sl.r_48 (F := Ideal) c arg2 harg2 x0) (kernelRun0_B.sl.r_49 (F := Ideal) c arg2 harg2 x0) (kernelRun0_B.sl.r_50 (F := Ideal) c arg2 harg2 x0) (kernelRun0_B.sl.v78 i) (harg3.unread x1) (harg4.unread x2)
    _ _ q kk vv hQ hK hV _ hd (fun r => Finset.disjoint_left.mpr fun j hj hj' => by
      simp only [Finset.mem_Ico, Finset.mem_range] at hj hj'; omega) ((i 1 : ℕ) / 2) le_rfl
  refine ⟨arg9.view.read (Elt Ideal) (arg9.view.writes (Elt Ideal) arg9.view.junk ((pb_k0_t1 (F := Ideal) Variants.none c none i arg2 harg2 arg3 harg3 arg4 harg4 arg5 harg5 arg6 harg6 arg7 harg7 arg8 harg8 arg9 harg9 (BitVec.ofNat 32 (i 1).val) (kernelRun0_B.sl.r (F := Ideal) c arg2 harg2 x0) (kernelRun0_B.sl.r_1 (F := Ideal) c arg2 harg2 x0) (kernelRun0_B.sl.r_2 (F := Ideal) c arg2 harg2 x0) (kernelRun0_B.sl.r_3 (F := Ideal) c arg2 harg2 x0) (kernelRun0_B.sl.r_47 (F := Ideal) c arg2 harg2 x0) (kernelRun0_B.sl.r_48 (F := Ideal) c arg2 harg2 x0) (kernelRun0_B.sl.r_49 (F := Ideal) c arg2 harg2 x0) (kernelRun0_B.sl.r_50 (F := Ideal) c arg2 harg2 x0) (kernelRun0_B.sl.v78 i) (harg3.unread x1) (harg4.unread x2) (arg8.view.writes (Elt Ideal) arg8.view.junk (kernelRun0_B.sl.HS0_16 (F := Ideal) c i arg2 harg2 arg3 harg3 hc0 x0 x1)) (arg9.view.writes (Elt Ideal) arg9.view.junk (kernelRun0_B.sl.HS1_16 (F := Ideal) c i arg2 harg2 arg3 harg3 arg4 harg4 hc0 x0 x1 x2)) ((i 1 : ℕ) / 2)).2 ++ (kernelRun0_B.sl.HS1_16 (F := Ideal) c i arg2 harg2 arg3 harg3 arg4 harg4 hc0 x0 x1 x2))), fun s r => ?_, ?_⟩
  · obtain ⟨μ, -, hμ⟩ := hsw s r
    refine ⟨μ, fun l => ?_⟩
    rw [View.writes_append]
    refine (hμ l).trans (congrArg (fun P => ((part q kk vv s r l P μ : ℝ) : EReal)) (Finset.ext fun j => ?_))
    simp only [Finset.mem_union, Finset.mem_Ico, Finset.mem_range]
    omega
  · unfold kernelRun0_B.sl.v121 kernelRun0_B.sl.v123 kernelRun0_B.sl.v158 kernelRun0_B.sl.v160 kernelRun0_B.sl.v195 kernelRun0_B.sl.v197 kernelRun0_B.sl.v232 kernelRun0_B.sl.v234
    rw [show Scf.trips (k0_t1_loop i).lb (k0_t1_loop i).ub (k0_t1_loop i).st = (i 1 : ℕ) / 2 from h1,
      show Scf.trips (k0_t2_loop i).lb (k0_t2_loop i).ub (k0_t2_loop i).st = 0 from h2]
    exact ⟨fun r l => congrArg (arg9.view.read (Elt Ideal) _) (slab_emb 256 0 (by decide) _ r l),
      fun r l => congrArg (arg9.view.read (Elt Ideal) _) (slab_emb 256 1 (by decide) _ r l),
      fun r l => congrArg (arg9.view.read (Elt Ideal) _) (slab_emb 256 2 (by decide) _ r l),
      fun r l => congrArg (arg9.view.read (Elt Ideal) _) (slab_emb 256 3 (by decide) _ r l),
      fun r l => congrArg (arg9.view.read (Elt Ideal) _) (slab_emb 256 4 (by decide) _ r l),
      fun r l => congrArg (arg9.view.read (Elt Ideal) _) (slab_emb 256 5 (by decide) _ r l),
      fun r l => congrArg (arg9.view.read (Elt Ideal) _) (slab_emb 256 6 (by decide) _ r l),
      fun r l => congrArg (arg9.view.read (Elt Ideal) _) (slab_emb 256 7 (by decide) _ r l)⟩

end

end Cert.Attn

end
-- ==== Proof.Attn.Closed.lean ====
/- The attention of one batch in real numbers: scores, causal softmax weights, the difference of the two maps applied to
   the values, and the normalized output. -/
module

public import proofs.«01_k».proof.Proof.Attn.Held

@[expose] public section

noncomputable section

namespace Cert.Attn

open Idealize.ShloMosaic Idealize.ShloMosaic.TcCoe

/-- The column of element `e` of map `c` of head `h`. -/
def col (h : Fin 4) (c : Fin 2) (e : Fin 64) : Fin 512 :=
  ⟨h * 128 + e / 32 * 64 + c * 32 + e % 32, by have := h.2; have := c.2; have := e.2; omega⟩

/-- The column of value lane `d` of head `h`. -/
def vcol (h : Fin 4) (d : Fin 128) : Fin 512 := ⟨h * 128 + d, by have := h.2; have := d.2; omega⟩

variable (Q K V : Fin 4096 → Fin 512 → ℝ)

/-- The scaled score of query `t` against key `j` in map `c` of head `h`. -/
def rscore (h : Fin 4) (c : Fin 2) (t j : Fin 4096) : ℝ := ∑ e : Fin 64, Q t (col h c e) * (1 / 8) * K j (col h c e)

/-- The row's normalizer: the sum of the exponentials of the scores of the keys up to `t`. -/
def norm (h : Fin 4) (c : Fin 2) (t : Fin 4096) : ℝ :=
  ∑ j : Fin 4096, if (j : ℕ) ≤ t then Real.exp (rscore Q K h c t j) else 0

/-- The causal softmax weight. -/
def prob (h : Fin 4) (c : Fin 2) (t j : Fin 4096) : ℝ :=
  if (j : ℕ) ≤ t then Real.exp (rscore Q K h c t j) / norm Q K h c t else 0

/-- The attention row: the values weighed by the first map less `lam` times the second. -/
def orow (lam : ℝ) (h : Fin 4) (t : Fin 4096) (d : Fin 128) : ℝ :=
  ∑ j, V j (vcol h d) * (prob Q K h 0 t j - lam * prob Q K h 1 t j)

/-- The normalized output of one row at lane `l`, times the weight `w` and the closing constant. -/
def rmsOut (o : Fin 128 → ℝ) (w : EReal) (l : Fin 128) : EReal :=
  (o l : EReal) * Ideal.rsqrt (Ideal.div (∑ d, (o d : EReal) * (o d : EReal)) (Ideal.ofBits FTy.f32 1124073472#32)
    + Ideal.ofBits FTy.f32 897988541#32) * w * Ideal.ofBits FTy.f32 1061997773#32

/-- A sum over a row whose entries vanish past `t` starts with a positive term. -/
theorem causal_pos (s : Fin 4096 → ℝ) (t : Fin 4096) :
    0 < ∑ j : Fin 4096, if (j : ℕ) ≤ t then Real.exp (s j) else 0 := by
  refine Finset.sum_pos' (fun j _ => ?_) ⟨t, Finset.mem_univ _, ?_⟩
  · split
    · exact (Real.exp_pos _).le
    · exact le_rfl
  · rw [if_pos le_rfl]
    exact Real.exp_pos _

theorem norm_pos (h : Fin 4) (c : Fin 2) (t : Fin 4096) : 0 < norm Q K h c t := causal_pos _ t

/-- The exponential of a masked score less a real number. -/
theorem exp_masked (p : Prop) [Decidable p] (s m : ℝ) :
    Ideal.exp ((if p then (s : EReal) else ⊥) - (m : EReal)) = ((if p then Real.exp (s - m) else 0 : ℝ) : EReal) := by
  split
  · rw [← EReal.coe_sub, Ideal.exp_coe]
  · rw [EReal.bot_sub]
    rfl

/-- A quotient of reals with a nonzero denominator. -/
theorem div_real (a b : ℝ) (hb : b ≠ 0) : Ideal.div (a : EReal) (b : EReal) = ((a / b : ℝ) : EReal) := by
  rw [Ideal.div_coe hb, ← EReal.coe_mul, mul_one_div]

/-- The softmax weight does not depend on the number subtracted from the scores. -/
theorem softmax_row (s : Fin 4096 → ℝ) (t : Fin 4096) (m : ℝ) (j : Fin 4096) :
    Ideal.div (Ideal.exp ((if (j : ℕ) ≤ t then (s j : EReal) else ⊥) - (m : EReal)))
        (∑ x : Fin 4096, Ideal.exp ((if (x : ℕ) ≤ t then (s x : EReal) else ⊥) - (m : EReal)))
      = ((if (j : ℕ) ≤ t then Real.exp (s j) / (∑ x : Fin 4096, if (x : ℕ) ≤ t then Real.exp (s x) else 0) else 0 : ℝ) :
          EReal) := by
  simp only [exp_masked]
  rw [sum_real]
  have e : (∑ x : Fin 4096, if (x : ℕ) ≤ t then Real.exp (s x - m) else 0)
      = Real.exp (-m) * ∑ x : Fin 4096, if (x : ℕ) ≤ t then Real.exp (s x) else 0 := by
    rw [Finset.mul_sum]
    refine Finset.sum_congr rfl fun x _ => ?_
    rw [mul_ite, mul_zero, ← Real.exp_add, neg_add_eq_sub]
  have hp := causal_pos s t
  rw [div_real _ _ (by rw [e]; exact (mul_pos (Real.exp_pos _) hp).ne'), e]
  congr 1
  split
  · rw [sub_eq_neg_add, Real.exp_add, mul_div_mul_left _ _ (Real.exp_pos _).ne']
  · rw [zero_div]

end Cert.Attn

end
-- ==== Proof.Attn.Head.lean ====
/- The last step of a tile: the heads' outputs from the streams' sums. -/
module

public import proofs.«01_k».proof.Proof.Attn.Sweep
public import proofs.«01_k».proof.Proof.Attn.Closed

@[expose] public section

set_option maxRecDepth 16384

noncomputable section

namespace Cert.Attn

open Cert.KernelIdeal Cert.KernelIdeal.Gen Idealize.ShloMosaic Idealize.ShloMosaic.TcCoe

/-- The lane test of the queries' mask. -/
theorem lane_test : ∀ d : Fin 128, k0_pay354 (ix2 0 d) = if (d : ℕ) % 64 < 32 then 1#1 else 0#1 := by
  decide +kernel

/-- The queries of a head's first map. -/
theorem first_lanes (v : Vec Ideal S1x512x128 .bf16) (r : Fin 512) (d : Fin 128) :
    k0_pay357 v (ix2 r d) = if (d : ℕ) % 64 < 32 then v (ix3 0 r d) else 0 := by
  pointwise [k0_pay357, k0_pay355, k0_pay356]
  rw [lane_test]
  split <;> simp [Scalar.select]

/-- The queries of a head's second map. -/
theorem second_lanes (v : Vec Ideal S1x512x128 .bf16) (r : Fin 512) (d : Fin 128) :
    k0_pay358 v (ix2 r d) = if (d : ℕ) % 64 < 32 then 0 else v (ix3 0 r d) := by
  pointwise [k0_pay358, k0_pay355, k0_pay356]
  rw [lane_test]
  split <;> simp [Scalar.select]

/-- One head's output: the difference of the two maps' quotients, normalized. -/
theorem head_apply (lam : Vec Ideal S4x64 .f32) (a1 a2 : Vec Ideal S1x512x256 .f32) (sw : Vec Ideal S1x128 .f32)
    (r : Fin 512) (o : Fin 128 → ℝ)
    (ho : ∀ l : Fin 128, (a1 (ix3 0 r ⟨l, by omega⟩) * Ideal.div 1 (a1 (ix3 0 r ⟨128 + l, by omega⟩)) -
            (Ideal.exp (∑ x : Fin 64, lam (ix2 0 x) * lam (ix2 1 x)) - Ideal.exp (∑ x : Fin 64, lam (ix2 2 x) * lam (ix2 3 x)) +
                Ideal.ofBits FTy.f32 1045220557#32) *
              (a2 (ix3 0 r ⟨l, by omega⟩) * Ideal.div 1 (a2 (ix3 0 r ⟨128 + l, by omega⟩)))) = ((o l : ℝ) : EReal))
    (l : Fin 128) :
    k0_pay382 (F := Ideal) (k0_pay379 lam) (k0_pay380 lam) a1 a2 sw (ix3 0 r l) = rmsOut o (sw (ix2 0 l)) l := by
  pointwise [k0_pay382, k0_pay379, k0_pay380, k0_pay381, k0_pay378]
  simp only [ho]
  rfl

/-- A sum over the lanes of one map is the sum over its elements. -/
theorem sum_lanes (c : Fin 2) (f : ℕ → ℝ) :
    (∑ d : Fin 128, if (d : ℕ) % 64 / 32 = c then f d else 0) = ∑ e : Fin 64, f ((e : ℕ) / 32 * 64 + c * 32 + e % 32) := by
  have := c.2
  rw [← Finset.sum_filter]
  refine Finset.sum_nbij' (fun d => (⟨(d : ℕ) / 64 * 32 + d % 32, by omega⟩ : Fin 64))
    (fun e => (⟨(e : ℕ) / 32 * 64 + c * 32 + e % 32, by omega⟩ : Fin 128)) ?_ ?_ ?_ ?_ ?_
  · exact fun d _ => Finset.mem_univ _
  · intro e _
    simp only [Finset.mem_filter, Finset.mem_univ, true_and]
    omega
  · intro d hd
    simp only [Finset.mem_filter, Finset.mem_univ, true_and] at hd
    refine Fin.ext ?_
    dsimp only
    omega
  · intro e _
    refine Fin.ext ?_
    dsimp only
    omega
  · intro d hd
    simp only [Finset.mem_filter, Finset.mem_univ, true_and] at hd
    refine congrArg f ?_
    dsimp only
    omega

/-- A sum over the first positions is the sum over all of them of the terms kept. -/
theorem sum_first (t : Fin 4096) (f : ℕ → ℝ) :
    ∑ j ∈ Finset.range ((t : ℕ) + 1), f j = ∑ j : Fin 4096, if (j : ℕ) ≤ t then f j else 0 := by
  rw [Fin.sum_univ_eq_sum_range (fun j => if j ≤ (t : ℕ) then f j else 0) 4096, ← Finset.sum_filter]
  refine Finset.sum_congr (Finset.ext fun j => ?_) fun _ _ => rfl
  simp only [Finset.mem_range, Finset.mem_filter]
  omega

section
variable (Q K V : Fin 4096 → Fin 512 → ℝ) (q : Fin 8 → Fin 512 → Fin 128 → ℝ) (kk vv : ℕ → ℕ → ℝ)
  (h : Fin 4) (c : Fin 2) (s : Fin 8) (r : Fin 512) (t : Fin 4096)

/-- A stream's score is the scaled score of its map over the logarithm of two. -/
theorem sc_eq (hs : (s : ℕ) = 2 * h + c)
    (hq : ∀ d : Fin 128, q s r d = if (d : ℕ) % 64 / 32 = c then Q t (vcol h d) * (1 / 8 / Real.log 2) else 0)
    (hk : ∀ (j : Fin 4096) (e : Fin 512), kk j e = K j e) (j : Fin 4096) :
    sc q kk s r j = rscore Q K h c t j / Real.log 2 := by
  have hh := h.2
  have hc := c.2
  obtain ⟨f, hf⟩ : ∃ f : ℕ → ℝ, ∀ d : Fin 128, f d = Q t (vcol h d) * (1 / 8 / Real.log 2) * K j (vcol h d) :=
    ⟨fun n => if hn : n < 128 then Q t (vcol h ⟨n, hn⟩) * (1 / 8 / Real.log 2) * K j (vcol h ⟨n, hn⟩) else 0,
      fun d => dif_pos d.2⟩
  have e1 : ∀ d : Fin 128, q s r d * kk j ((s : ℕ) / 2 * 128 + d) = if (d : ℕ) % 64 / 32 = c then f d else 0 := fun d => by
    have hk' := hk j (vcol h d)
    rw [hq, show (s : ℕ) / 2 * 128 + (d : ℕ) = ((vcol h d : Fin 512) : ℕ) by simp only [vcol]; omega, hk', hf]
    split
    · rfl
    · rw [zero_mul]
  rw [sc, Finset.sum_congr rfl fun d _ => e1 d, sum_lanes, rscore, Finset.sum_div]
  refine Finset.sum_congr rfl fun e _ => ?_
  have he := e.2
  have ec : vcol h ⟨(e : ℕ) / 32 * 64 + c * 32 + e % 32, by omega⟩ = col h c e := Fin.ext (by
    simp only [vcol, col]; omega)
  rw [hf ⟨(e : ℕ) / 32 * 64 + c * 32 + e % 32, by omega⟩, ec]
  ring

/-- The quotient of a stream's value sum by its normalizer is the map's weights applied to the values. -/
theorem quotient_eq (hs : (s : ℕ) = 2 * h + c)
    (hq : ∀ d : Fin 128, q s r d = if (d : ℕ) % 64 / 32 = c then Q t (vcol h d) * (1 / 8 / Real.log 2) else 0)
    (hk : ∀ (j : Fin 4096) (e : Fin 512), kk j e = K j e) (hv : ∀ (j : Fin 4096) (e : Fin 512), vv j e = V j e)
    (μ : ℝ) (l : Fin 128) :
    (part q kk vv s r ⟨l, by omega⟩ (Finset.range ((t : ℕ) + 1)) μ : EReal)
        * Ideal.div 1 (part q kk vv s r ⟨128 + l, by omega⟩ (Finset.range ((t : ℕ) + 1)) μ : EReal)
      = ((∑ j, V j (vcol h l) * prob Q K h c t j : ℝ) : EReal) := by
  have hh := h.2
  have hc := c.2
  have hpow : ∀ j : Fin 4096, (2 : ℝ) ^ (sc q kk s r j - μ) = Real.exp (rscore Q K h c t j) * (2 : ℝ) ^ (-μ) := fun j => by
    rw [sc_eq Q K q kk h c s r t hs hq hk, sub_eq_add_neg, Real.rpow_add two_pos]
    congr 1
    rw [Real.rpow_def_of_pos two_pos, mul_div_cancel₀ _ (Real.log_pos one_lt_two).ne']
  have hp : (0 : ℝ) < (2 : ℝ) ^ (-μ) := Real.rpow_pos_of_pos two_pos _
  have e1 : part q kk vv s r ⟨l, by omega⟩ (Finset.range ((t : ℕ) + 1)) μ
      = (2 : ℝ) ^ (-μ) * ∑ j : Fin 4096, V j (vcol h l) * if (j : ℕ) ≤ t then Real.exp (rscore Q K h c t j) else 0 := by
    rw [part, sum_first, Finset.mul_sum]
    refine Finset.sum_congr rfl fun j _ => ?_
    rw [hpow, vl, ones, dif_pos l.2]
    have := hv j (vcol h l)
    rw [show (s : ℕ) / 2 * 128 + (l : ℕ) = ((vcol h l : Fin 512) : ℕ) by simp only [vcol]; omega, this]
    split
    · ring
    · ring
  have e2 : part q kk vv s r ⟨128 + l, by omega⟩ (Finset.range ((t : ℕ) + 1)) μ = (2 : ℝ) ^ (-μ) * norm Q K h c t := by
    rw [part, sum_first, norm, Finset.mul_sum]
    refine Finset.sum_congr rfl fun j _ => ?_
    rw [hpow, vl, ones, dif_neg (by simp)]
    split
    · ring
    · ring
  have hn := norm_pos Q K h c t
  rw [e1, e2, show (1 : EReal) = ((1 : ℝ) : EReal) from rfl, div_real _ _ (mul_pos hp hn).ne', ← EReal.coe_mul]
  congr 1
  rw [mul_one_div, mul_div_mul_left _ _ hp.ne', Finset.sum_div]
  refine Finset.sum_congr rfl fun j _ => ?_
  rw [prob, mul_div_assoc]
  split
  · rfl
  · rw [zero_div]

end

/-- One head's output from its two streams' sums. -/
theorem head_value (Q K V : Fin 4096 → Fin 512 → ℝ) (q : Fin 8 → Fin 512 → Fin 128 → ℝ) (kk vv : ℕ → ℕ → ℝ)
    (lam : Vec Ideal S4x64 .f32) (a1 a2 : Vec Ideal S1x512x256 .f32) (sw : Vec Ideal S1x128 .f32)
    (A : S8x512x256.Idx → EReal) (r : Fin 512) (t : Fin 4096) (L : ℝ)
    (hL : Ideal.exp (∑ x : Fin 64, lam (ix2 0 x) * lam (ix2 1 x)) - Ideal.exp (∑ x : Fin 64, lam (ix2 2 x) * lam (ix2 3 x)) +
                Ideal.ofBits FTy.f32 1045220557#32 = (L : EReal))
    (hq : ∀ (s : Fin 8) (d : Fin 128), q s r d = if (d : ℕ) % 64 / 32 = (s : ℕ) % 2 then
      Q t ⟨(s : ℕ) / 2 * 128 + d, by omega⟩ * (1 / 8 / Real.log 2) else 0)
    (hk : ∀ (j : Fin 4096) (e : Fin 512), kk j e = K j e) (hv : ∀ (j : Fin 4096) (e : Fin 512), vv j e = V j e)
    (hA : ∀ s, ∃ μ : ℝ, ∀ l, A (ix3 s r l) = (part q kk vv s r l (Finset.range ((t : ℕ) + 1)) μ : EReal))
    (h : Fin 4) (s1 s2 : Fin 8) (hs1 : (s1 : ℕ) = 2 * h) (hs2 : (s2 : ℕ) = 2 * h + 1)
    (h1 : ∀ r l, a1 (ix3 0 r l) = A (ix3 s1 r l)) (h2 : ∀ r l, a2 (ix3 0 r l) = A (ix3 s2 r l)) (l : Fin 128) :
    k0_pay382 (F := Ideal) (k0_pay379 lam) (k0_pay380 lam) a1 a2 sw (ix3 0 r l)
      = rmsOut (orow Q K V L h t) (sw (ix2 0 l)) l := by
  refine head_apply lam a1 a2 sw r _ (fun d => ?_) l
  obtain ⟨μ1, m1⟩ := hA s1
  obtain ⟨μ2, m2⟩ := hA s2
  have hq' : ∀ (c : Fin 2) (s : Fin 8), (s : ℕ) = 2 * h + c → ∀ d : Fin 128,
      q s r d = if (d : ℕ) % 64 / 32 = c then Q t (vcol h d) * (1 / 8 / Real.log 2) else 0 := fun c s hs d => by
    have hc := c.2
    rw [hq, show (s : ℕ) % 2 = c by omega]
    congr 4
    omega
  rw [hL, h1, h1, h2, h2, m1, m1, m2, m2,
    quotient_eq Q K V q kk vv h 0 s1 r t (by simpa using hs1) (hq' 0 s1 (by simpa using hs1)) hk hv,
    quotient_eq Q K V q kk vv h 1 s2 r t (by simpa using hs2) (hq' 1 s2 (by simpa using hs2)) hk hv,
    ← EReal.coe_mul, ← EReal.coe_sub]
  congr 1
  rw [orow, Finset.mul_sum, ← Finset.sum_sub_distrib]
  refine Finset.sum_congr rfl fun j _ => ?_
  ring

end Cert.Attn

end
-- ==== Proof.Attn.Tile.lean ====
/- One tile of the attention kernel: every entry of its output block in closed form. -/
module

public import proofs.«01_k».proof.Proof.Attn.Head
public import proofs.«01_k».proof.Proof.Gen.KernelIdeal.Frame

@[expose] public section

set_option maxRecDepth 16384
set_option maxHeartbeats 4000000

noncomputable section

namespace Cert.Attn

open Cert.KernelIdeal Cert.KernelIdeal.Gen Idealize.ShloMosaic Idealize.ShloMosaic.TcCoe

/-- A load of a head's columns of the query tile. -/
theorem load_q (arg2 : Memref sig .tc .vmem S1x512x512 .bf16) (harg2 : arg2.IsWhole) (x0 : Vec Ideal S1x512x512 .bf16)
    (e : ℕ) (he : e ≤ 384) (inb) (r : Fin 512) (d : Fin 128) :
    View.readAt (Elt Ideal) arg2.view (Rect.unit (s := S1x512x512) ![0, 0, e] S1x512x128.size inb).toLoadRect
      (harg2.unread x0) (ix3 0 r d) = x0 (ix3 0 r ⟨e + d, by omega⟩) := by
  refine (congrArg (arg2.view.read (Elt Ideal) (harg2.unread x0)) (funext fun a => Fin.ext ?_)).trans
    (congrFun (harg2.read_unread x0) _)
  match a with
  | ⟨0, _⟩ => simp [LoadRect.idx, Rect.unit]
  | ⟨1, _⟩ => simp [LoadRect.idx, Rect.unit]
  | ⟨2, _⟩ => simp [LoadRect.idx, Rect.unit]

/-- A load of a whole two-axis block is the block. -/
theorem load_all {n w : ℕ} (arg : Memref sig .tc .vmem ⟨2, ![n, w]⟩ .f32) (harg : arg.IsWhole) (x : Vec Ideal ⟨2, ![n, w]⟩ .f32)
    (inb) : View.readAt (Elt Ideal) arg.view (Rect.unit (s := ⟨2, ![n, w]⟩) ![0, 0] ![n, w] inb).toLoadRect (harg.unread x) = x := by
  funext y
  refine (congrArg (arg.view.read (Elt Ideal) (harg.unread x)) (funext fun a => Fin.ext ?_)).trans
    (congrFun (harg.read_unread x) y)
  match a with
  | ⟨0, _⟩ => simp [LoadRect.idx, Rect.unit]
  | ⟨1, _⟩ => simp [LoadRect.idx, Rect.unit]

/-- The real queries of a stream: the lanes of its map, scaled. -/
def realQ (Q : Fin 512 → Fin 512 → ℝ) (s : Fin 8) (r : Fin 512) (d : Fin 128) : ℝ :=
  if (d : ℕ) % 64 / 32 = (s : ℕ) % 2 then Q r ⟨(s : ℕ) / 2 * 128 + d, by omega⟩ * (1 / 8 / Real.log 2) else 0

/-- Entries of a first map's lanes. -/
theorem even_lanes (Q : Fin 512 → Fin 512 → ℝ) (x0 : Vec Ideal S1x512x512 .bf16)
    (hx0 : ∀ r d, x0 (ix3 0 r d) = ((Q r d * (1 / 8 / Real.log 2) : ℝ) : EReal)) (v : Vec Ideal S1x512x128 .bf16) (s : Fin 8)
    (hs : (s : ℕ) % 2 = 0) (hv : ∀ r d, v (ix3 0 r d) = x0 (ix3 0 r ⟨(s : ℕ) / 2 * 128 + d, by omega⟩)) (r : Fin 512) (d : Fin 128) :
    k0_pay357 v (ix2 r d) = (realQ Q s r d : EReal) := by
  rw [first_lanes, hv, hx0, realQ, hs]
  by_cases h : (d : ℕ) % 64 < 32
  · rw [if_pos h, if_pos (by omega)]
  · rw [if_neg h, if_neg (by omega)]
    rfl

/-- Entries of a second map's lanes. -/
theorem odd_lanes (Q : Fin 512 → Fin 512 → ℝ) (x0 : Vec Ideal S1x512x512 .bf16)
    (hx0 : ∀ r d, x0 (ix3 0 r d) = ((Q r d * (1 / 8 / Real.log 2) : ℝ) : EReal)) (v : Vec Ideal S1x512x128 .bf16) (s : Fin 8)
    (hs : (s : ℕ) % 2 = 1) (hv : ∀ r d, v (ix3 0 r d) = x0 (ix3 0 r ⟨(s : ℕ) / 2 * 128 + d, by omega⟩)) (r : Fin 512) (d : Fin 128) :
    k0_pay358 v (ix2 r d) = (realQ Q s r d : EReal) := by
  rw [second_lanes, hv, hx0, realQ, hs]
  by_cases h : (d : ℕ) % 64 < 32
  · rw [if_pos h, if_neg (by omega)]
    rfl
  · rw [if_neg h, if_pos (by omega)]

/-- The tile's queries by stream. -/
theorem tileQ_apply (c : Dev nD) (arg2 : Memref sig .tc .vmem S1x512x512 .bf16) (harg2 : arg2.IsWhole)
    (x0 : Vec Ideal S1x512x512 .bf16) (Q : Fin 512 → Fin 512 → ℝ)
    (hx0 : ∀ r d, x0 (ix3 0 r d) = ((Q r d * (1 / 8 / Real.log 2) : ℝ) : EReal)) (s : Fin 8) (r : Fin 512) (d : Fin 128) :
    tileQ c arg2 harg2 x0 s (ix2 r d) = (realQ Q s r d : EReal) := by
  fin_cases s
  · exact even_lanes Q x0 hx0 _ 0 rfl (fun r d => load_q arg2 harg2 x0 0 (by decide) _ r d) r d
  · exact odd_lanes Q x0 hx0 _ 1 rfl (fun r d => load_q arg2 harg2 x0 0 (by decide) _ r d) r d
  · exact even_lanes Q x0 hx0 _ 2 rfl (fun r d => load_q arg2 harg2 x0 128 (by decide) _ r d) r d
  · exact odd_lanes Q x0 hx0 _ 3 rfl (fun r d => load_q arg2 harg2 x0 128 (by decide) _ r d) r d
  · exact even_lanes Q x0 hx0 _ 4 rfl (fun r d => load_q arg2 harg2 x0 256 (by decide) _ r d) r d
  · exact odd_lanes Q x0 hx0 _ 5 rfl (fun r d => load_q arg2 harg2 x0 256 (by decide) _ r d) r d
  · exact even_lanes Q x0 hx0 _ 6 rfl (fun r d => load_q arg2 harg2 x0 384 (by decide) _ r d) r d
  · exact odd_lanes Q x0 hx0 _ 7 rfl (fun r d => load_q arg2 harg2 x0 384 (by decide) _ r d) r d

/-- A block of keys or values in real numbers. -/
def realK (K : Fin 4096 → Fin 512 → ℝ) (j d : ℕ) : ℝ := if h : j < 4096 ∧ d < 512 then K ⟨j, h.1⟩ ⟨d, h.2⟩ else 0

theorem realK_apply (K : Fin 4096 → Fin 512 → ℝ) (j : Fin 4096) (d : Fin 512) : realK K j d = K j d := dif_pos ⟨j.2, d.2⟩

theorem at3_real (arg : Memref sig .tc .vmem S1x4096x512 .bf16) (harg : arg.IsWhole) (x : Vec Ideal S1x4096x512 .bf16)
    (K : Fin 4096 → Fin 512 → ℝ) (hx : ∀ j d, x (ix3 0 j d) = (K j d : EReal)) (j d : ℕ) :
    at3 (arg.view.read (Elt Ideal) (harg.unread x)) j d = (realK K j d : EReal) := by
  unfold at3 realK
  split
  · rw [harg.read_unread, hx]
  · rfl

theorem row_lt {o r : ℕ} (ho : o ≤ 3584) (hr : r < 512) : o + r < 4096 := by omega

theorem mod_lt (n : ℕ) : n % 128 < 128 := Nat.mod_lt _ (by decide)

theorem div_lt {n : ℕ} (h : n < 512) : n / 128 < 4 := by omega

/-- The tile's output in closed form. -/
def tileOut (Q K V : Fin 4096 → Fin 512 → ℝ) (L : ℝ) (o : ℕ) (ho : o ≤ 3584) (w : Vec Ideal S1x128 .f32) (y : S1x512x512.Idx) : EReal :=
  rmsOut (orow Q K V L ⟨(y 2 : ℕ) / 128, div_lt (y 2).isLt⟩
      ⟨o + (y 1 : ℕ), row_lt ho (y 1).isLt⟩)
    (w (ix2 0 ⟨(y 2 : ℕ) % 128, mod_lt _⟩)) ⟨(y 2 : ℕ) % 128, mod_lt _⟩

/-- One head's slab of the tile's output. -/
theorem out_piece (Q K V : Fin 4096 → Fin 512 → ℝ) (L : ℝ) (o : ℕ) (ho : o ≤ 3584) (w : Vec Ideal S1x128 .f32) (h : Fin 4) (e : ℕ)
    (he : e = (h : ℕ) * 128) (inb) (f : Vec Ideal S1x512x128 .bf16)
    (hf : ∀ (r : Fin 512) (l : Fin 128), f (ix3 0 r l)
      = rmsOut (orow Q K V L h ⟨o + r, by omega⟩) (w (ix2 0 l)) l) (x : S1x512x128.Idx) :
    f x = tileOut Q K V L o ho w ((Rect.unit (s := S1x512x512) ![0, 0, e] S1x512x128.size inb).emb x) := by
  obtain ⟨r, l, rfl⟩ : ∃ (r : Fin 512) (l : Fin 128), x = ix3 0 r l := exists_ix3 x
  have e0 : (Rect.unit (s := S1x512x512) ![0, 0, e] S1x512x128.size inb).emb (ix3 0 r l) = ix3 0 r (vcol h l) := by
    refine funext fun a => Fin.ext ?_
    subst he
    match a with
    | ⟨0, _⟩ => simp [Rect.emb, LoadRect.idx, Rect.unit]
    | ⟨1, _⟩ => simp [Rect.emb, LoadRect.idx, Rect.unit]
    | ⟨2, _⟩ => simp [Rect.emb, LoadRect.idx, Rect.unit, vcol]
  have e1 : (⟨((vcol h l : Fin 512) : ℕ) / 128, by have := (vcol h l).2; omega⟩ : Fin 4) = h := by
    apply Fin.ext; simp only [vcol]; have := l.2; omega
  have e2 : (⟨((vcol h l : Fin 512) : ℕ) % 128, by omega⟩ : Fin 128) = l := by
    apply Fin.ext; simp only [vcol]; have := l.2; omega
  rw [e0, hf]
  show _ = rmsOut (orow Q K V L ⟨((vcol h l : Fin 512) : ℕ) / 128, _⟩ ⟨o + (r : ℕ), _⟩)
    (w (ix2 0 ⟨((vcol h l : Fin 512) : ℕ) % 128, _⟩)) ⟨((vcol h l : Fin 512) : ℕ) % 128, _⟩
  rw [e1, e2]

section
variable (c : Dev nD) (i : grid0.Coords) (arg2 : Memref sig .tc .vmem S1x512x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x512 .bf16) (harg7 : arg7.IsWhole) (arg8 : Memref sig .tc .vmem S8x512x128 .f32) (harg8 : arg8.IsWhole) (arg9 : Memref sig .tc .vmem S8x512x256 .f32) (harg9 : arg9.IsWhole)
variable (x0 : Vec Ideal S1x512x512 .bf16) (x1 : Vec Ideal S1x4096x512 .bf16) (x2 : Vec Ideal S1x4096x512 .bf16)
  (x3 : Vec Ideal S4x64 .f32) (x4 : Vec Ideal S1x128 .f32) (Q K V : Fin 4096 → Fin 512 → ℝ) (L : ℝ)
variable (hb : (i 1 : ℕ) * 512 ≤ 3584)
  (hx0 : ∀ (r : Fin 512) (d : Fin 512), x0 (ix3 0 r d) = ((Q ⟨(i 1 : ℕ) * 512 + r, row_lt hb r.isLt⟩ d * (1 / 8 / Real.log 2) : ℝ) : EReal))
  (hx1 : ∀ j d, x1 (ix3 0 j d) = (K j d : EReal)) (hx2 : ∀ j d, x2 (ix3 0 j d) = (V j d : EReal))
  (hL : Ideal.exp (∑ x : Fin 64, x3 (ix2 0 x) * x3 (ix2 1 x)) - Ideal.exp (∑ x : Fin 64, x3 (ix2 2 x) * x3 (ix2 3 x)) +
                Ideal.ofBits FTy.f32 1045220557#32 = (L : EReal))
include hx0 hx1 hx2 hL

/-- The output block of an even tile. -/
theorem tile_A (hc0 : ¬cond0_0 i) (hc1 : cond0_1 i) (hpar : (i 1).val % 2 = 0) (y : S1x512x512.Idx) :
    out0_A_5 (F := Ideal) c i arg2 harg2 arg3 harg3 arg4 harg4 arg5 harg5 arg6 harg6 arg7 harg7 arg8 harg8 arg9 harg9 hc0 hc1 x0 x1 x2 x3 x4 y = tileOut Q K V L _ hb x4 y := by
  obtain ⟨A, hA, e0, e1, e2, e3, e4, e5, e6, e7⟩ := final_A c i arg2 harg2 arg3 harg3 arg4 harg4 arg5 harg5 arg6 harg6 arg7 harg7 arg8 harg8 arg9 harg9 x0 x1 x2
    (realQ fun r d => Q ⟨(i 1 : ℕ) * 512 + r, row_lt hb r.isLt⟩ d) (realK K) (realK V) (tileQ_apply c arg2 harg2 x0 _ hx0)
    (at3_real arg3 harg3 x1 K hx1) (at3_real arg4 harg4 x2 V hx2) hc1 hpar
  have hc := cover0_A_5 (F := Ideal) c i arg2 harg2 arg3 harg3 arg4 harg4 arg5 harg5 arg6 harg6 arg7 harg7 arg8 harg8 arg9 harg9 hc0 hc1 x0 x1 x2 x3 x4 y
  refine (View.read_writes_apply_eq_canon _ _ _ _ hc).trans (View.canon_apply_of_pieces _ _ ?_ _ hc)
  unfold kernelRun0_A
  dsimp only
  unfold kernelRun0_A.sl.r_46 kernelRun0_A.sl.r_45 kernelRun0_A.sl.r_44
  rw [load_all arg5 harg5 x3, load_all arg6 harg6 x4]
  simp only [List.forall_mem_cons]
  exact ⟨fun x => out_piece Q K V L _ hb x4 3 384 rfl _ (k0_pay382 (F := Ideal) (k0_pay379 x3) (k0_pay380 x3) (kernelRun0_A.sl.v232 (F := Ideal) c i arg2 harg2 arg3 harg3 arg4 harg4 arg5 harg5 arg6 harg6 arg7 harg7 arg8 harg8 arg9 harg9 hc1 x0 x1 x2) (kernelRun0_A.sl.v234 (F := Ideal) c i arg2 harg2 arg3 harg3 arg4 harg4 arg5 harg5 arg6 harg6 arg7 harg7 arg8 harg8 arg9 harg9 hc1 x0 x1 x2) x4)
      (fun r l => head_value Q K V _ _ _ x3 _ _ x4 A r ⟨(i 1 : ℕ) * 512 + r, row_lt hb r.isLt⟩ L hL (fun _ _ => rfl) (realK_apply K) (realK_apply V)
        (fun s => hA s r) 3 6 7 rfl rfl e6 e7 l) x,
    fun x => out_piece Q K V L _ hb x4 2 256 rfl _ (k0_pay382 (F := Ideal) (k0_pay379 x3) (k0_pay380 x3) (kernelRun0_A.sl.v195 (F := Ideal) c i arg2 harg2 arg3 harg3 arg4 harg4 arg5 harg5 arg6 harg6 arg7 harg7 arg8 harg8 arg9 harg9 hc1 x0 x1 x2) (kernelRun0_A.sl.v197 (F := Ideal) c i arg2 harg2 arg3 harg3 arg4 harg4 arg5 harg5 arg6 harg6 arg7 harg7 arg8 harg8 arg9 harg9 hc1 x0 x1 x2) x4)
      (fun r l => head_value Q K V _ _ _ x3 _ _ x4 A r ⟨(i 1 : ℕ) * 512 + r, row_lt hb r.isLt⟩ L hL (fun _ _ => rfl) (realK_apply K) (realK_apply V)
        (fun s => hA s r) 2 4 5 rfl rfl e4 e5 l) x,
    fun x => out_piece Q K V L _ hb x4 1 128 rfl _ (k0_pay382 (F := Ideal) (k0_pay379 x3) (k0_pay380 x3) (kernelRun0_A.sl.v158 (F := Ideal) c i arg2 harg2 arg3 harg3 arg4 harg4 arg5 harg5 arg6 harg6 arg7 harg7 arg8 harg8 arg9 harg9 hc1 x0 x1 x2) (kernelRun0_A.sl.v160 (F := Ideal) c i arg2 harg2 arg3 harg3 arg4 harg4 arg5 harg5 arg6 harg6 arg7 harg7 arg8 harg8 arg9 harg9 hc1 x0 x1 x2) x4)
      (fun r l => head_value Q K V _ _ _ x3 _ _ x4 A r ⟨(i 1 : ℕ) * 512 + r, row_lt hb r.isLt⟩ L hL (fun _ _ => rfl) (realK_apply K) (realK_apply V)
        (fun s => hA s r) 1 2 3 rfl rfl e2 e3 l) x,
    fun x => out_piece Q K V L _ hb x4 0 0 rfl _ (k0_pay382 (F := Ideal) (k0_pay379 x3) (k0_pay380 x3) (kernelRun0_A.sl.v121 (F := Ideal) c i arg2 harg2 arg3 harg3 arg4 harg4 arg5 harg5 arg6 harg6 arg7 harg7 arg8 harg8 arg9 harg9 hc1 x0 x1 x2) (kernelRun0_A.sl.v123 (F := Ideal) c i arg2 harg2 arg3 harg3 arg4 harg4 arg5 harg5 arg6 harg6 arg7 harg7 arg8 harg8 arg9 harg9 hc1 x0 x1 x2) x4)
      (fun r l => head_value Q K V _ _ _ x3 _ _ x4 A r ⟨(i 1 : ℕ) * 512 + r, row_lt hb r.isLt⟩ L hL (fun _ _ => rfl) (realK_apply K) (realK_apply V)
        (fun s => hA s r) 0 0 1 rfl rfl e0 e1 l) x,
    fun _ h => absurd h (by simp)⟩

/-- The output block of an odd tile. -/
theorem tile_B (hc0 : cond0_0 i) (hc1 : ¬cond0_1 i) (hpar : (i 1).val % 2 = 1) (y : S1x512x512.Idx) :
    out0_B_5 (F := Ideal) c i arg2 harg2 arg3 harg3 arg4 harg4 arg5 harg5 arg6 harg6 arg7 harg7 arg8 harg8 arg9 harg9 hc0 hc1 x0 x1 x2 x3 x4 y = tileOut Q K V L _ hb x4 y := by
  obtain ⟨A, hA, e0, e1, e2, e3, e4, e5, e6, e7⟩ := final_B c i arg2 harg2 arg3 harg3 arg4 harg4 arg5 harg5 arg6 harg6 arg7 harg7 arg8 harg8 arg9 harg9 x0 x1 x2
    (realQ fun r d => Q ⟨(i 1 : ℕ) * 512 + r, row_lt hb r.isLt⟩ d) (realK K) (realK V) (tileQ_apply c arg2 harg2 x0 _ hx0)
    (at3_real arg3 harg3 x1 K hx1) (at3_real arg4 harg4 x2 V hx2) hc0 hpar
  have hc := cover0_B_5 (F := Ideal) c i arg2 harg2 arg3 harg3 arg4 harg4 arg5 harg5 arg6 harg6 arg7 harg7 arg8 harg8 arg9 harg9 hc0 hc1 x0 x1 x2 x3 x4 y
  refine (View.read_writes_apply_eq_canon _ _ _ _ hc).trans (View.canon_apply_of_pieces _ _ ?_ _ hc)
  unfold kernelRun0_B
  dsimp only
  unfold kernelRun0_B.sl.r_53 kernelRun0_B.sl.r_52 kernelRun0_B.sl.r_51
  rw [load_all arg5 harg5 x3, load_all arg6 harg6 x4]
  simp only [List.forall_mem_cons]
  exact ⟨fun x => out_piece Q K V L _ hb x4 3 384 rfl _ (k0_pay382 (F := Ideal) (k0_pay379 x3) (k0_pay380 x3) (kernelRun0_B.sl.v232 (F := Ideal) c i arg2 harg2 arg3 harg3 arg4 harg4 arg5 harg5 arg6 harg6 arg7 harg7 arg8 harg8 arg9 harg9 hc0 x0 x1 x2) (kernelRun0_B.sl.v234 (F := Ideal) c i arg2 harg2 arg3 harg3 arg4 harg4 arg5 harg5 arg6 harg6 arg7 harg7 arg8 harg8 arg9 harg9 hc0 x0 x1 x2) x4)
      (fun r l => head_value Q K V _ _ _ x3 _ _ x4 A r ⟨(i 1 : ℕ) * 512 + r, row_lt hb r.isLt⟩ L hL (fun _ _ => rfl) (realK_apply K) (realK_apply V)
        (fun s => hA s r) 3 6 7 rfl rfl e6 e7 l) x,
    fun x => out_piece Q K V L _ hb x4 2 256 rfl _ (k0_pay382 (F := Ideal) (k0_pay379 x3) (k0_pay380 x3) (kernelRun0_B.sl.v195 (F := Ideal) c i arg2 harg2 arg3 harg3 arg4 harg4 arg5 harg5 arg6 harg6 arg7 harg7 arg8 harg8 arg9 harg9 hc0 x0 x1 x2) (kernelRun0_B.sl.v197 (F := Ideal) c i arg2 harg2 arg3 harg3 arg4 harg4 arg5 harg5 arg6 harg6 arg7 harg7 arg8 harg8 arg9 harg9 hc0 x0 x1 x2) x4)
      (fun r l => head_value Q K V _ _ _ x3 _ _ x4 A r ⟨(i 1 : ℕ) * 512 + r, row_lt hb r.isLt⟩ L hL (fun _ _ => rfl) (realK_apply K) (realK_apply V)
        (fun s => hA s r) 2 4 5 rfl rfl e4 e5 l) x,
    fun x => out_piece Q K V L _ hb x4 1 128 rfl _ (k0_pay382 (F := Ideal) (k0_pay379 x3) (k0_pay380 x3) (kernelRun0_B.sl.v158 (F := Ideal) c i arg2 harg2 arg3 harg3 arg4 harg4 arg5 harg5 arg6 harg6 arg7 harg7 arg8 harg8 arg9 harg9 hc0 x0 x1 x2) (kernelRun0_B.sl.v160 (F := Ideal) c i arg2 harg2 arg3 harg3 arg4 harg4 arg5 harg5 arg6 harg6 arg7 harg7 arg8 harg8 arg9 harg9 hc0 x0 x1 x2) x4)
      (fun r l => head_value Q K V _ _ _ x3 _ _ x4 A r ⟨(i 1 : ℕ) * 512 + r, row_lt hb r.isLt⟩ L hL (fun _ _ => rfl) (realK_apply K) (realK_apply V)
        (fun s => hA s r) 1 2 3 rfl rfl e2 e3 l) x,
    fun x => out_piece Q K V L _ hb x4 0 0 rfl _ (k0_pay382 (F := Ideal) (k0_pay379 x3) (k0_pay380 x3) (kernelRun0_B.sl.v121 (F := Ideal) c i arg2 harg2 arg3 harg3 arg4 harg4 arg5 harg5 arg6 harg6 arg7 harg7 arg8 harg8 arg9 harg9 hc0 x0 x1 x2) (kernelRun0_B.sl.v123 (F := Ideal) c i arg2 harg2 arg3 harg3 arg4 harg4 arg5 harg5 arg6 harg6 arg7 harg7 arg8 harg8 arg9 harg9 hc0 x0 x1 x2) x4)
      (fun r l => head_value Q K V _ _ _ x3 _ _ x4 A r ⟨(i 1 : ℕ) * 512 + r, row_lt hb r.isLt⟩ L hL (fun _ _ => rfl) (realK_apply K) (realK_apply V)
        (fun s => hA s r) 0 0 1 rfl rfl e0 e1 l) x,
    fun _ h => absurd h (by simp)⟩

end

end Cert.Attn

end
-- ==== Proof.Attn.Array.lean ====
/- The kernel's result array in closed form: each tile's block, placed by the grid. -/
module

public import proofs.«01_k».proof.Proof.Attn.Tile
public import proofs.«01_k».proof.Proof.Gen.KernelIdeal.Value
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where each window's block sits. -/
theorem idx : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![0, 0]
    ∧ win0_5.index t = ![t.val / 8, t.val % 8, 0] ∧ (grid0.coords t 1).val = t.val % 8 ∧ t.val / 8 < 16 :=
  (by decide +kernel : ∀ t : Fin grid0.N, _)

/-- The scaled queries. -/
theorem entry_q (c : Dev nD) (b : Fin 16) (t : Fin 4096) (d : Fin 512) :
    (show FVec Ideal S16x4096x512 .bf16 from V m c main_v5) (ix3 b t d)
      = (show FVec Ideal S16x4096x512 .f32 from m ((c : Thread nD τ).loc main_arg0)) (ix3 b t d)
        * Ideal.div (Ideal.ofBits FTy.f32 1040187392#32) (Ideal.log (Ideal.ofBits FTy.f32 1073741824#32)) := by
  entry_read
  pointwise

/-- The keys. -/
theorem entry_k (c : Dev nD) (b : Fin 16) (t : Fin 4096) (d : Fin 512) :
    (show FVec Ideal S16x4096x512 .bf16 from V m c main_v11) (ix3 b t d)
      = (show FVec Ideal S16x4096x512 .f32 from m ((c : Thread nD τ).loc main_arg1)) (ix3 b t d) := by
  entry_read
  pointwise

/-- The values. -/
theorem entry_v (c : Dev nD) (b : Fin 16) (t : Fin 4096) (d : Fin 512) :
    (show FVec Ideal S16x4096x512 .bf16 from V m c main_v12) (ix3 b t d)
      = (show FVec Ideal S16x4096x512 .f32 from m ((c : Thread nD τ).loc main_arg2)) (ix3 b t d) := by
  entry_read
  pointwise

/-- The row weights. -/
theorem entry_w (c : Dev nD) (d : Fin 128) :
    (show FVec Ideal S1x128 .f32 from V m c main_v13) (ix2 0 d)
      = (show FVec Ideal S128 .f32 from m ((c : Thread nD τ).loc main_arg7)) (ix1 d) := by
  entry_read
  pointwise

/-- The four lambda vectors, stacked, as the host computes them. -/
theorem entry_stack (c : Dev nD) :
    V m c main_v10 = concatenate S4x64 0
      [⟨S1x64, broadcastInDim S1x64 ![1] bcast_S64_S1x64_1 (m ((c : Thread nD τ).loc main_arg3))⟩,
        ⟨S1x64, broadcastInDim S1x64 ![1] bcast_S64_S1x64_1 (m ((c : Thread nD τ).loc main_arg4))⟩,
        ⟨S1x64, broadcastInDim S1x64 ![1] bcast_S64_S1x64_1 (m ((c : Thread nD τ).loc main_arg5))⟩,
        ⟨S1x64, broadcastInDim S1x64 ![1] bcast_S64_S1x64_1 (m ((c : Thread nD τ).loc main_arg6))⟩]
      concatenates_S1x64_S1x64_S1x64_S1x64_S4x64_d0 := rfl

/-- The four lambda vectors, by row. -/
theorem entry_l (c : Dev nD) (r : Fin 4) (d : Fin 64) :
    (show FVec Ideal S4x64 .f32 from V m c main_v10) (ix2 r d)
      = (![(show FVec Ideal S64 .f32 from m ((c : Thread nD τ).loc main_arg3)), (show FVec Ideal S64 .f32 from m ((c : Thread nD τ).loc main_arg4)),
          (show FVec Ideal S64 .f32 from m ((c : Thread nD τ).loc main_arg5)), (show FVec Ideal S64 .f32 from m ((c : Thread nD τ).loc main_arg6))] : Fin 4 → FVec Ideal S64 .f32) r (ix1 d) := by
  rw [entry_stack]
  fin_cases r <;> pointwise <;> rfl

/-- The query block of a grid point. -/
theorem block_q (c : Dev nD) (t : Fin cfg0.N) (r d : Fin 512) :
    (show FVec Ideal S1x512x512 .bf16 from iblk m c 0 t) (ix3 0 r d)
      = (show FVec Ideal S16x4096x512 .bf16 from V m c main_v5) (ix3 ⟨t.val / 8, (idx t).2.2.2.2.2.2.2⟩ ⟨t.val % 8 * 512 + r, by omega⟩ d) := by
  blk_ext [iblk, idx t]

theorem block_k (c : Dev nD) (t : Fin cfg0.N) (r : Fin 4096) (d : Fin 512) :
    (show FVec Ideal S1x4096x512 .bf16 from iblk m c 1 t) (ix3 0 r d)
      = (show FVec Ideal S16x4096x512 .bf16 from V m c main_v11) (ix3 ⟨t.val / 8, (idx t).2.2.2.2.2.2.2⟩ r d) := by
  blk_ext [iblk, idx t]

theorem block_v (c : Dev nD) (t : Fin cfg0.N) (r : Fin 4096) (d : Fin 512) :
    (show FVec Ideal S1x4096x512 .bf16 from iblk m c 2 t) (ix3 0 r d)
      = (show FVec Ideal S16x4096x512 .bf16 from V m c main_v12) (ix3 ⟨t.val / 8, (idx t).2.2.2.2.2.2.2⟩ r d) := by
  blk_ext [iblk, idx t]

theorem block_l (c : Dev nD) (t : Fin cfg0.N) (r : Fin 4) (d : Fin 64) :
    (show FVec Ideal S4x64 .f32 from iblk m c 3 t) (ix2 r d) = (show FVec Ideal S4x64 .f32 from V m c main_v10) (ix2 r d) := by
  blk_ext [iblk, idx t]

theorem block_w (c : Dev nD) (t : Fin cfg0.N) (d : Fin 128) :
    (show FVec Ideal S1x128 .f32 from iblk m c 4 t) (ix2 0 d) = (show FVec Ideal S1x128 .f32 from V m c main_v13) (ix2 0 d) := by
  blk_ext [iblk, idx t]

theorem eighth : Ideal.ofBits FTy.f32 1040187392#32 = ((1 / 8 : ℝ) : EReal) := by
  simp [Ideal.ofBits, Ideal.ieee]
  rw [← EReal.coe_mul]
  norm_num

theorem two : Ideal.ofBits FTy.f32 1073741824#32 = ((2 : ℝ) : EReal) := by
  simp [Ideal.ofBits, Ideal.ieee]
  rw [← EReal.coe_mul]
  norm_num

/-- The queries' scale. -/
theorem scale_eq : Ideal.div (Ideal.ofBits FTy.f32 1040187392#32) (Ideal.log (Ideal.ofBits FTy.f32 1073741824#32))
    = ((1 / 8 / Real.log 2 : ℝ) : EReal) := by
  rw [eighth, two, Ideal.log_coe, if_neg (by norm_num), div_real _ _ (Real.log_pos one_lt_two).ne']

/-- The result array in closed form. -/
def outG (Q K V : Fin 16 → Fin 4096 → Fin 512 → ℝ) (L : ℝ) (w : FVec Ideal S128 .f32) (y : S16x4096x512.Idx) : EReal :=
  rmsOut (orow (Q (y 0)) (K (y 0)) (V (y 0)) L ⟨(y 2 : ℕ) / 128, by have : (y 2 : ℕ) < 512 := (y 2).isLt; omega⟩ (y 1))
    (w (ix1 ⟨(y 2 : ℕ) % 128, by omega⟩)) ⟨(y 2 : ℕ) % 128, by omega⟩

variable (Q K W : Fin 16 → Fin 4096 → Fin 512 → ℝ) (L : ℝ)
variable (c : Dev nD)
  (h0 : ∀ b t d, (show FVec Ideal S16x4096x512 .f32 from m ((c : Thread nD τ).loc main_arg0)) (ix3 b t d) = (Q b t d : EReal))
  (h1 : ∀ b t d, (show FVec Ideal S16x4096x512 .f32 from m ((c : Thread nD τ).loc main_arg1)) (ix3 b t d) = (K b t d : EReal))
  (h2 : ∀ b t d, (show FVec Ideal S16x4096x512 .f32 from m ((c : Thread nD τ).loc main_arg2)) (ix3 b t d) = (W b t d : EReal))
  (hL : Ideal.exp (∑ x : Fin 64, (show FVec Ideal S64 .f32 from m ((c : Thread nD τ).loc main_arg3)) (ix1 x) * (show FVec Ideal S64 .f32 from m ((c : Thread nD τ).loc main_arg4)) (ix1 x))
    - Ideal.exp (∑ x : Fin 64, (show FVec Ideal S64 .f32 from m ((c : Thread nD τ).loc main_arg5)) (ix1 x) * (show FVec Ideal S64 .f32 from m ((c : Thread nD τ).loc main_arg6)) (ix1 x)) +
      Ideal.ofBits FTy.f32 1045220557#32 = (L : EReal))
include h0 h1 h2 hL

/-- What a grid point's block holds, at the array's index. -/
theorem point (t : Fin cfg0.N) (y : S1x512x512.Idx) :
    outsAt0 m c t.val t.isLt y
      = outG Q K W L (m ((c : Thread nD τ).loc main_arg7)) (ix3 ⟨t.val / 8, (idx t).2.2.2.2.2.2.2⟩ ⟨t.val % 8 * 512 + (y 1 : ℕ), by
          have : (y 1 : ℕ) < 512 := (y 1).isLt; omega⟩ (y 2)) := by
  obtain ⟨r, l, rfl⟩ : ∃ (r : Fin 512) (l : Fin 512), y = ix3 0 r l := exists_ix3 y
  have hi := (idx t).2.2.2.2.2.2.1
  have hb : t.val / 8 < 16 := (idx t).2.2.2.2.2.2.2
  have hq : ∀ r d : Fin 512, (show FVec Ideal S1x512x512 .bf16 from iblk m c 0 t) (ix3 0 r d)
      = ((Q ⟨t.val / 8, hb⟩ ⟨(grid0.coords t 1 : ℕ) * 512 + r, by omega⟩ d * (1 / 8 / Real.log 2) : ℝ) : EReal) := fun r d => by
    refine (block_q m c t r d).trans ((entry_q m c _ _ d).trans ?_)
    rw [scale_eq, h0, ← EReal.coe_mul]
    simp only [hi]
  have hk : ∀ (j : Fin 4096) (d : Fin 512), (show FVec Ideal S1x4096x512 .bf16 from iblk m c 1 t) (ix3 0 j d)
      = (K ⟨t.val / 8, hb⟩ j d : EReal) := fun j d => (block_k m c t j d).trans ((entry_k m c _ _ d).trans (h1 _ _ _))
  have hv : ∀ (j : Fin 4096) (d : Fin 512), (show FVec Ideal S1x4096x512 .bf16 from iblk m c 2 t) (ix3 0 j d)
      = (W ⟨t.val / 8, hb⟩ j d : EReal) := fun j d => (block_v m c t j d).trans ((entry_v m c _ _ d).trans (h2 _ _ _))
  have hl : ∀ (r : Fin 4) (x : Fin 64), (show FVec Ideal S4x64 .f32 from iblk m c 3 t) (ix2 r x) = _ :=
    fun r x => (block_l m c t r x).trans (entry_l m c r x)
  have hw : ∀ x : Fin 128, (show FVec Ideal S1x128 .f32 from iblk m c 4 t) (ix2 0 x) = _ :=
    fun x => (block_w m c t x).trans (entry_w m c x)
  have hL' : Ideal.exp (∑ x : Fin 64, (show FVec Ideal S4x64 .f32 from iblk m c 3 t) (ix2 0 x) * (show FVec Ideal S4x64 .f32 from iblk m c 3 t) (ix2 1 x))
      - Ideal.exp (∑ x : Fin 64, (show FVec Ideal S4x64 .f32 from iblk m c 3 t) (ix2 2 x) * (show FVec Ideal S4x64 .f32 from iblk m c 3 t) (ix2 3 x)) +
        Ideal.ofBits FTy.f32 1045220557#32 = (L : EReal) := by
    simp only [hl]
    exact hL
  have hfin : tileOut (Q ⟨t.val / 8, hb⟩) (K ⟨t.val / 8, hb⟩) (W ⟨t.val / 8, hb⟩) L ((grid0.coords t 1 : ℕ) * 512) (by omega)
      (show FVec Ideal S1x128 .f32 from iblk m c 4 t) (ix3 0 r l) = outG Q K W L (m ((c : Thread nD τ).loc main_arg7)) (ix3 ⟨t.val / 8, hb⟩ ⟨t.val % 8 * 512 + r, by omega⟩ l) := by
    unfold tileOut outG
    rw [hw]
    simp only [hi]
    rfl
  by_cases hp : t.val % 2 = 0
  · have h : ¬ t.val % 2 = 1 := by omega
    rw [outsAt0_A m c t h hp]
    exact (tile_A c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) (iblk m c 0 t) (iblk m c 1 t) (iblk m c 2 t)
      (iblk m c 3 t) (iblk m c 4 t) _ _ _ L (by omega) hq hk hv hL' _ _ (by omega) _).trans hfin
  · have h : t.val % 2 = 1 := by omega
    rw [outsAt0_B m c t h hp]
    exact (tile_B c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) (iblk m c 0 t) (iblk m c 1 t) (iblk m c 2 t)
      (iblk m c 3 t) (iblk m c 4 t) _ _ _ L (by omega) hq hk hv hL' _ _ (by omega) _).trans hfin

/-- The kernel's result array. -/
theorem final : (dats m 0 c).arrAt 5 (cfgs 0).N = outG Q K W L (m ((c : Thread nD τ).loc main_arg7)) := by
  refine (dats m 0 c).arrAt_eq_of_covers 5 _ (by decide +kernel) fun t hf y => ?_
  blk_simp
  rw [after0_5]
  refine (point m Q K W L c h0 h1 h2 hL t y).trans (congrArg (outG Q K W L (m ((c : Thread nD τ).loc main_arg7))) ?_)
  blk_ext [idx t]

end Cert.Attn

end
-- ==== Proof.Attn.Reference.lean ====
/- The reference's result in closed form, for real queries, keys, values and lambda vectors. -/
module

public import proofs.«01_k».proof.Proof.Gen.ReferenceIdeal.Read
public import proofs.«01_k».proof.Proof.Attn.Closed

@[expose] public section

set_option maxRecDepth 16384

noncomputable section

namespace Cert.Attn.Ref

open Cert.ReferenceIdeal Cert.ReferenceIdeal.Gen Cert.ReferenceIdeal.Read Idealize.ShloMosaic Idealize.ShloMosaic.TcCoe

variable (x0 x1 x2 : FVec Ideal S16x4096x512 .f32) (x3 x4 x5 x6 : FVec Ideal S64 .f32) (x7 : FVec Ideal S128 .f32)
  (X0 X1 X2 : Fin 16 → Fin 4096 → Fin 512 → ℝ) (X3 X4 X5 X6 : Fin 64 → ℝ)

/-- The split of the queries into heads and maps. -/
theorem split_apply (b : Fin 16) (h : Fin 4) (c : Fin 2) (t : Fin 4096) (e : Fin 64) :
    val_main_v3 (F := Ideal) x0 (ix5 b h c t e) = x0 (ix3 b t (col h c e)) := by
  pointwise [val_main_v3, val_main_v2, val_main_v1, val_main_v0]
  refine congrArg x0 (congrArg (ix3 b t) (Fin.ext ?_))
  show ((t : ℕ) * 4 + (h : ℕ)) % 4 * 128 + (e : ℕ) / 32 * 64 + (c : ℕ) * 32 + (e : ℕ) % 32
    = (h : ℕ) * 128 + (e : ℕ) / 32 * 64 + (c : ℕ) * 32 + (e : ℕ) % 32
  omega

/-- The values by head. -/
theorem values_apply (b : Fin 16) (h : Fin 4) (t : Fin 4096) (l : Fin 128) :
    val_main_v11 (F := Ideal) x2 (ix4 b h t l) = x2 (ix3 b t (vcol h l)) := by
  pointwise [val_main_v11, val_main_v10]
  rfl

theorem eighth : Ideal.ofBits FTy.f32 1040187392#32 = ((1 / 8 : ℝ) : EReal) := by
  simp [Ideal.ofBits, Ideal.ieee]
  rw [← EReal.coe_mul]
  norm_num

/-- The constant the reference adds to lambda is real. -/
theorem start_real : ∃ c : ℝ, Ideal.ofBits FTy.f32 1045220557#32 = (c : EReal) := by
  simp [Ideal.ofBits, Ideal.ieee]
  exact ⟨_, (EReal.coe_mul _ _).symm⟩

/-- The scores are the real scores. -/
theorem score_apply (h0 : ∀ b t d, x0 (ix3 b t d) = (X0 b t d : EReal)) (h1 : ∀ b t d, x1 (ix3 b t d) = (X1 b t d : EReal))
    (b : Fin 16) (h : Fin 4) (c : Fin 2) (t j : Fin 4096) :
    val_main_v20 (F := Ideal) x0 x1 (ix5 b h c t j) = (rscore (X0 b) (X1 b) h c t j : EReal) := by
  pointwise [val_main_v20, val_main_v5, val_main_v4, val_main_cst]
  rw [rscore, ← sum_real]
  refine Finset.sum_congr rfl fun e _ => ?_
  rw [split_apply, show val_main_v9 (F := Ideal) x1 (ix5 b h c j e) = _ from split_apply x1 b h c j e, eighth, h0, h1,
    ← EReal.coe_mul, ← EReal.coe_mul]

/-- The masked scores. -/
theorem masked_apply (h0 : ∀ b t d, x0 (ix3 b t d) = (X0 b t d : EReal)) (h1 : ∀ b t d, x1 (ix3 b t d) = (X1 b t d : EReal))
    (b : Fin 16) (h : Fin 4) (c : Fin 2) (t j : Fin 4096) :
    val_main_v27 (F := Ideal) x0 x1 (ix5 b h c t j)
      = if (j : ℕ) ≤ t then (rscore (X0 b) (X1 b) h c t j : EReal) else ⊥ := by
  pointwise [val_main_v27, val_main_call0_v1, val_main_call0_v2, val_main_call0_v0, val_main_v26, val_main_v25,
    val_main_v24, val_main_v23, val_main_v22, val_main_v21, val_main_cst_3]
  have e := select_le (j : ℕ) t 0 (by omega) (by omega) (by omega) (val_main_v20 (F := Ideal) x0 x1 (ix5 b h c t j))
    (id (constant (F := Ideal) S_ FTy.f32 4286578688#32) ix0)
  rw [show IntOp.addi (BitVec.ofNat 32 (t : ℕ)) (BitVec.ofNat 32 0) = BitVec.ofNat 32 (t : ℕ) by simp [IntOp.addi]] at e
  rw [e, score_apply x0 x1 X0 X1 h0 h1, show (id (constant (F := Ideal) S_ FTy.f32 4286578688#32) ix0 : EReal) = ⊥ from ninf_eq]
  rfl

/-- The row maxima are real. -/
theorem rowmax_apply (h0 : ∀ b t d, x0 (ix3 b t d) = (X0 b t d : EReal)) (h1 : ∀ b t d, x1 (ix3 b t d) = (X1 b t d : EReal))
    (b : Fin 16) (h : Fin 4) (c : Fin 2) (t : Fin 4096) :
    ∃ m : ℝ, val_main_v30 (F := Ideal) x0 x1 (ix4 b h c t) = (m : EReal) := by
  have e : val_main_v28 (F := Ideal) x0 x1 (ix4 b h c t)
      = rowMax fun x : Fin 4096 => val_main_v27 (F := Ideal) x0 x1 (ix5 b h c t x) := by
    pointwise [val_main_v28]
    rw [show val_main_cst_4 (F := Ideal) (Shape.Idx.first h_S_) = (⊥ : EReal) from ninf_eq]
    rfl
  obtain ⟨m, hm⟩ := rowMax_real (fun x : Fin 4096 => val_main_v27 (F := Ideal) x0 x1 (ix5 b h c t x))
    (fun x => by
      rw [masked_apply x0 x1 X0 X1 h0 h1]
      split
      · exact .inr ⟨_, rfl⟩
      · exact .inl rfl) t _ ((masked_apply x0 x1 X0 X1 h0 h1 b h c t t).trans (if_pos le_rfl))
  refine ⟨m, ?_⟩
  rw [val_main_v30_apply, e, hm]
  show max (val_main_v29 (F := Ideal) (ix4 b h c t)) _ = _
  rw [val_main_v29_apply, show val_main_cst_5 (F := Ideal) _ = (⊥ : EReal) from ninf_eq]
  exact max_eq_right bot_le

/-- The softmax weights. -/
theorem prob_apply (h0 : ∀ b t d, x0 (ix3 b t d) = (X0 b t d : EReal)) (h1 : ∀ b t d, x1 (ix3 b t d) = (X1 b t d : EReal))
    (b : Fin 16) (h : Fin 4) (c : Fin 2) (t j : Fin 4096) :
    val_main_v38 (F := Ideal) x0 x1 (ix5 b h c t j) = (prob (X0 b) (X1 b) h c t j : EReal) := by
  obtain ⟨m, hm⟩ := rowmax_apply x0 x1 X0 X1 h0 h1 b h c t
  have e : ∀ x : Fin 4096, val_main_v34 (F := Ideal) x0 x1 (ix5 b h c t x)
      = Ideal.exp ((if (x : ℕ) ≤ t then (rscore (X0 b) (X1 b) h c t x : EReal) else ⊥) - (m : EReal)) := fun x => by
    rw [← masked_apply x0 x1 X0 X1 h0 h1, ← hm]
    pointwise [val_main_v34, val_main_v33, val_main_v32, val_main_v31]
  pointwise [val_main_v38, val_main_v37, val_main_v36, val_main_v35, val_main_cst_6]
  simp only [e]
  exact softmax_row _ t m j

/-- The first map's weights. -/
theorem first_apply (b : Fin 16) (h : Fin 4) (t j : Fin 4096) :
    val_main_v40 (F := Ideal) x0 x1 (ix4 b h t j) = val_main_v38 (F := Ideal) x0 x1 (ix5 b h 0 t j) := by
  rw [val_main_v40_apply, val_main_v39_apply]
  congr 1
  funext a; apply Fin.ext
  fin_cases a <;> simp [idx_main_v39, idx_main_v40] <;> omega

/-- The second map's weights. -/
theorem second_apply (b : Fin 16) (h : Fin 4) (t j : Fin 4096) :
    val_main_v42 (F := Ideal) x0 x1 (ix4 b h t j) = val_main_v38 (F := Ideal) x0 x1 (ix5 b h 1 t j) := by
  rw [val_main_v42_apply, val_main_v41_apply]
  congr 1
  funext a; apply Fin.ext
  fin_cases a <;> simp [idx_main_v41, idx_main_v42] <;> omega

/-- Lambda as the reference computes it. -/
theorem lam_apply :
    val_main_v19 (F := Ideal) x3 x4 x5 x6 ix0 = Ideal.exp (∑ x, x3 (ix1 x) * x4 (ix1 x))
      - Ideal.exp (∑ x, x5 (ix1 x) * x6 (ix1 x)) + Ideal.ofBits FTy.f32 1045220557#32 := by
  pointwise [val_main_v12, val_main_v13, val_main_v14, val_main_v15, val_main_v16, val_main_v17, val_main_v18,
    val_main_v19, val_main_cst_0, val_main_cst_1, val_main_cst_2]

/-- The attention rows. -/
theorem orow_apply (h0 : ∀ b t d, x0 (ix3 b t d) = (X0 b t d : EReal)) (h1 : ∀ b t d, x1 (ix3 b t d) = (X1 b t d : EReal))
    (h2 : ∀ b t d, x2 (ix3 b t d) = (X2 b t d : EReal)) (lam : ℝ)
    (hl : val_main_v19 (F := Ideal) x3 x4 x5 x6 ix0 = (lam : EReal)) (b : Fin 16) (h : Fin 4) (t : Fin 4096) (l : Fin 128) :
    val_main_v47 (F := Ideal) x0 x1 x2 x3 x4 x5 x6 (ix4 b t h l) = (orow (X0 b) (X1 b) (X2 b) lam h t l : EReal) := by
  rw [val_main_v47_apply, val_main_v46_apply, orow, ← sum_real]
  refine Finset.sum_congr rfl fun j _ => ?_
  rw [show lidx_main_v46 (idx_main_v47 (ix4 b t h l)) j = ix4 b h j l by
      funext a; fin_cases a <;> rfl,
    show ridx_main_v46 (idx_main_v47 (ix4 b t h l)) j = ix4 b h t j by
      funext a; fin_cases a <;> rfl,
    values_apply, h2, val_main_v45_apply, val_main_v44_apply, first_apply, second_apply, prob_apply x0 x1 X0 X1 h0 h1,
    prob_apply x0 x1 X0 X1 h0 h1, val_main_v43_apply, show idx_main_v43 (ix4 b h t j) = ix0 from funext fun a => a.elim0, hl]
  show (X2 b j (vcol h l) : EReal) * ((_ : EReal) - (lam : EReal) * (_ : EReal)) = _
  rw [← EReal.coe_mul, ← EReal.coe_sub, ← EReal.coe_mul]

/-- The reference's result. -/
theorem result_apply (h0 : ∀ b t d, x0 (ix3 b t d) = (X0 b t d : EReal)) (h1 : ∀ b t d, x1 (ix3 b t d) = (X1 b t d : EReal))
    (h2 : ∀ b t d, x2 (ix3 b t d) = (X2 b t d : EReal)) (lam : ℝ)
    (hl : val_main_v19 (F := Ideal) x3 x4 x5 x6 ix0 = (lam : EReal)) (b : Fin 16) (h : Fin 4) (t : Fin 4096) (l : Fin 128) :
    val_main_v64 (F := Ideal) x0 x1 x2 x3 x4 x5 x6 x7 (ix3 b t (vcol h l))
      = rmsOut (orow (X0 b) (X1 b) (X2 b) lam h t) (x7 (ix1 l)) l := by
  pointwise [val_main_v64, val_main_v63, val_main_v62, val_main_v61, val_main_v60, val_main_v59, val_main_v58,
    val_main_v57, val_main_v56, val_main_v55, val_main_v54, val_main_v53, val_main_v52, val_main_v51, val_main_v50,
    val_main_v49, val_main_v48]
  have e1 : (⟨((vcol h l : Fin 512) : ℕ) / 128, by have := (vcol h l).2; omega⟩ : Fin 4) = h := by
    apply Fin.ext; simp only [vcol]; have := l.2; omega
  have e2 : (⟨((vcol h l : Fin 512) : ℕ) % 128, by omega⟩ : Fin 128) = l := by
    apply Fin.ext; simp only [vcol]; have := l.2; omega
  rw [e1, e2]
  simp only [orow_apply x0 x1 x2 x3 x4 x5 x6 X0 X1 X2 h0 h1 h2 lam hl]
  rw [show val_main_cst_7 (F := Ideal) (Shape.Idx.first h_S_) = (0 : EReal) by simp [val_main_cst_7, constant], zero_add]
  rfl

end Cert.Attn.Ref

end
-- ==== Proof.Attn.Finite.lean ====
/- The precondition in real numbers: every entry of the queries, the keys, the values and the lambda vectors is a real number. -/
module

public import proofs.«01_k».proof.Proof.Gen.Pre_finite
public import Idealize.ShloMosaic.Lib.ReduceAll
public import Idealize.ShloMosaic.Lib.Pipeline.ValueKit

@[expose] public section

noncomputable section

namespace Cert.Attn.Finite

open Idealize.ShloMosaic Cert.Pre_finite Cert.Pre_finite.Gen

theorem top_word : Ideal.ofBits FTy.f32 2139095040#32 = ⊤ := by
  simp [Ideal.ofBits, Ideal.ieee]

/-- An extended real whose absolute value is below the top is a real number. -/
theorem real_of_abs (x : EReal) (h : max x (-x) < ⊤) : ∃ r : ℝ, x = (r : EReal) := by
  induction x with
  | bot => simp at h
  | coe r => exact ⟨r, rfl⟩
  | top => simp at h

/-- A whole array below infinity in absolute value is an array of real numbers. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1) :
    ∃ X : s.Idx → ℝ, ∀ i, x i = (X i : EReal) := by
  have h : ∀ i, ∃ r : ℝ, x i = (r : EReal) := fun i => by
    have hi := Host.reduce_andi_all _ _ _ _ j e i
    have h2 : Ideal.cmp .olt (max (x i : EReal) (-(x i : EReal))) (Ideal.ofBits FTy.f32 2139095040#32) = 1#1 := hi
    rw [top_word] at h2
    refine real_of_abs _ ?_
    by_contra hn
    simp [Ideal.cmp, hn] at h2
  choose X hX using h
  exact ⟨X, hX⟩

theorem and_left {a b : BitVec 1} (h : IntOp.andi a b = 1#1) : a = 1#1 ∧ b = 1#1 := by
  revert a b; decide

/-- The precondition, read: seven arrays of real numbers. -/
theorem reals (x0 x1 x2 : FVec Ideal S16x4096x512 .f32) (x3 x4 x5 x6 : FVec Ideal S64 .f32) (x7 : FVec Ideal S128 .f32)
    (h : Cert.Pre_finite.fn (F := Ideal) x0 x1 x2 x3 x4 x5 x6 x7 = fun _ => 1#1) :
    (∃ X : S16x4096x512.Idx → ℝ, ∀ i, x0 i = (X i : EReal)) ∧ (∃ X : S16x4096x512.Idx → ℝ, ∀ i, x1 i = (X i : EReal)) ∧ (∃ X : S16x4096x512.Idx → ℝ, ∀ i, x2 i = (X i : EReal))
      ∧ (∃ X : S64.Idx → ℝ, ∀ i, x3 i = (X i : EReal)) ∧ (∃ X : S64.Idx → ℝ, ∀ i, x4 i = (X i : EReal)) ∧ (∃ X : S64.Idx → ℝ, ∀ i, x5 i = (X i : EReal))
      ∧ (∃ X : S64.Idx → ℝ, ∀ i, x6 i = (X i : EReal)) := by
  have e := congrFun h ix0
  unfold Cert.Pre_finite.fn Cert.Pre_finite.fn_part1 at e
  obtain ⟨e, e6⟩ := and_left e
  obtain ⟨e, e5⟩ := and_left e
  obtain ⟨e, e4⟩ := and_left e
  obtain ⟨e, e3⟩ := and_left e
  obtain ⟨e, e2⟩ := and_left e
  obtain ⟨e0, e1⟩ := and_left e
  exact ⟨real_of_all x0 _ _ _ _ e0, real_of_all x1 _ _ _ _ e1, real_of_all x2 _ _ _ _ e2, real_of_all x3 _ _ _ _ e3,
    real_of_all x4 _ _ _ _ e4, real_of_all x5 _ _ _ _ e5, real_of_all x6 _ _ _ _ e6⟩

end Cert.Attn.Finite

end
-- ==== Proof.Attn.Result.lean ====
/- The kernel's result and the reference's, over the same arguments, are the same array. -/
module

public import proofs.«01_k».proof.Proof.Attn.Array
public import proofs.«01_k».proof.Proof.Attn.Reference
public import proofs.«01_k».proof.Proof.Attn.Finite

@[expose] public section

noncomputable section

namespace Cert.Attn

open Idealize.ShloMosaic Idealize.ShloMosaic.TcCoe Idealize.SL.Sem Cert.KernelIdeal Cert.KernelIdeal.Gen

/-- The dot product of two arrays of real numbers. -/
theorem dot_real (x y : FVec Ideal S64 .f32) (X Y : S64.Idx → ℝ) (hx : ∀ i, x i = (X i : EReal)) (hy : ∀ i, y i = (Y i : EReal)) :
    ∑ a : Fin 64, x (ix1 a) * y (ix1 a) = ((∑ a : Fin 64, X (ix1 a) * Y (ix1 a) : ℝ) : EReal) := by
  rw [← sum_real]
  exact Finset.sum_congr rfl fun a _ => by rw [hx, hy, EReal.coe_mul]

/-- A column by its head and its place in the head. -/
theorem vcol_eq (d : Fin 512) : vcol ⟨(d : ℕ) / 128, div_lt d.isLt⟩ ⟨(d : ℕ) % 128, mod_lt _⟩ = d :=
  Fin.ext (by show (d : ℕ) / 128 * 128 + (d : ℕ) % 128 = d; omega)

/-- The kernel's result array is the reference's. -/
theorem result_eq (m : (ℓ : Loc nD τ sig) → Buf (Elt Ideal) ℓ) (c : Dev nD)
    (hpre : Cert.Pre_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    (dats m 0 c).arrAt 5 (cfgs 0).N
      = Cert.ReferenceIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨⟨Q, hQ⟩, ⟨K, hK⟩, ⟨W, hW⟩, ⟨A, hA⟩, ⟨B, hB⟩, ⟨C, hC⟩, ⟨D, hD⟩⟩ := Finite.reals _ _ _ _ _ _ _ _ hpre
  obtain ⟨s, hs⟩ := Ref.start_real
  have hL : Ideal.exp (∑ x : Fin 64, (show FVec Ideal S64 .f32 from m ((c : Thread nD τ).loc main_arg3)) (ix1 x) * (show FVec Ideal S64 .f32 from m ((c : Thread nD τ).loc main_arg4)) (ix1 x))
      - Ideal.exp (∑ x : Fin 64, (show FVec Ideal S64 .f32 from m ((c : Thread nD τ).loc main_arg5)) (ix1 x) * (show FVec Ideal S64 .f32 from m ((c : Thread nD τ).loc main_arg6)) (ix1 x)) +
        Ideal.ofBits FTy.f32 1045220557#32
      = ((Real.exp (∑ a : Fin 64, A (ix1 a) * B (ix1 a)) - Real.exp (∑ a : Fin 64, C (ix1 a) * D (ix1 a)) + s : ℝ) : EReal) := by
    rw [dot_real _ _ A B hA hB, dot_real _ _ C D hC hD, Ideal.exp_coe, Ideal.exp_coe, hs, EReal.coe_add, EReal.coe_sub]
  refine (final m (fun b t d => Q (ix3 b t d)) (fun b t d => K (ix3 b t d)) (fun b t d => W (ix3 b t d)) _ c
    (fun b t d => hQ _) (fun b t d => hK _) (fun b t d => hW _) hL).trans ?_
  funext y
  obtain ⟨b, t, d, rfl⟩ : ∃ (b : Fin 16) (t : Fin 4096) (d : Fin 512), y = ix3 b t d := ⟨y 0, y 1, y 2, funext fun k => by fin_cases k <;> rfl⟩
  refine Eq.trans ?_ ((Ref.result_apply _ _ _ _ _ _ _ (m ((c : Thread nD τ).loc main_arg7)) (fun b t d => Q (ix3 b t d)) (fun b t d => K (ix3 b t d)) (fun b t d => W (ix3 b t d))
    (fun b t d => hQ _) (fun b t d => hK _) (fun b t d => hW _) _ ((Ref.lam_apply _ _ _ _).trans hL) b
    ⟨(d : ℕ) / 128, div_lt d.isLt⟩ t ⟨(d : ℕ) % 128, mod_lt _⟩).symm.trans ?_)
  · rfl
  · rw [vcol_eq]

end Cert.Attn

end
-- ==== Proof.Ffn.Closed.lean ====
/- The closed forms of the projection and feed-forward block: one token's residual row, its hidden row, the causal
   convolution over three hidden rows, the gated activation and the output row. -/
module

public import Idealize.ShloMosaic.PureOps.Ideal

@[expose] public section

noncomputable section

namespace Cert.Ffn

open Idealize.ShloMosaic

/-- A row over its root mean square, times the weights. -/
def rms (f w : Fin 1024 → EReal) (d : Fin 1024) : EReal :=
  f d * Ideal.rsqrt (Ideal.div (∑ x, f x * f x) (Ideal.ofBits FTy.f32 1149239296#32) + Ideal.ofBits FTy.f32 897988541#32) * w d

/-- The residual row of a token: its input plus the projections of its two mixer outputs. -/
def resid (x : Fin 1024 → EReal) (a g : Fin 512 → EReal) (wo : Fin 1024 → Fin 1024 → EReal) (d : Fin 1024) : EReal :=
  x d + ∑ k : Fin 512, a k * wo ⟨k, by omega⟩ d + ∑ k : Fin 512, g k * wo ⟨512 + k, by omega⟩ d

/-- The hidden row of a token. -/
def hidden (h fw : Fin 1024 → EReal) (wu : Fin 1024 → Fin 5632 → EReal) (f : Fin 5632) : EReal := ∑ d, rms h fw d * wu d f

/-- The convolution of the hidden rows of a token and of the two before it. -/
def conv (cw : Fin 3 → Fin 5632 → EReal) (h0 h1 h2 : Fin 5632 → EReal) (f : Fin 5632) : EReal :=
  cw 2 f * h0 f + cw 1 f * h1 f + cw 0 f * h2 f

theorem low_lt {f : ℕ} (h : f < 2816) : f < 5632 := by omega

theorem high_lt {f : ℕ} (h : f < 2816) : 2816 + f < 5632 := by omega

/-- The gate half times its logistic, times the other half. -/
def gated (y : Fin 5632 → EReal) (f : Fin 2816) : EReal :=
  Ideal.ofBits FTy.f32 1056964608#32 * y ⟨f, low_lt f.2⟩
    * (Ideal.ofBits FTy.f32 1065353216#32 + Ideal.tanh (Ideal.ofBits FTy.f32 1056964608#32 * y ⟨f, low_lt f.2⟩)) * y ⟨2816 + f, high_lt f.2⟩

/-- The output row of a token. -/
def outRow (h : Fin 1024 → EReal) (y : Fin 5632 → EReal) (wd : Fin 2816 → Fin 1024 → EReal) (fw : Fin 1024 → EReal)
    (d : Fin 1024) : EReal :=
  rms (fun x => h x + ∑ f, gated y f * wd f x) fw d

theorem half_eq : Ideal.ofBits FTy.f32 1056964608#32 = ((1 / 2 : ℝ) : EReal) := by
  simp [Ideal.ofBits, Ideal.ieee]
  rw [← EReal.coe_mul]
  norm_num

theorem one_eq : Ideal.ofBits FTy.f32 1065353216#32 = (1 : EReal) := by
  simp [Ideal.ofBits, Ideal.ieee]
  rw [← EReal.coe_mul, ← EReal.coe_one]
  norm_num

/-- Half of `x` times one plus the hyperbolic tangent of that half is `x` times its logistic, at every extended real. -/
theorem gate_eq (x : EReal) :
    Ideal.ofBits FTy.f32 1056964608#32 * x * (Ideal.ofBits FTy.f32 1065353216#32 + Ideal.tanh (Ideal.ofBits FTy.f32 1056964608#32 * x))
      = x * Ideal.logistic x := by
  rw [half_eq, one_eq]
  induction x with
  | bot =>
    rw [EReal.coe_mul_bot_of_pos (by norm_num), Ideal.tanh_bot, Ideal.logistic_bot, mul_zero,
      show (1 : EReal) + -1 = 0 by rw [← EReal.coe_one, ← EReal.coe_neg, ← EReal.coe_add]; simp, mul_zero]
  | top =>
    rw [EReal.coe_mul_top_of_pos (by norm_num), Ideal.tanh_top, Ideal.logistic_top, mul_one,
      show (1 : EReal) + 1 = ((2 : ℝ) : EReal) by rw [← EReal.coe_one, ← EReal.coe_add]; norm_num,
      EReal.top_mul_coe_of_pos (by norm_num)]
  | coe r =>
    rw [← EReal.coe_mul, Ideal.tanh_coe, Ideal.logistic_coe, ← EReal.coe_one, ← EReal.coe_add, ← EReal.coe_mul, ← EReal.coe_mul]
    congr 1
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have h3 := Real.exp_pos (1 / 2 * r)
    have h4 := Real.exp_pos (-(1 / 2 * r))
    rw [Real.tanh_eq_sinh_div_cosh, Real.sinh_eq, Real.cosh_eq, h1]
    generalize Real.exp (1 / 2 * r) = a at h2 h3
    generalize Real.exp (-(1 / 2 * r)) = b at h2 h4
    field_simp
    linear_combination 2 * r * b * h2

end Cert.Ffn

end
-- ==== Proof.Ffn.Stack.lean ====
/- The two scratch arrays of the feed-forward kernel: what the hidden-row array and the carry hold after the stores of
   each column slot. -/
module

public import proofs.«01_k».proof.Proof.Ffn.Closed
public import proofs.«01_k».proof.Proof.Gen.Kernel2Ideal.Skeleton
public import Idealize.ShloMosaic.Lib.Pipeline.FrameBody
public import Idealize.ShloMosaic.Lib.Pointwise

@[expose] public section

set_option maxRecDepth 16384

noncomputable section

namespace Cert.Ffn

open Cert.Kernel2Ideal Cert.Kernel2Ideal.Gen Idealize.ShloMosaic Idealize.ShloMosaic.TcCoe

theorem fcol_lt {a e : ℕ} (ha : a < 11) (he : e < 512) :
    (if e < 256 then a * 256 + e else 2816 + a * 256 + (e - 256)) < 5632 := by split <;> omega

/-- The hidden column kept at column `e` of chunk `a`: a gate column in the first half, its partner in the second. -/
def fcol (a : Fin 11) (e : Fin 512) : Fin 5632 := ⟨_, fcol_lt a.2 e.2⟩

/-- The slot of a hidden column: chunk by chunk, the gate half before the other. -/
def slot (f : ℕ) : ℕ := if f < 2816 then f / 256 * 2 else (f - 2816) / 256 * 2 + 1

/-- The hidden-row array agrees with the rows `E` at the columns of the first `k` slots. -/
def Filled (E : ℕ → Fin 5632 → EReal) (k : ℕ) (L : List (View.Piece (Elt Ideal) S11x520x512 .f32)) : Prop :=
  ∀ (a : Fin 11) (n : Fin 520) (e : Fin 512), slot (fcol a e) < k → View.canon L (ix3 a n e) = E n (fcol a e)

/-- The carry agrees with the last eight rows of `E` at the columns of the first `k` slots. -/
def Saved (E : ℕ → Fin 5632 → EReal) (k : ℕ) (L : List (View.Piece (Elt Ideal) S8x5632 .f32)) : Prop :=
  ∀ (n : Fin 8) (f : Fin 5632), slot f < k → View.canon L (ix2 n f) = E (512 + n) f

/-- The carry is still zero at the columns of the slots from `k` on. -/
def Blank (k : ℕ) (L : List (View.Piece (Elt Ideal) S8x5632 .f32)) : Prop :=
  ∀ (n : Fin 8) (f : Fin 5632), k ≤ slot f → View.canon L (ix2 n f) = 0

/-- The place of slot `k`: chunk `a`, columns from `o` in the chunk, hidden columns from `f0`. -/
def Place (k a o f0 : ℕ) : Prop := (o = 0 ∧ f0 = a * 256 ∧ k = 2 * a ∨ o = 256 ∧ f0 = 2816 + a * 256 ∧ k = 2 * a + 1) ∧ a < 11

theorem Place.low {k a o f0 : ℕ} (h : Place k a o f0) {e : ℕ} (he : e < 256) : f0 + e < 5632 := by
  obtain ⟨h, _⟩ := h; omega

section
variable {a b o h w : ℕ} (i : ∀ x, ![a, 0, 0] x + S1x520x512.size x ≤ S11x520x512.size x)
  (i' : ∀ x, ![b, o] x + (⟨2, ![h, w]⟩ : Shape).size x ≤ S520x512.size x) (h0 : (![1, 520, 512] : Fin 3 → ℕ) 0 = 1)
  (hs : ∀ x : Fin 2, (![1, 520, 512] : Fin 3 → ℕ) x.succ = S520x512.size x) (st : ∀ x, (Rect.unit (s := S11x520x512) ![a, 0, 0] S1x520x512.size i).stride x = 1)

/-- The rows `b ..` and columns `o ..` of chunk `a`. -/
abbrev box : Rect S11x520x512 :=
  (Rect.unit (s := S11x520x512) ![a, 0, 0] S1x520x512.size i).within ((Rect.unit (s := S520x512) ![b, o] (⟨2, ![h, w]⟩ : Shape).size i').consLift ![1, 520, 512] h0 hs) st

/-- Where an index of a box lies. -/
theorem box_emb (x : (box i i' h0 hs st).shape.Idx) (y : S11x520x512.Idx) (hy : (box i i' h0 hs st).emb x = y) :
    (y 0 : ℕ) = a ∧ (y 1 : ℕ) = b + (x 1 : ℕ) ∧ (y 2 : ℕ) = o + (x 2 : ℕ) ∧ (x 1 : ℕ) < h ∧ (x 2 : ℕ) < w := by
  subst hy
  have x0 : (x 0 : ℕ) < 1 := (x 0).isLt
  refine ⟨?_, ?_, ?_, (x 1).isLt, (x 2).isLt⟩
  · rw [Rect.emb_apply]
    show a + 0 + 1 * (x 0 : ℕ) = a
    omega
  · rw [Rect.emb_apply]
    show 0 + b + 1 * (x 1 : ℕ) = b + x 1
    omega
  · rw [Rect.emb_apply]
    show 0 + o + 1 * (x 2 : ℕ) = o + x 2
    omega

/-- Off the last store, the array is what the earlier stores left. -/
theorem box_skip (wt : (box i i' h0 hs st).shape.Idx → EReal) (L : List (View.Piece (Elt Ideal) S11x520x512 .f32)) (y : S11x520x512.Idx)
    (hn : ¬ ((y 0 : ℕ) = a ∧ b ≤ (y 1 : ℕ) ∧ (y 1 : ℕ) < b + h ∧ o ≤ (y 2 : ℕ) ∧ (y 2 : ℕ) < o + w)) :
    View.canon (Val := Elt Ideal) (e := .f32) (⟨box i i' h0 hs st, wt⟩ :: L) y = View.canon L y := by
  refine View.canon_cons_of_not_mem _ _ fun hm => hn ?_
  obtain ⟨x, hx⟩ := (box i i' h0 hs st).exists_idx_of_mem hm
  obtain ⟨e0, e1, e2, l1, l2⟩ := box_emb i i' h0 hs st x y hx
  omega

/-- At the last store, the array is its payload. -/
theorem box_hit (wt : (⟨2, ![h, w]⟩ : Shape).Idx → EReal) (hR) (L : List (View.Piece (Elt Ideal) S11x520x512 .f32)) (y : S11x520x512.Idx)
    (r : Fin h) (e : Fin w) (y0 : (y 0 : ℕ) = a) (y1 : (y 1 : ℕ) = b + r) (y2 : (y 2 : ℕ) = o + e) :
    View.canon (Val := Elt Ideal) (e := .f32) (⟨box i i' h0 hs st,
      Rect.payAlong (r := Rect.unit (s := S520x512) ![b, o] (⟨2, ![h, w]⟩ : Shape).size i') hR wt⟩ :: L) y = wt (ix2 r e) := by
  have hy : (box i i' h0 hs st).emb (fun x => match x with | ⟨0, _⟩ => ⟨0, Nat.one_pos⟩ | ⟨1, _⟩ => r | ⟨2, _⟩ => e) = y := by
    funext x
    apply Fin.ext
    rw [Rect.emb_apply]
    match x with
    | ⟨0, _⟩ => show a + 0 + 1 * 0 = (y 0 : ℕ); omega
    | ⟨1, _⟩ => show 0 + b + 1 * (r : ℕ) = (y 1 : ℕ); omega
    | ⟨2, _⟩ => show 0 + o + 1 * (e : ℕ) = (y 2 : ℕ); omega
  rw [← hy, View.canon_cons_emb]
  exact Rect.payAlong_consLift (Rect.unit (s := S520x512) ![b, o] (⟨2, ![h, w]⟩ : Shape).size i') ![1, 520, 512] h0 hs wt hR _ (ix2 r e) fun x => by
    match x with
    | ⟨0, _⟩ => rfl
    | ⟨1, _⟩ => rfl

end

/-- The two stores of a slot fill it. -/
theorem fill_step (E : ℕ → Fin 5632 → EReal) (k a o f0 : ℕ) (hp : Place k a o f0) (L : List (View.Piece (Elt Ideal) S11x520x512 .f32)) (hL : Filled E k L)
    (i1 i1' h1 hs1 st1 hR1 i2 i2' h2 hs2 st2 hR2) (wH : FVec Ideal S512x256 .f32) (wC : FVec Ideal S8x256 .f32)
    (hH : ∀ (r : Fin 512) (e : Fin 256), wH (ix2 r e) = E (8 + r) ⟨f0 + e, hp.low e.2⟩)
    (hC : ∀ (r : Fin 8) (e : Fin 256), wC (ix2 r e) = E r ⟨f0 + e, hp.low e.2⟩) :
    Filled E (k + 1) (⟨box (a := a) (b := 8) (o := o) (h := 512) (w := 256) i1 i1' h1 hs1 st1,
        Rect.payAlong (r := Rect.unit (s := S520x512) ![8, o] S512x256.size i1') hR1 wH⟩
      :: ⟨box (a := a) (b := 0) (o := o) (h := 8) (w := 256) i2 i2' h2 hs2 st2,
        Rect.payAlong (r := Rect.unit (s := S520x512) ![0, o] S8x256.size i2') hR2 wC⟩ :: L) := by
  intro c n e hk
  have hc := c.2
  have he := e.2
  have hn := n.2
  have hp' := hp
  obtain ⟨hpl, ha⟩ := hp'
  by_cases hin : (c : ℕ) = a ∧ o ≤ (e : ℕ) ∧ (e : ℕ) < o + 256
  · have hf : ∀ (h : f0 + ((e : ℕ) - o) < 5632), fcol c e = ⟨f0 + ((e : ℕ) - o), h⟩ := fun h => Fin.ext (by
      show (if (e : ℕ) < 256 then _ else _) = f0 + ((e : ℕ) - o)
      split <;> omega)
    by_cases h8 : 8 ≤ (n : ℕ)
    · rw [box_hit i1 i1' h1 hs1 st1 wH hR1 _ (ix3 c n e) ⟨(n : ℕ) - 8, by omega⟩ ⟨(e : ℕ) - o, by omega⟩ hin.1
        (by show (n : ℕ) = 8 + ((n : ℕ) - 8); omega) (by show (e : ℕ) = o + ((e : ℕ) - o); omega), hH, hf (hp.low (e := (e : ℕ) - o) (by omega))]
      congr 1
      show 8 + ((n : ℕ) - 8) = n
      omega
    · rw [box_skip i1 i1' h1 hs1 st1 _ _ (ix3 c n e) (fun h => h8 h.2.1),
        box_hit i2 i2' h2 hs2 st2 wC hR2 _ (ix3 c n e) ⟨(n : ℕ), by omega⟩ ⟨(e : ℕ) - o, by omega⟩ hin.1
        (by show (n : ℕ) = 0 + (n : ℕ); omega) (by show (e : ℕ) = o + ((e : ℕ) - o); omega), hC, hf (hp.low (e := (e : ℕ) - o) (by omega))]
  · rw [box_skip i1 i1' h1 hs1 st1 _ _ (ix3 c n e) (fun h => hin ⟨h.1, h.2.2.2⟩),
      box_skip i2 i2' h2 hs2 st2 _ _ (ix3 c n e) (fun h => hin ⟨h.1, h.2.2.2⟩)]
    refine hL c n e ?_
    have : slot (fcol c e) = if (e : ℕ) < 256 then 2 * (c : ℕ) else 2 * (c : ℕ) + 1 := by
      unfold slot
      show (if (if (e : ℕ) < 256 then _ else _) < 2816 then (if (e : ℕ) < 256 then _ else _) / 256 * 2 else ((if (e : ℕ) < 256 then _ else _) - 2816) / 256 * 2 + 1) = _
      by_cases h : (e : ℕ) < 256
      · simp only [if_pos h]
        rw [if_pos (by omega)]
        omega
      · simp only [if_neg h]
        rw [if_neg (by omega)]
        omega
    rw [this] at hk ⊢
    by_cases h : (e : ℕ) < 256
    · rw [if_pos h] at hk ⊢
      omega
    · rw [if_neg h] at hk ⊢
      omega

/-- The columns of slot `k` in the carry. -/
theorem slot_col {k a o f0 : ℕ} (hp : Place k a o f0) (f : ℕ) (hf : f < 5632) :
    slot f = k ↔ f0 ≤ f ∧ f < f0 + 256 := by
  obtain ⟨h, ha⟩ := hp
  unfold slot
  split <;> omega

section
variable {f0 : ℕ} (i : ∀ x, ![0, f0] x + S8x256.size x ≤ S8x5632.size x)

theorem strip_skip (wt : S8x256.Idx → EReal) (L : List (View.Piece (Elt Ideal) S8x5632 .f32)) (n : Fin 8) (f : Fin 5632)
    (hn : ¬ (f0 ≤ (f : ℕ) ∧ (f : ℕ) < f0 + 256)) :
    View.canon (Val := Elt Ideal) (e := .f32) (⟨Rect.unit (s := S8x5632) ![0, f0] S8x256.size i, wt⟩ :: L) (ix2 n f)
      = View.canon L (ix2 n f) := by
  refine View.canon_cons_of_not_mem _ _ fun hm => hn ?_
  obtain ⟨x, hx⟩ := (Rect.unit (s := S8x5632) ![0, f0] S8x256.size i).exists_idx_of_mem hm
  have e := congrArg (fun y : S8x5632.Idx => (y 1 : ℕ)) hx
  have l : (x 1 : ℕ) < 256 := (x 1).isLt
  simp only [Rect.emb_apply] at e
  have e' : f0 + 1 * (x 1 : ℕ) = (f : ℕ) := e
  omega

theorem strip_hit (wt : S8x256.Idx → EReal) (L : List (View.Piece (Elt Ideal) S8x5632 .f32)) (n : Fin 8) (f : Fin 5632)
    (e : Fin 256) (he : (f : ℕ) = f0 + e) :
    View.canon (Val := Elt Ideal) (e := .f32) (⟨Rect.unit (s := S8x5632) ![0, f0] S8x256.size i, wt⟩ :: L) (ix2 n f)
      = wt (ix2 n e) := by
  have hy : (Rect.unit (s := S8x5632) ![0, f0] S8x256.size i).emb (ix2 n e) = ix2 n f := by
    funext x
    apply Fin.ext
    rw [Rect.emb_apply]
    match x with
    | ⟨0, _⟩ => show 0 + 1 * (n : ℕ) = n; omega
    | ⟨1, _⟩ => show f0 + 1 * (e : ℕ) = f; omega
  rw [← hy]
  exact View.canon_cons_emb _ _ _ _

end

/-- The store of a slot's last eight rows saves it. -/
theorem save_step (E : ℕ → Fin 5632 → EReal) (k a o f0 : ℕ) (hp : Place k a o f0) (L : List (View.Piece (Elt Ideal) S8x5632 .f32)) (hL : Saved E k L)
    (i) (wt : FVec Ideal S8x256 .f32) (hw : ∀ (r : Fin 8) (e : Fin 256), wt (ix2 r e) = E (512 + r) ⟨f0 + e, hp.low e.2⟩) :
    Saved E (k + 1) (⟨Rect.unit (s := S8x5632) ![0, f0] S8x256.size i, wt⟩ :: L) := by
  intro n f hk
  have hs := slot_col hp f f.2
  by_cases h : slot f = k
  · have h' := hs.mp h
    rw [strip_hit i wt L n f ⟨(f : ℕ) - f0, by omega⟩ (by show (f : ℕ) = f0 + ((f : ℕ) - f0); omega), hw]
    congr 1
    apply Fin.ext
    show f0 + ((f : ℕ) - f0) = f
    omega
  · rw [strip_skip i wt L n f (fun h' => h (hs.mpr h'))]
    exact hL n f (by omega)

/-- That store leaves the later slots blank. -/
theorem blank_step (k a o f0 : ℕ) (hp : Place k a o f0) (L : List (View.Piece (Elt Ideal) S8x5632 .f32)) (hL : Blank k L)
    (i) (wt : FVec Ideal S8x256 .f32) : Blank (k + 1) (⟨Rect.unit (s := S8x5632) ![0, f0] S8x256.size i, wt⟩ :: L) := by
  intro n f hk
  rw [strip_skip i wt L n f (fun h' => by have := (slot_col hp f f.2).mpr h'; omega)]
  exact hL n f (by omega)

/-- A load of `h` rows from row `b` of a chunk, once its slots are filled. -/
theorem load_stack (E : ℕ → Fin 5632 → EReal) (k : ℕ) (L : List (View.Piece (Elt Ideal) S11x520x512 .f32)) (hL : Filled E k L)
    (M : Memref sig .tc .vmem S11x520x512 .f32) {a b o h w : ℕ} (ha : a < 11) (i : ∀ x, ![a, 0, 0] x + S1x520x512.size x ≤ S11x520x512.size x)
    (i' : ∀ x, ![b, o] x + (⟨2, ![h, w]⟩ : Shape).size x ≤ S520x512.size x) (h0 hs st hR) (r : Fin h) (e : Fin w) (hb : b + r < 520) (ho : o + e < 512)
    (hk : slot (fcol ⟨a, ha⟩ ⟨o + e, ho⟩) < k) :
    LoadRect.valAlong (lr := (Rect.unit (s := S520x512) ![b, o] (⟨2, ![h, w]⟩ : Shape).size i').toLoadRect) hR
      (M.view.readCov L ((Rect.unit (s := S11x520x512) ![a, 0, 0] S1x520x512.size i).withinL
        ((Rect.unit (s := S520x512) ![b, o] (⟨2, ![h, w]⟩ : Shape).size i').toLoadRect.consLift ![1, 520, 512] h0 hs) st)) (ix2 r e)
      = E (b + r) (fcol ⟨a, ha⟩ ⟨o + e, ho⟩) := by
  have hx : Shape.reshapeEquiv hR (ix2 r e) = Fin.cons ⟨0, Nat.one_pos⟩ (ix2 r e) :=
    Shape.reshapeEquiv_cons_one (d := ![h, w]) _ _
  show M.view.readCov L _ (Shape.reshapeEquiv hR (ix2 r e)) = _
  rw [hx, View.readCov_eq_canon', ← hL ⟨a, ha⟩ ⟨b + r, hb⟩ ⟨o + e, ho⟩ hk]
  refine congrArg (View.canon L) (funext fun x => Fin.ext ?_)
  match x with
  | ⟨0, _⟩ => show a + 0 + 1 * 0 = a; omega
  | ⟨1, _⟩ => show 0 + b + 1 * (r : ℕ) = b + r; omega
  | ⟨2, _⟩ => show 0 + o + 1 * (e : ℕ) = o + e; omega

/-- A load of a blank slot of the carry is zero. -/
theorem load_blank (k a o f0 : ℕ) (hp : Place k a o f0) (L : List (View.Piece (Elt Ideal) S8x5632 .f32)) (hL : Blank k L)
    (M : Memref sig .tc .vmem S8x5632 .f32) (i) (r : Fin 8) (e : Fin 256) :
    M.view.readCov L (Rect.unit (s := S8x5632) ![0, f0] S8x256.size i).toLoadRect (ix2 r e) = 0 := by
  rw [View.readCov_eq_canon']
  have hy : (Rect.unit (s := S8x5632) ![0, f0] S8x256.size i).toLoadRect.idx (ix2 r e) = ix2 r ⟨f0 + e, hp.low e.2⟩ := by
    refine funext fun x => Fin.ext ?_
    match x with
    | ⟨0, _⟩ => show 0 + 1 * (r : ℕ) = r; omega
    | ⟨1, _⟩ => show f0 + 1 * (e : ℕ) = f0 + e; omega
  show View.canon L _ = 0
  rw [hy]
  exact hL _ _ ((slot_col hp _ (hp.low e.2)).mpr ⟨by omega, by omega⟩).ge

end Cert.Ffn

end
-- ==== Proof.Ffn.Chunk.lean ====
/- The arithmetic of one tile of the feed-forward kernel, payload by payload. -/
module

public import proofs.«01_k».proof.Proof.Ffn.Stack

@[expose] public section

set_option maxRecDepth 16384
set_option maxHeartbeats 1000000

noncomputable section

namespace Cert.Ffn

open Cert.Kernel2Ideal Cert.Kernel2Ideal.Gen Idealize.ShloMosaic Idealize.ShloMosaic.TcCoe

/-- The residual rows of a tile. -/
theorem resid_apply (v3 : Vec Ideal S1x512x1024 .f32) (v5 : Vec Ideal S1x512x512 .bf16) (v7 : Vec Ideal S512x1024 .bf16)
    (v11 : Vec Ideal S1x512x512 .bf16) (v13 : Vec Ideal S512x1024 .bf16) (r : Fin 512) (d : Fin 1024) :
    k0_pay3 (F := Ideal) v3 v5 v7 v11 v13 (ix2 r d)
      = v3 (ix3 0 r d) + ∑ k : Fin 512, v5 (ix3 0 r k) * v7 (ix2 k d) + ∑ k : Fin 512, v11 (ix3 0 r k) * v13 (ix2 k d) := by
  pointwise [k0_pay3]

/-- The normalized rows of a tile. -/
theorem norm_apply (v3 : Vec Ideal S1x512x1024 .f32) (v5 : Vec Ideal S1x512x512 .bf16) (v7 : Vec Ideal S512x1024 .bf16)
    (v11 : Vec Ideal S1x512x512 .bf16) (v13 : Vec Ideal S512x1024 .bf16) (v17 : Vec Ideal S1x1024 .f32) (r : Fin 512) (d : Fin 1024) :
    k0_pay4 (F := Ideal) v3 v5 v7 v11 v13 v17 (ix2 r d)
      = rms (fun x => k0_pay3 (F := Ideal) v3 v5 v7 v11 v13 (ix2 r x)) (fun x => v17 (ix2 0 x)) d := by
  unfold rms k0_pay4
  generalize k0_pay3 (F := Ideal) v3 v5 v7 v11 v13 = h
  pointwise

/-- A slot's columns of the hidden rows. -/
theorem up_apply (v31 : FVec Ideal S512x1024 .bf16) (v39 : Vec Ideal S1024x256 .bf16) (r : Fin 512) (e : Fin 256) :
    k0_pay7 (F := Ideal) v31 v39 (ix2 r e) = ∑ d : Fin 1024, v31 (ix2 r d) * v39 (ix2 d e) := by
  pointwise [k0_pay7]

/-- A copy of a slot's eight carried rows. -/
theorem copy_apply (v33 : Vec Ideal S8x256 .f32) (r : Fin 8) (e : Fin 256) : k0_pay6 (F := Ideal) v33 (ix2 r e) = v33 (ix2 r e) := by
  pointwise [k0_pay6]

/-- One chunk's step of the down projection. -/
theorem chunk_apply (acc : FVec Ideal S512x1024 .f32) (ca cb : Vec Ideal S3x256 .f32) (y8 y7 y6 : Vec Ideal S512x512 .f32)
    (wd : Vec Ideal S256x1024 .bf16) (r : Fin 512) (d : Fin 1024) :
    k0_pay75 (F := Ideal) acc (k0_pay73 ca cb y8 y7) (k0_pay74 ca cb) y6 wd (ix2 r d)
      = acc (ix2 r d) + ∑ e : Fin 256,
        (Ideal.ofBits FTy.f32 1056964608#32 * (ca (ix2 2 e) * y8 (ix2 r ⟨e, by omega⟩) + ca (ix2 1 e) * y7 (ix2 r ⟨e, by omega⟩) + ca (ix2 0 e) * y6 (ix2 r ⟨e, by omega⟩))
          * (Ideal.ofBits FTy.f32 1065353216#32 + Ideal.tanh (Ideal.ofBits FTy.f32 1056964608#32 * (ca (ix2 2 e) * y8 (ix2 r ⟨e, by omega⟩) + ca (ix2 1 e) * y7 (ix2 r ⟨e, by omega⟩) + ca (ix2 0 e) * y6 (ix2 r ⟨e, by omega⟩))))
          * (cb (ix2 2 e) * y8 (ix2 r ⟨256 + e, by omega⟩) + cb (ix2 1 e) * y7 (ix2 r ⟨256 + e, by omega⟩) + cb (ix2 0 e) * y6 (ix2 r ⟨256 + e, by omega⟩)))
          * wd (ix2 e d) := by
  pointwise [k0_pay75, k0_pay73, k0_pay74, k0_pay72]

/-- The last chunk's step and the output rows. -/
theorem last_apply (h acc : FVec Ideal S512x1024 .f32) (ca cb : Vec Ideal S3x256 .f32) (y8 y7 y6 : Vec Ideal S512x512 .f32)
    (wd : Vec Ideal S256x1024 .bf16) (fw : Vec Ideal S1x1024 .f32) (r : Fin 512) (d : Fin 1024) :
    k0_pay114 (F := Ideal) h acc (k0_pay111 ca cb) (k0_pay112 ca cb y8) (k0_pay113 ca cb) y7 y6 wd fw (ix2 r d)
      = rms (fun x => h (ix2 r x) + k0_pay75 (F := Ideal) acc (k0_pay73 ca cb y8 y7) (k0_pay74 ca cb) y6 wd (ix2 r x)) (fun x => fw (ix2 0 x)) d := by
  unfold rms
  simp only [chunk_apply]
  pointwise [k0_pay114, k0_pay111, k0_pay112, k0_pay113]

end Cert.Ffn

end
-- ==== Proof.Ffn.Tile.lean ====
/- One tile of the feed-forward kernel: every entry of its output block and of the carry it leaves, in closed form. -/
module

public import proofs.«01_k».proof.Proof.Ffn.Chunk
public import proofs.«01_k».proof.Proof.Gen.Kernel2Ideal.Frame

@[expose] public section

set_option maxRecDepth 16384
set_option maxHeartbeats 4000000

noncomputable section

namespace Cert.Ffn

open Cert.Kernel2Ideal Cert.Kernel2Ideal.Gen Idealize.ShloMosaic Idealize.ShloMosaic.TcCoe

/-- A load of a rectangle of a two-axis block. -/
theorem load2 {n w h v : ℕ} {φ : EltTy} (M : Memref sig .tc .vmem ⟨2, ![n, w]⟩ φ) (hM : M.IsWhole) (x : Vec Ideal ⟨2, ![n, w]⟩ φ)
    {p q : ℕ} (inb : ∀ a, ![p, q] a + (⟨2, ![h, v]⟩ : Shape).size a ≤ (⟨2, ![n, w]⟩ : Shape).size a) (r : Fin h) (e : Fin v) (r' : Fin n) (e' : Fin w) (hr : p + r = r') (he : q + e = e') :
    View.readAt (Elt Ideal) M.view (Rect.unit (s := ⟨2, ![n, w]⟩) ![p, q] (⟨2, ![h, v]⟩ : Shape).size inb).toLoadRect (hM.unread x) (ix2 r e)
      = x (ix2 r' e') := by
  refine (congrArg (M.view.read (Elt Ideal) (hM.unread x)) (funext fun a => Fin.ext ?_)).trans (congrFun (hM.read_unread x) _)
  match a with
  | ⟨0, _⟩ => simpa [LoadRect.idx, Rect.unit] using hr
  | ⟨1, _⟩ => simpa [LoadRect.idx, Rect.unit] using he

/-- A load of a whole three-axis block. -/
theorem load3 {n w : ℕ} {φ : EltTy} (M : Memref sig .tc .vmem ⟨3, ![1, n, w]⟩ φ) (hM : M.IsWhole) (x : Vec Ideal ⟨3, ![1, n, w]⟩ φ)
    (inb : ∀ a, ![0, 0, 0] a + (⟨3, ![1, n, w]⟩ : Shape).size a ≤ (⟨3, ![1, n, w]⟩ : Shape).size a) (r : Fin n) (e : Fin w) :
    View.readAt (Elt Ideal) M.view (Rect.unit (s := ⟨3, ![1, n, w]⟩) ![0, 0, 0] (⟨3, ![1, n, w]⟩ : Shape).size inb).toLoadRect (hM.unread x) (ix3 0 r e)
      = x (ix3 0 r e) := by
  refine (congrArg (M.view.read (Elt Ideal) (hM.unread x)) (funext fun a => Fin.ext ?_)).trans (congrFun (hM.read_unread x) _)
  match a with
  | ⟨0, _⟩ => simp [LoadRect.idx, Rect.unit]
  | ⟨1, _⟩ => simp [LoadRect.idx, Rect.unit]
  | ⟨2, _⟩ => simp [LoadRect.idx, Rect.unit]

section
variable (x0 : Vec Ideal S1x512x1024 .f32) (x1 x2 : Vec Ideal S1x512x512 .bf16) (x3 : Vec Ideal S1024x1024 .bf16)
  (x4 : Vec Ideal S1x1024 .f32) (x5 : Vec Ideal S1024x5632 .bf16) (x6 : Vec Ideal S3x5632 .f32) (x7 : Vec Ideal S2816x1024 .bf16)
  (x8 : Vec Ideal S1x1024 .f32)

/-- The residual row of a tile's token. -/
def tileRow (r : Fin 512) : Fin 1024 → EReal :=
  resid (fun d => x0 (ix3 0 r d)) (fun k => x1 (ix3 0 r k)) (fun k => x2 (ix3 0 r k)) (fun k d => x3 (ix2 k d))

/-- The hidden row of a tile's token. -/
def tileHid (r : Fin 512) : Fin 5632 → EReal :=
  hidden (tileRow x0 x1 x2 x3 r) (fun d => x4 (ix2 0 d)) (fun d f => x5 (ix2 d f))

/-- The eight carried rows `p`, then the tile's hidden rows. -/
def tileExt (p : Fin 8 → Fin 5632 → EReal) (n : ℕ) (f : Fin 5632) : EReal :=
  if h : n < 8 then p ⟨n, h⟩ f else if h : n - 8 < 512 then tileHid x0 x1 x2 x3 x4 x5 ⟨n - 8, h⟩ f else 0

theorem tileExt_carry (p : Fin 8 → Fin 5632 → EReal) (r : Fin 8) (f : Fin 5632) :
    tileExt x0 x1 x2 x3 x4 x5 p r f = p r f := dif_pos r.2

theorem tileExt_hid (p : Fin 8 → Fin 5632 → EReal) (r : Fin 512) (f : Fin 5632) :
    tileExt x0 x1 x2 x3 x4 x5 p (8 + r) f = tileHid x0 x1 x2 x3 x4 x5 r f := by
  unfold tileExt
  rw [dif_neg (by omega), dif_pos (by omega)]
  congr 1
  apply Fin.ext
  show 8 + (r : ℕ) - 8 = r
  omega

/-- The output row of a tile's token, from the rows `E`. -/
def tileOut (E : ℕ → Fin 5632 → EReal) (r : Fin 512) : Fin 1024 → EReal :=
  outRow (tileRow x0 x1 x2 x3 r) (conv (fun k f => x6 (ix2 k f)) (E (8 + r)) (E (7 + r)) (E (6 + r))) (fun f d => x7 (ix2 f d)) (fun d => x8 (ix2 0 d))

/-- The residual rows, as the kernel computes them. -/
theorem rows_apply (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (r : Fin 512) (d : Fin 1024) :
    k0_pay3 (F := Ideal)
      (View.readAt (Elt Ideal) arg2.view (Rect.unit ![0, 0, 0] S1x512x1024.size inb_S1x512x1024_S1x512x1024_0_0_0).toLoadRect (harg2.unread x0))
      (View.readAt (Elt Ideal) arg3.view (Rect.unit ![0, 0, 0] S1x512x512.size inb_S1x512x512_S1x512x512_0_0_0).toLoadRect (harg3.unread x1))
      (View.readAt (Elt Ideal) arg5.view (Rect.unit (s := S1024x1024) ![0, 0] S512x1024.size inb_S1024x1024_S512x1024_0_0).toLoadRect (harg5.unread x3))
      (View.readAt (Elt Ideal) arg4.view (Rect.unit ![0, 0, 0] S1x512x512.size inb_S1x512x512_S1x512x512_0_0_0).toLoadRect (harg4.unread x2))
      (View.readAt (Elt Ideal) arg5.view (Rect.unit (s := S1024x1024) ![512, 0] S512x1024.size inb_S1024x1024_S512x1024_512_0).toLoadRect (harg5.unread x3)) (ix2 r d)
      = tileRow x0 x1 x2 x3 r d := by
  refine (resid_apply _ _ _ _ _ r d).trans ?_
  unfold tileRow resid
  refine congrArg₂ (· + ·) (congrArg₂ (· + ·) (load3 arg2 harg2 x0 _ r d) (Finset.sum_congr rfl fun k _ =>
    congrArg₂ (· * ·) (load3 arg3 harg3 x1 _ r k) (load2 arg5 harg5 x3 _ k d _ _ (Nat.zero_add _) (Nat.zero_add _))))
    (Finset.sum_congr rfl fun k _ =>
    congrArg₂ (· * ·) (load3 arg4 harg4 x2 _ r k) (load2 arg5 harg5 x3 _ k d _ _ rfl (Nat.zero_add _)))

/-- The hidden rows, as the kernel computes them. -/
theorem hid_apply (arg6 : Memref sig .tc .vmem S1x1024 .f32) (harg6 : arg6.IsWhole) (v3 : Vec Ideal S1x512x1024 .f32) (v5 : Vec Ideal S1x512x512 .bf16) (v7 : Vec Ideal S512x1024 .bf16)
    (v11 : Vec Ideal S1x512x512 .bf16) (v13 : Vec Ideal S512x1024 .bf16)
    (hrow : ∀ r d, k0_pay3 (F := Ideal) v3 v5 v7 v11 v13 (ix2 r d) = tileRow x0 x1 x2 x3 r d) (r : Fin 512) (f : Fin 5632) :
    ∑ d : Fin 1024, k0_pay4 (F := Ideal) v3 v5 v7 v11 v13
      (View.readAt (Elt Ideal) arg6.view (Rect.unit ![0, 0] S1x1024.size inb_S1x1024_S1x1024_0_0).toLoadRect (harg6.unread x4)) (ix2 r d) * x5 (ix2 d f)
      = tileHid x0 x1 x2 x3 x4 x5 r f := by
  unfold tileHid hidden
  refine Finset.sum_congr rfl fun d _ => congrArg (· * x5 (ix2 d f)) ((norm_apply _ _ _ _ _ _ r d).trans ?_)
  refine congrArg₂ (fun a b => rms a b d) (funext fun x => hrow r x) (funext fun x => load2 arg6 harg6 x4 _ 0 x _ _ (Nat.zero_add _) (Nat.zero_add _))

end

/-- Where a slot's columns lie. -/
theorem fcol_eq {k a o f0 : ℕ} (hp : Place k a o f0) (e : Fin 256) (ho : o + e < 512) :
    fcol ⟨a, hp.2⟩ ⟨o + e, ho⟩ = ⟨f0 + e, hp.low e.2⟩ := Fin.ext (by
  obtain ⟨h, ha⟩ := hp
  show (if o + (e : ℕ) < 256 then a * 256 + (o + e) else 2816 + a * 256 + (o + e - 256)) = f0 + (e : ℕ)
  split <;> omega)

theorem Place.width {k a o f0 : ℕ} (hp : Place k a o f0) {e : ℕ} (he : e < 256) : o + e < 512 := by
  obtain ⟨h, ha⟩ := hp
  omega

/-- The save of a slot just filled. -/
theorem save_next (E : ℕ → Fin 5632 → EReal) (k a o f0 : ℕ) (hp : Place k a o f0) (L : List (View.Piece (Elt Ideal) S11x520x512 .f32))
    (hL : Filled E (k + 1) L) (M : Memref sig .tc .vmem S11x520x512 .f32) (i i') (h0 hs st hR) (r : Fin 8) (e : Fin 256) :
    k0_pay6 (F := Ideal) (LoadRect.valAlong (lr := (Rect.unit (s := S520x512) ![512, o] S8x256.size i').toLoadRect) hR
      (M.view.readCov L ((Rect.unit (s := S11x520x512) ![a, 0, 0] S1x520x512.size i).withinL
        ((Rect.unit (s := S520x512) ![512, o] S8x256.size i').toLoadRect.consLift ![1, 520, 512] h0 hs) st))) (ix2 r e)
      = E (512 + r) ⟨f0 + e, hp.low e.2⟩ := by
  have hs' := slot_col hp (f0 + e) (hp.low e.2)
  refine (copy_apply _ r e).trans ((load_stack E (k + 1) L hL M hp.2 i i' h0 hs st hR r e (by omega) (hp.width e.2) ?_).trans ?_)
  · rw [fcol_eq hp]
    show slot (f0 + e) < k + 1
    rw [hs'.mpr ⟨by omega, by omega⟩]
    omega
  · rw [fcol_eq hp]

section
variable (E : ℕ → Fin 5632 → EReal) (v31 : FVec Ideal S512x1024 .bf16) (arg7 : Memref sig .tc .vmem S1024x5632 .bf16) (harg7 : arg7.IsWhole)
  (x5 : Vec Ideal S1024x5632 .bf16) (arg12 : Memref sig .tc .vmem S11x520x512 .f32) (arg13 : Memref sig .tc .vmem S8x5632 .f32) (harg13 : arg13.IsWhole)
  (hE : ∀ (r : Fin 512) (f : Fin 5632), ∑ d : Fin 1024, v31 (ix2 r d) * x5 (ix2 d f) = E (8 + r) f)
include hE

/-- The hidden columns of a slot. -/
theorem up_next {f0 : ℕ} (i) (r : Fin 512) (e : Fin 256) (hf : f0 + e < 5632) :
    k0_pay7 (F := Ideal) v31 (View.readAt (Elt Ideal) arg7.view (Rect.unit (s := S1024x5632) ![0, f0] S1024x256.size i).toLoadRect (harg7.unread x5)) (ix2 r e)
      = E (8 + r) ⟨f0 + e, hf⟩ := by
  rw [← hE]
  refine (up_apply _ _ r e).trans (Finset.sum_congr rfl fun d _ => congrArg (v31 (ix2 r d) * ·) (load2 arg7 harg7 x5 _ d e _ _ (Nat.zero_add _) rfl))

/-- A slot: its carried rows `w` are copied, its hidden rows stored, the last eight of them saved. -/
theorem slot_step (k a o f0 : ℕ) (hp : Place k a o f0)
    (L : List (View.Piece (Elt Ideal) S11x520x512 .f32)) (L1 : List (View.Piece (Elt Ideal) S8x5632 .f32)) (i1 i1' h1 hs1 st1 hR1 i2 i2' h2 hs2 st2 hR2 i3 i5 i6 i6' h6 hs6 st6 hR6) (w : Vec Ideal S8x256 .f32)
    (hw : ∀ (r : Fin 8) (e : Fin 256), w (ix2 r e) = E r ⟨f0 + e, hp.low e.2⟩) (hF : Filled E k L) (hS : Saved E k L1) :
    Filled E (k + 1) (⟨box (a := a) (b := 8) (o := o) (h := 512) (w := 256) i1 i1' h1 hs1 st1,
        Rect.payAlong (r := Rect.unit (s := S520x512) ![8, o] S512x256.size i1') hR1
          (k0_pay7 (F := Ideal) v31 (View.readAt (Elt Ideal) arg7.view (Rect.unit (s := S1024x5632) ![0, f0] S1024x256.size i3).toLoadRect (harg7.unread x5)))⟩
      :: ⟨box (a := a) (b := 0) (o := o) (h := 8) (w := 256) i2 i2' h2 hs2 st2,
        Rect.payAlong (r := Rect.unit (s := S520x512) ![0, o] S8x256.size i2') hR2 (k0_pay6 (F := Ideal) w)⟩ :: L)
    ∧ Saved E (k + 1) (⟨Rect.unit (s := S8x5632) ![0, f0] S8x256.size i5, k0_pay6 (F := Ideal) (LoadRect.valAlong (lr := (Rect.unit (s := S520x512) ![512, o] S8x256.size i6').toLoadRect) hR6
      (arg12.view.readCov (⟨box (a := a) (b := 8) (o := o) (h := 512) (w := 256) i1 i1' h1 hs1 st1,
        Rect.payAlong (r := Rect.unit (s := S520x512) ![8, o] S512x256.size i1') hR1
          (k0_pay7 (F := Ideal) v31 (View.readAt (Elt Ideal) arg7.view (Rect.unit (s := S1024x5632) ![0, f0] S1024x256.size i3).toLoadRect (harg7.unread x5)))⟩
      :: ⟨box (a := a) (b := 0) (o := o) (h := 8) (w := 256) i2 i2' h2 hs2 st2,
        Rect.payAlong (r := Rect.unit (s := S520x512) ![0, o] S8x256.size i2') hR2 (k0_pay6 (F := Ideal) w)⟩ :: L)
        ((Rect.unit (s := S11x520x512) ![a, 0, 0] S1x520x512.size i6).withinL
        ((Rect.unit (s := S520x512) ![512, o] S8x256.size i6').toLoadRect.consLift ![1, 520, 512] h6 hs6) st6)))⟩ :: L1) := by
  have h := fill_step E k a o f0 hp L hF i1 i1' h1 hs1 st1 hR1 i2 i2' h2 hs2 st2 hR2
    (k0_pay7 (F := Ideal) v31 (View.readAt (Elt Ideal) arg7.view (Rect.unit (s := S1024x5632) ![0, f0] S1024x256.size i3).toLoadRect (harg7.unread x5)))
    (k0_pay6 (F := Ideal) w) (fun r e => up_next E v31 arg7 harg7 x5 hE _ r e _) fun r e => (copy_apply _ r e).trans (hw r e)
  exact ⟨h, save_step E k a o f0 hp L1 hS _ _ fun r e => save_next E k a o f0 hp _ h arg12 _ _ _ _ _ _ r e⟩

/-- A slot of a tile that is not its batch's first. -/
theorem slot_later (xs1 : Vec Ideal S8x5632 .f32) (hC : ∀ (r : Fin 8) (f : Fin 5632), xs1 (ix2 r f) = E r f) (k a o f0 : ℕ) (hp : Place k a o f0)
    (L : List (View.Piece (Elt Ideal) S11x520x512 .f32)) (L1 : List (View.Piece (Elt Ideal) S8x5632 .f32)) (i1 i1' h1 hs1 st1 hR1 i2 i2' h2 hs2 st2 hR2 i3 i4 i5 i6 i6' h6 hs6 st6 hR6)
    (hL : Filled E k L ∧ Saved E k L1) :
    Filled E (k + 1) (⟨box (a := a) (b := 8) (o := o) (h := 512) (w := 256) i1 i1' h1 hs1 st1,
        Rect.payAlong (r := Rect.unit (s := S520x512) ![8, o] S512x256.size i1') hR1
          (k0_pay7 (F := Ideal) v31 (View.readAt (Elt Ideal) arg7.view (Rect.unit (s := S1024x5632) ![0, f0] S1024x256.size i3).toLoadRect (harg7.unread x5)))⟩
      :: ⟨box (a := a) (b := 0) (o := o) (h := 8) (w := 256) i2 i2' h2 hs2 st2,
        Rect.payAlong (r := Rect.unit (s := S520x512) ![0, o] S8x256.size i2') hR2 (k0_pay6 (F := Ideal) (View.readAt (Elt Ideal) arg13.view (Rect.unit (s := S8x5632) ![0, f0] S8x256.size i4).toLoadRect (harg13.unread xs1)))⟩ :: L)
    ∧ Saved E (k + 1) (⟨Rect.unit (s := S8x5632) ![0, f0] S8x256.size i5, k0_pay6 (F := Ideal) (LoadRect.valAlong (lr := (Rect.unit (s := S520x512) ![512, o] S8x256.size i6').toLoadRect) hR6
      (arg12.view.readCov (⟨box (a := a) (b := 8) (o := o) (h := 512) (w := 256) i1 i1' h1 hs1 st1,
        Rect.payAlong (r := Rect.unit (s := S520x512) ![8, o] S512x256.size i1') hR1
          (k0_pay7 (F := Ideal) v31 (View.readAt (Elt Ideal) arg7.view (Rect.unit (s := S1024x5632) ![0, f0] S1024x256.size i3).toLoadRect (harg7.unread x5)))⟩
      :: ⟨box (a := a) (b := 0) (o := o) (h := 8) (w := 256) i2 i2' h2 hs2 st2,
        Rect.payAlong (r := Rect.unit (s := S520x512) ![0, o] S8x256.size i2') hR2 (k0_pay6 (F := Ideal) (View.readAt (Elt Ideal) arg13.view (Rect.unit (s := S8x5632) ![0, f0] S8x256.size i4).toLoadRect (harg13.unread xs1)))⟩ :: L)
        ((Rect.unit (s := S11x520x512) ![a, 0, 0] S1x520x512.size i6).withinL
        ((Rect.unit (s := S520x512) ![512, o] S8x256.size i6').toLoadRect.consLift ![1, 520, 512] h6 hs6) st6)))⟩ :: L1) :=
  slot_step E v31 arg7 harg7 x5 arg12 hE k a o f0 hp L L1 i1 i1' h1 hs1 st1 hR1 i2 i2' h2 hs2 st2 hR2 i3 i5 i6 i6' h6 hs6 st6 hR6 _
    (fun r e => (load2 arg13 harg13 xs1 i4 r e _ _ (Nat.zero_add _) rfl).trans (hC r _)) hL.1 hL.2

/-- A slot of a batch's first tile: the carry still holds zero where the slot reads it. -/
theorem slot_first (hC : ∀ (r : Fin 8) (f : Fin 5632), E r f = 0) (k a o f0 : ℕ) (hp : Place k a o f0)
    (L : List (View.Piece (Elt Ideal) S11x520x512 .f32)) (L1 : List (View.Piece (Elt Ideal) S8x5632 .f32)) (i1 i1' h1 hs1 st1 hR1 i2 i2' h2 hs2 st2 hR2 i3 i4 i5 i6 i6' h6 hs6 st6 hR6)
    (hL : Filled E k L ∧ Saved E k L1 ∧ Blank k L1) :
    Filled E (k + 1) (⟨box (a := a) (b := 8) (o := o) (h := 512) (w := 256) i1 i1' h1 hs1 st1,
        Rect.payAlong (r := Rect.unit (s := S520x512) ![8, o] S512x256.size i1') hR1
          (k0_pay7 (F := Ideal) v31 (View.readAt (Elt Ideal) arg7.view (Rect.unit (s := S1024x5632) ![0, f0] S1024x256.size i3).toLoadRect (harg7.unread x5)))⟩
      :: ⟨box (a := a) (b := 0) (o := o) (h := 8) (w := 256) i2 i2' h2 hs2 st2,
        Rect.payAlong (r := Rect.unit (s := S520x512) ![0, o] S8x256.size i2') hR2 (k0_pay6 (F := Ideal) (arg13.view.readCov L1 (Rect.unit (s := S8x5632) ![0, f0] S8x256.size i4).toLoadRect))⟩ :: L)
    ∧ Saved E (k + 1) (⟨Rect.unit (s := S8x5632) ![0, f0] S8x256.size i5, k0_pay6 (F := Ideal) (LoadRect.valAlong (lr := (Rect.unit (s := S520x512) ![512, o] S8x256.size i6').toLoadRect) hR6
      (arg12.view.readCov (⟨box (a := a) (b := 8) (o := o) (h := 512) (w := 256) i1 i1' h1 hs1 st1,
        Rect.payAlong (r := Rect.unit (s := S520x512) ![8, o] S512x256.size i1') hR1
          (k0_pay7 (F := Ideal) v31 (View.readAt (Elt Ideal) arg7.view (Rect.unit (s := S1024x5632) ![0, f0] S1024x256.size i3).toLoadRect (harg7.unread x5)))⟩
      :: ⟨box (a := a) (b := 0) (o := o) (h := 8) (w := 256) i2 i2' h2 hs2 st2,
        Rect.payAlong (r := Rect.unit (s := S520x512) ![0, o] S8x256.size i2') hR2 (k0_pay6 (F := Ideal) (arg13.view.readCov L1 (Rect.unit (s := S8x5632) ![0, f0] S8x256.size i4).toLoadRect))⟩ :: L)
        ((Rect.unit (s := S11x520x512) ![a, 0, 0] S1x520x512.size i6).withinL
        ((Rect.unit (s := S520x512) ![512, o] S8x256.size i6').toLoadRect.consLift ![1, 520, 512] h6 hs6) st6)))⟩ :: L1)
    ∧ Blank (k + 1) (⟨Rect.unit (s := S8x5632) ![0, f0] S8x256.size i5, k0_pay6 (F := Ideal) (LoadRect.valAlong (lr := (Rect.unit (s := S520x512) ![512, o] S8x256.size i6').toLoadRect) hR6
      (arg12.view.readCov (⟨box (a := a) (b := 8) (o := o) (h := 512) (w := 256) i1 i1' h1 hs1 st1,
        Rect.payAlong (r := Rect.unit (s := S520x512) ![8, o] S512x256.size i1') hR1
          (k0_pay7 (F := Ideal) v31 (View.readAt (Elt Ideal) arg7.view (Rect.unit (s := S1024x5632) ![0, f0] S1024x256.size i3).toLoadRect (harg7.unread x5)))⟩
      :: ⟨box (a := a) (b := 0) (o := o) (h := 8) (w := 256) i2 i2' h2 hs2 st2,
        Rect.payAlong (r := Rect.unit (s := S520x512) ![0, o] S8x256.size i2') hR2 (k0_pay6 (F := Ideal) (arg13.view.readCov L1 (Rect.unit (s := S8x5632) ![0, f0] S8x256.size i4).toLoadRect))⟩ :: L)
        ((Rect.unit (s := S11x520x512) ![a, 0, 0] S1x520x512.size i6).withinL
        ((Rect.unit (s := S520x512) ![512, o] S8x256.size i6').toLoadRect.consLift ![1, 520, 512] h6 hs6) st6)))⟩ :: L1) := by
  have h := slot_step E v31 arg7 harg7 x5 arg12 hE k a o f0 hp L L1 i1 i1' h1 hs1 st1 hR1 i2 i2' h2 hs2 st2 hR2 i3 i5 i6 i6' h6 hs6 st6 hR6 _
    (fun r e => (load_blank k a o f0 hp L1 hL.2.2 arg13 i4 r e).trans (hC r _).symm) hL.1 hL.2.1
  exact ⟨h.1, h.2, blank_step k a o f0 hp L1 hL.2.2 _ _⟩

end

end Cert.Ffn

end
-- ==== Proof.Ffn.Acc.lean ====
/- The down projection of a tile, accumulated over the chunks of the stacked hidden rows. -/
module

public import proofs.«01_k».proof.Proof.Ffn.Tile

@[expose] public section

set_option maxRecDepth 16384
set_option maxHeartbeats 4000000

noncomputable section

namespace Cert.Ffn

open Cert.Kernel2Ideal Cert.Kernel2Ideal.Gen Idealize.ShloMosaic Idealize.ShloMosaic.TcCoe

theorem taps_inb {f : ℕ} (h : f + 256 ≤ 5632) : ∀ x, ![0, f] x + S3x256.size x ≤ S3x5632.size x := fun x => by
  match x with
  | ⟨0, _⟩ => exact Nat.le_refl 3
  | ⟨1, _⟩ => exact h

theorem down_inb {f : ℕ} (h : f + 256 ≤ 2816) : ∀ x, ![f, 0] x + S256x1024.size x ≤ S2816x1024.size x := fun x => by
  match x with
  | ⟨0, _⟩ => exact h
  | ⟨1, _⟩ => exact Nat.le_refl 1024

theorem chunk_inb {a : ℕ} (h : a < 11) : ∀ x, ![a, 0, 0] x + S1x520x512.size x ≤ S11x520x512.size x := fun x => by
  match x with
  | ⟨0, _⟩ => exact h
  | ⟨1, _⟩ => exact Nat.le_refl 520
  | ⟨2, _⟩ => exact Nat.le_refl 512

theorem rows_inb {b : ℕ} (h : b + 512 ≤ 520) : ∀ x, ![b, 0] x + S512x512.size x ≤ S520x512.size x := fun x => by
  match x with
  | ⟨0, _⟩ => exact h
  | ⟨1, _⟩ => exact Nat.le_refl 512

theorem lift_head : ![1, 520, 512] 0 = 1 := rfl

theorem lift_tail : ∀ i : Fin 2, ![1, 520, 512] i.succ = ![520, 512] i := fun i => by
  match i with
  | ⟨0, _⟩ => rfl
  | ⟨1, _⟩ => rfl

theorem chunk_one {a : ℕ} (h : a < 11) : ∀ x, (Rect.unit (s := S11x520x512) ![a, 0, 0] S1x520x512.size (chunk_inb h)).stride x = 1 := fun _ => rfl

theorem gate_le {a : ℕ} (h : a < 11) : a * 256 + 256 ≤ 5632 := by omega
theorem pair_le {a : ℕ} (h : a < 11) : 2816 + a * 256 + 256 ≤ 5632 := by omega
theorem down_le {a : ℕ} (h : a < 11) : a * 256 + 256 ≤ 2816 := by omega

section
variable (arg8 : Memref sig .tc .vmem S3x5632 .f32) (harg8 : arg8.IsWhole) (arg9 : Memref sig .tc .vmem S2816x1024 .bf16) (harg9 : arg9.IsWhole)
  (arg12 : Memref sig .tc .vmem S11x520x512 .f32) (x6 : Vec Ideal S3x5632 .f32) (x7 : Vec Ideal S2816x1024 .bf16)
  (L : List (View.Piece (Elt Ideal) S11x520x512 .f32))

/-- The convolution weights of a chunk's gate columns. -/
def tapsA {a : ℕ} (h : a < 11) : Vec Ideal S3x256 .f32 :=
  View.readAt (Elt Ideal) arg8.view (Rect.unit (s := S3x5632) ![0, a * 256] S3x256.size (taps_inb (gate_le h))).toLoadRect (harg8.unread x6)

/-- The convolution weights of their partners. -/
def tapsB {a : ℕ} (h : a < 11) : Vec Ideal S3x256 .f32 :=
  View.readAt (Elt Ideal) arg8.view (Rect.unit (s := S3x5632) ![0, 2816 + a * 256] S3x256.size (taps_inb (pair_le h))).toLoadRect (harg8.unread x6)

/-- The down projection's rows of a chunk. -/
def downW {a : ℕ} (h : a < 11) : Vec Ideal S256x1024 .bf16 :=
  View.readAt (Elt Ideal) arg9.view (Rect.unit (s := S2816x1024) ![a * 256, 0] S256x1024.size (down_inb (down_le h))).toLoadRect (harg9.unread x7)

/-- A chunk's hidden rows from row `b`. -/
def rowsAt {a : ℕ} (h : a < 11) {b : ℕ} (hb : b + 512 ≤ 520) : Vec Ideal S512x512 .f32 :=
  LoadRect.valAlong (lr := (Rect.unit (s := S520x512) ![b, 0] S512x512.size (rows_inb hb)).toLoadRect)
      ((Rect.unit (s := S520x512) ![b, 0] S512x512.size (rows_inb hb)).toLoadRect.numel_consLift ![1, 520, 512] lift_head lift_tail)
      (arg12.view.readCov L ((Rect.unit (s := S11x520x512) ![a, 0, 0] S1x520x512.size (chunk_inb h)).withinL
        ((Rect.unit (s := S520x512) ![b, 0] S512x512.size (rows_inb hb)).toLoadRect.consLift ![1, 520, 512] lift_head lift_tail) (chunk_one h)))

theorem at8 : 8 + 512 ≤ 520 := by omega
theorem at7 : 7 + 512 ≤ 520 := by omega
theorem at6 : 6 + 512 ≤ 520 := by omega

/-- The accumulator after the first chunks. -/
def accN : (n : ℕ) → n ≤ 11 → FVec Ideal S512x1024 .f32
  | 0, _ => k0_pay5
  | n + 1, h => k0_pay75 (F := Ideal) (accN n (Nat.le_of_succ_le h))
      (k0_pay73 (tapsA arg8 harg8 x6 h) (tapsB arg8 harg8 x6 h) (rowsAt arg12 L h at8) (rowsAt arg12 L h at7))
      (k0_pay74 (tapsA arg8 harg8 x6 h) (tapsB arg8 harg8 x6 h)) (rowsAt arg12 L h at6) (downW arg9 harg9 x7 h)

theorem acc_zero (r : Fin 512) (d : Fin 1024) : k0_pay5 (F := Ideal) (ix2 r d) = 0 := by
  pointwise [k0_pay5]

theorem tapsA_apply {a : ℕ} (h : a < 11) (i : Fin 3) (e : Fin 256) (he) : tapsA arg8 harg8 x6 h (ix2 i e) = x6 (ix2 i ⟨a * 256 + e, he⟩) :=
  load2 arg8 harg8 x6 _ i e _ _ (Nat.zero_add _) rfl

theorem tapsB_apply {a : ℕ} (h : a < 11) (i : Fin 3) (e : Fin 256) (he) : tapsB arg8 harg8 x6 h (ix2 i e) = x6 (ix2 i ⟨2816 + a * 256 + e, he⟩) :=
  load2 arg8 harg8 x6 _ i e _ _ (Nat.zero_add _) rfl

theorem downW_apply {a : ℕ} (h : a < 11) (e : Fin 256) (d : Fin 1024) (he) : downW arg9 harg9 x7 h (ix2 e d) = x7 (ix2 ⟨a * 256 + e, he⟩ d) :=
  load2 arg9 harg9 x7 _ e d _ _ rfl (Nat.zero_add _)

variable (E : ℕ → Fin 5632 → EReal) (hL : Filled E 22 L)
include hL

theorem rowsAt_apply {a : ℕ} (h : a < 11) {b : ℕ} (hb : b + 512 ≤ 520) (r : Fin 512) (e : Fin 512) :
    rowsAt arg12 L h hb (ix2 r e) = E (b + r) (fcol ⟨a, h⟩ e) := by
  have he : (⟨0 + e, by omega⟩ : Fin 512) = e := Fin.ext (Nat.zero_add _)
  refine (load_stack E 22 L hL arg12 h _ _ _ _ _ _ r e (by omega) (by omega) ?_).trans (by rw [he])
  unfold slot
  have := (fcol ⟨a, h⟩ ⟨0 + e, by omega⟩).2
  split <;> omega

/-- A hidden column's part of the down projection. -/
def term (r : Fin 512) (d : Fin 1024) (f : ℕ) : EReal :=
  if h : f < 2816 then gated (conv (fun k f => x6 (ix2 k f)) (E (8 + r)) (E (7 + r)) (E (6 + r))) ⟨f, h⟩ * x7 (ix2 ⟨f, h⟩ d) else 0

/-- The accumulator after the first chunks is their columns' sum. -/
theorem acc_apply (r : Fin 512) (d : Fin 1024) : ∀ (n : ℕ) (h : n ≤ 11),
    accN arg8 harg8 arg9 harg9 arg12 x6 x7 L n h (ix2 r d) = ∑ f ∈ Finset.range (n * 256), term x6 x7 E r d f
  | 0, _ => by rw [Nat.zero_mul, Finset.range_zero, Finset.sum_empty]; exact acc_zero r d
  | n + 1, h => by
    have hA : ∀ (e : Fin 256), fcol ⟨n, h⟩ ⟨e, by omega⟩ = ⟨n * 256 + e, by omega⟩ := fun e => Fin.ext (if_pos e.2)
    have hB : ∀ (e : Fin 256), fcol ⟨n, h⟩ ⟨256 + e, by omega⟩ = ⟨2816 + n * 256 + e, by omega⟩ := fun e => Fin.ext (by
      show (if 256 + (e : ℕ) < 256 then n * 256 + (256 + e) else 2816 + n * 256 + (256 + e - 256)) = 2816 + n * 256 + (e : ℕ)
      rw [if_neg (by omega)]; omega)
    rw [accN, chunk_apply, acc_apply r d n (Nat.le_of_succ_le h), Nat.succ_mul, Finset.sum_range_add, ← Fin.sum_univ_eq_sum_range (fun x => term x6 x7 E r d (n * 256 + x))]
    refine congrArg _ (Finset.sum_congr rfl fun e _ => ?_)
    simp only [rowsAt_apply arg12 L E hL, hA, hB, tapsA_apply arg8 harg8 x6 h _ _ (show n * 256 + e.val < 5632 by omega),
      tapsB_apply arg8 harg8 x6 h _ _ (show 2816 + n * 256 + e.val < 5632 by omega), downW_apply arg9 harg9 x7 h _ _ (show n * 256 + e.val < 2816 by omega)]
    rw [term, dif_pos (show n * 256 + e.val < 2816 by omega)]
    simp only [gated, conv, Nat.add_assoc]

end

end Cert.Ffn

end
-- ==== Proof.Ffn.Run.lean ====
/- The feed-forward kernel's run of one tile, for a batch's first tile and for a later one. -/
module

public import proofs.«01_k».proof.Proof.Ffn.Acc

@[expose] public section

set_option maxRecDepth 16384
set_option maxHeartbeats 4000000

noncomputable section

namespace Cert.Ffn

open Cert.Kernel2Ideal Cert.Kernel2Ideal.Gen Idealize.ShloMosaic Idealize.ShloMosaic.TcCoe

/-- One store of the whole output block. -/
theorem whole_hit (i : ∀ x, ![0, 0, 0] x + S1x512x1024.size x ≤ S1x512x1024.size x) (w : S1x512x1024.Idx → EReal)
    (L : List (View.Piece (Elt Ideal) S1x512x1024 .f32)) (r : Fin 512) (d : Fin 1024) :
    View.canon (Val := Elt Ideal) (e := .f32) (⟨Rect.unit (s := S1x512x1024) ![0, 0, 0] S1x512x1024.size i, w⟩ :: L) (ix3 0 r d) = w (ix3 0 r d) := by
  have hy : (Rect.unit (s := S1x512x1024) ![0, 0, 0] S1x512x1024.size i).emb (ix3 0 r d) = ix3 0 r d := funext fun a => Fin.ext (by
    rw [Rect.emb_apply]
    match a with
    | ⟨0, _⟩ => rfl
    | ⟨1, _⟩ => show 0 + 1 * (r : ℕ) = r; omega
    | ⟨2, _⟩ => show 0 + 1 * (d : ℕ) = d; omega)
  have h := View.canon_cons_emb (Val := Elt Ideal) (e := .f32) (Rect.unit (s := S1x512x1024) ![0, 0, 0] S1x512x1024.size i) w L (ix3 0 r d)
  rw [hy] at h
  exact h

/-- One store of the whole carry. -/
theorem blank_zero (i : ∀ x, ![0, 0] x + S8x5632.size x ≤ S8x5632.size x) (k : ℕ) (L : List (View.Piece (Elt Ideal) S8x5632 .f32)) :
    Blank k (⟨Rect.unit (s := S8x5632) ![0, 0] S8x5632.size i, k0_pay2 (F := Ideal)⟩ :: L) := by
  intro n f _
  have hy : (Rect.unit (s := S8x5632) ![0, 0] S8x5632.size i).emb (ix2 n f) = ix2 n f := funext fun a => Fin.ext (by
    rw [Rect.emb_apply]
    match a with
    | ⟨0, _⟩ => show 0 + 1 * (n : ℕ) = n; omega
    | ⟨1, _⟩ => show 0 + 1 * (f : ℕ) = f; omega)
  have h := View.canon_cons_emb (Val := Elt Ideal) (e := .f32) (Rect.unit (s := S8x5632) ![0, 0] S8x5632.size i) (k0_pay2 (F := Ideal)) L (ix2 n f)
  rw [hy] at h
  refine h.trans ?_
  pointwise [k0_pay2]

theorem store_apply (v : FVec Ideal S512x1024 .f32) (r : Fin 512) (d : Fin 1024) : k0_pay1 (F := Ideal) v (ix3 0 r d) = v (ix2 r d) := by
  pointwise [k0_pay1]

theorem slot_lt (f : Fin 5632) : slot f < 22 := by
  unfold slot
  have := f.2
  split <;> omega

section
variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S11x520x512 .f32) (harg12 : arg12.IsWhole) (arg13 : Memref sig .tc .vmem S8x5632 .f32) (harg13 : arg13.IsWhole)
  (x0 : Vec Ideal S1x512x1024 .f32) (x1 x2 : Vec Ideal S1x512x512 .bf16) (x3 : Vec Ideal S1024x1024 .bf16)
  (x4 : Vec Ideal S1x1024 .f32) (x5 : Vec Ideal S1024x5632 .bf16) (x6 : Vec Ideal S3x5632 .f32) (x7 : Vec Ideal S2816x1024 .bf16)
  (x8 : Vec Ideal S1x1024 .f32) (xs1 : Vec Ideal S8x5632 .f32) (E : ℕ → Fin 5632 → EReal)

/-- The stored rows, once the stack is filled. -/
theorem stored (L : List (View.Piece (Elt Ideal) S11x520x512 .f32)) (hL : Filled E 22 L) (h : FVec Ideal S512x1024 .f32)
    (hh : ∀ r d, h (ix2 r d) = tileRow x0 x1 x2 x3 r d) (r : Fin 512) (d : Fin 1024) :
    k0_pay1 (F := Ideal) (k0_pay114 h (accN arg8 harg8 arg9 harg9 arg12 x6 x7 L 10 (Nat.le_succ 10))
      (k0_pay111 (tapsA arg8 harg8 x6 (Nat.lt_succ_self 10)) (tapsB arg8 harg8 x6 (Nat.lt_succ_self 10)))
      (k0_pay112 (tapsA arg8 harg8 x6 (Nat.lt_succ_self 10)) (tapsB arg8 harg8 x6 (Nat.lt_succ_self 10)) (rowsAt arg12 L (Nat.lt_succ_self 10) at8))
      (k0_pay113 (tapsA arg8 harg8 x6 (Nat.lt_succ_self 10)) (tapsB arg8 harg8 x6 (Nat.lt_succ_self 10)))
      (rowsAt arg12 L (Nat.lt_succ_self 10) at7) (rowsAt arg12 L (Nat.lt_succ_self 10) at6) (downW arg9 harg9 x7 (Nat.lt_succ_self 10))
      (View.readAt (Elt Ideal) arg10.view (Rect.unit ![0, 0] S1x1024.size inb_S1x1024_S1x1024_0_0).toLoadRect (harg10.unread x8))) (ix3 0 r d)
      = tileOut x0 x1 x2 x3 x6 x7 x8 E r d := by
  refine (store_apply _ r d).trans ((last_apply h _ _ _ _ _ _ _ _ r d).trans ?_)
  unfold tileOut outRow
  refine congrArg₂ (fun a b => rms a b d) (funext fun x => congrArg₂ (· + ·) (hh r x) ?_) (funext fun x => load2 arg10 harg10 x8 _ 0 x _ _ (Nat.zero_add _) (Nat.zero_add _))
  refine (acc_apply arg8 harg8 arg9 harg9 arg12 x6 x7 L E hL r x 11 (Nat.le_refl 11)).trans ?_
  rw [show 11 * 256 = 2816 from rfl, ← Fin.sum_univ_eq_sum_range]
  exact Finset.sum_congr rfl fun f _ => dif_pos f.2

variable (hrow : ∀ (r : Fin 512) (f : Fin 5632), tileHid x0 x1 x2 x3 x4 x5 r f = E (8 + r) f)
include hrow

/-- A later tile's stack and carry. -/
theorem run_B (hC : ∀ (r : Fin 8) (f : Fin 5632), xs1 (ix2 r f) = E r f) (hc0 : ¬cond0_0 i) :
    Filled E 22 (kernelRun0_B.sl.HS0_44 (F := Ideal) c arg2 harg2 arg3 harg3 arg4 harg4 arg5 harg5 arg6 harg6 arg7 harg7 arg13 harg13 x0 x1 x2 x3 x4 x5 xs1)
    ∧ Saved E 22 (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1).2.1 := by
  have hE : ∀ (r : Fin 512) (f : Fin 5632), ∑ d : Fin 1024, kernelRun0_B.sl.r_1 (F := Ideal) c arg2 harg2 arg3 harg3 arg4 harg4 arg5 harg5 arg6 harg6 x0 x1 x2 x3 x4 (ix2 r d) * x5 (ix2 d f) = E (8 + r) f :=
    fun r f => (hid_apply x0 x1 x2 x3 x4 x5 arg6 harg6 _ _ _ _ _ (rows_apply x0 x1 x2 x3 arg2 harg2 arg3 harg3 arg4 harg4 arg5 harg5) r f).trans (hrow r f)
  iterate 22
    refine slot_later E _ arg7 harg7 x5 arg12 arg13 harg13 hE xs1 hC _ _ _ _ (by unfold Place; decide) _ _ _ _ _ _ _ _ _ _ _ _ _ _ _ _ _ _ _ _ _ _ _ ?_
  exact ⟨fun _ _ _ h => absurd h (Nat.not_lt_zero _), fun _ _ h => absurd h (Nat.not_lt_zero _)⟩

/-- A first tile's stack and carry. -/
theorem run_A (hC : ∀ (r : Fin 8) (f : Fin 5632), E r f = 0) (hc0 : cond0_0 i) :
    Filled E 22 (kernelRun0_A.sl.HS0_44 (F := Ideal) c arg2 harg2 arg3 harg3 arg4 harg4 arg5 harg5 arg6 harg6 arg7 harg7 arg12 arg13 x0 x1 x2 x3 x4 x5)
    ∧ Saved E 22 (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1
    ∧ Blank 22 (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 := by
  have hE : ∀ (r : Fin 512) (f : Fin 5632), ∑ d : Fin 1024, kernelRun0_A.sl.r_1 (F := Ideal) c arg2 harg2 arg3 harg3 arg4 harg4 arg5 harg5 arg6 harg6 x0 x1 x2 x3 x4 (ix2 r d) * x5 (ix2 d f) = E (8 + r) f :=
    fun r f => (hid_apply x0 x1 x2 x3 x4 x5 arg6 harg6 _ _ _ _ _ (rows_apply x0 x1 x2 x3 arg2 harg2 arg3 harg3 arg4 harg4 arg5 harg5) r f).trans (hrow r f)
  iterate 22
    refine slot_first E _ arg7 harg7 x5 arg12 arg13 hE hC _ _ _ _ (by unfold Place; decide) _ _ _ _ _ _ _ _ _ _ _ _ _ _ _ _ _ _ _ _ _ _ _ ?_
  exact ⟨fun _ _ _ h => absurd h (Nat.not_lt_zero _), fun _ _ h => absurd h (Nat.not_lt_zero _), blank_zero _ _ _⟩

/-- A later tile's output block. -/
theorem tile_B (hC : ∀ (r : Fin 8) (f : Fin 5632), xs1 (ix2 r f) = E r f) (hc0 : ¬cond0_0 i) (r : Fin 512) (d : Fin 1024) :
    out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1 (ix3 0 r d) = tileOut x0 x1 x2 x3 x6 x7 x8 E r d := by
  refine (View.read_writes_junk_apply_eq_canon _ _ _).trans ((whole_hit _ _ _ r d).trans ?_)
  exact stored arg8 harg8 arg9 harg9 arg10 harg10 arg12 x0 x1 x2 x3 x6 x7 x8 E _ (run_B c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs1 E hrow hC hc0).1 _
    (rows_apply x0 x1 x2 x3 arg2 harg2 arg3 harg3 arg4 harg4 arg5 harg5) r d

/-- A first tile's output block. -/
theorem tile_A (hC : ∀ (r : Fin 8) (f : Fin 5632), E r f = 0) (hc0 : cond0_0 i) (r : Fin 512) (d : Fin 1024) :
    out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 r d) = tileOut x0 x1 x2 x3 x6 x7 x8 E r d := by
  refine (View.read_writes_junk_apply_eq_canon _ _ _).trans ((whole_hit _ _ _ r d).trans ?_)
  exact stored arg8 harg8 arg9 harg9 arg10 harg10 arg12 x0 x1 x2 x3 x6 x7 x8 E _ (run_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 E hrow hC hc0).1 _
    (rows_apply x0 x1 x2 x3 arg2 harg2 arg3 harg3 arg4 harg4 arg5 harg5) r d

/-- The carry a later tile leaves. -/
theorem carry_B (hC : ∀ (r : Fin 8) (f : Fin 5632), xs1 (ix2 r f) = E r f) (hc0 : ¬cond0_0 i) (n : Fin 8) (f : Fin 5632) :
    sout0_B_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1 (ix2 n f) = E (512 + n) f :=
  (View.read_writes_junk_apply_eq_canon _ _ _).trans ((run_B c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 xs1 E hrow hC hc0).2 n f (slot_lt f))

/-- The carry a first tile leaves. -/
theorem carry_A (hC : ∀ (r : Fin 8) (f : Fin 5632), E r f = 0) (hc0 : cond0_0 i) (n : Fin 8) (f : Fin 5632) :
    sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 n f) = E (512 + n) f :=
  (View.read_writes_junk_apply_eq_canon _ _ _).trans ((run_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 E hrow hC hc0).2.1 n f (slot_lt f))

end

end Cert.Ffn

end
-- ==== Proof.Ffn.Seq.lean ====
/- The closed form of the whole call: every token's output row from the argument arrays. -/
module

public import proofs.«01_k».proof.Proof.Ffn.Closed
public import Idealize.ShloMosaic.Lib.Pipeline.ValueKit

@[expose] public section

noncomputable section

namespace Cert.Ffn

open Idealize.ShloMosaic

variable (x : FVec Ideal ⟨3, ![16, 4096, 1024]⟩ .f32) (a g : FVec Ideal ⟨3, ![16, 4096, 512]⟩ .bf16) (wo : FVec Ideal ⟨2, ![1024, 1024]⟩ .f32)
  (fw : FVec Ideal ⟨1, ![1024]⟩ .f32) (wu : FVec Ideal ⟨2, ![1024, 5632]⟩ .f32) (cw : FVec Ideal ⟨2, ![3, 5632]⟩ .f32)
  (wd : FVec Ideal ⟨2, ![2816, 1024]⟩ .f32) (lw : FVec Ideal ⟨1, ![1024]⟩ .f32)

/-- A token's residual row. -/
def seqRow (b : Fin 16) (t : Fin 4096) : Fin 1024 → EReal :=
  resid (fun d => x (ix3 b t d)) (fun k => a (ix3 b t k)) (fun k => g (ix3 b t k)) (fun k d => wo (ix2 k d))

/-- A token's hidden row. -/
def seqHid (b : Fin 16) (t : Fin 4096) : Fin 5632 → EReal :=
  hidden (seqRow x a g wo b t) (fun d => fw (ix1 d)) (fun d f => wu (ix2 d f))

/-- The hidden rows of a batch after eight rows of zero. -/
def lag (b : Fin 16) (p : ℕ) (f : Fin 5632) : EReal :=
  if h : 8 ≤ p ∧ p - 8 < 4096 then seqHid x a g wo fw wu b ⟨p - 8, h.2⟩ f else 0

theorem lag_front (b : Fin 16) {p : ℕ} (h : p < 8) (f : Fin 5632) : lag x a g wo fw wu b p f = 0 := dif_neg (by omega)

theorem lag_row (b : Fin 16) {p : ℕ} (t : Fin 4096) (h : p = t + 8) (f : Fin 5632) : lag x a g wo fw wu b p f = seqHid x a g wo fw wu b t f := by
  subst h
  exact dif_pos ⟨by omega, by omega⟩

/-- A token's output row. -/
def seqOut (y : (⟨3, ![16, 4096, 1024]⟩ : Shape).Idx) : EReal :=
  outRow (seqRow x a g wo (y 0) (y 1)) (conv (fun k f => cw (ix2 k f)) (lag x a g wo fw wu (y 0) ((y 1 : ℕ) + 8))
    (lag x a g wo fw wu (y 0) ((y 1 : ℕ) + 7)) (lag x a g wo fw wu (y 0) ((y 1 : ℕ) + 6))) (fun f d => wd (ix2 f d)) (fun d => lw (ix1 d)) (y 2)

end Cert.Ffn

end
-- ==== Proof.Ffn.Array.lean ====
/- The feed-forward kernel's result array in closed form: each tile's block, placed by the grid. -/
module

public import proofs.«01_k».proof.Proof.Ffn.Run
public import proofs.«01_k».proof.Proof.Ffn.Seq
public import proofs.«01_k».proof.Proof.Gen.Kernel2Ideal.Value

@[expose] public section

set_option maxRecDepth 16384
set_option maxHeartbeats 400000

noncomputable section

namespace Cert.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Where each window's block sits. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![t.val / 8, t.val % 8, 0] ∧ t.val / 8 < 16 :=
  (by decide +kernel : ∀ t : Fin grid0.N, _)

theorem batch_lt (t : Fin cfg0.N) : t.val / 8 < 16 := (idx t).2.2.2.2.2.2.2.2.2.2

/-- A tile's place in its batch. -/
theorem token_lt (t r : ℕ) (h : r < 512) : t % 8 * 512 + r < 4096 := by omega

variable (c : Dev nD)

theorem entry_o (k d : Fin 1024) : (show FVec Ideal S1024x1024 .bf16 from V m c main_v0) (ix2 k d)
    = (show FVec Ideal S1024x1024 .f32 from m ((c : Thread nD τ).loc main_arg3)) (ix2 k d) := by
  entry_read
  pointwise

theorem entry_f (d : Fin 1024) : (show FVec Ideal S1x1024 .f32 from V m c main_v1) (ix2 0 d)
    = (show FVec Ideal S1024 .f32 from m ((c : Thread nD τ).loc main_arg4)) (ix1 d) := by
  entry_read
  pointwise

theorem entry_u (d : Fin 1024) (f : Fin 5632) : (show FVec Ideal S1024x5632 .bf16 from V m c main_v2) (ix2 d f)
    = (show FVec Ideal S1024x5632 .f32 from m ((c : Thread nD τ).loc main_arg5)) (ix2 d f) := by
  entry_read
  pointwise

theorem entry_d (f : Fin 2816) (d : Fin 1024) : (show FVec Ideal S2816x1024 .bf16 from V m c main_v3) (ix2 f d)
    = (show FVec Ideal S2816x1024 .f32 from m ((c : Thread nD τ).loc main_arg7)) (ix2 f d) := by
  entry_read
  pointwise

theorem entry_l (d : Fin 1024) : (show FVec Ideal S1x1024 .f32 from V m c main_v4) (ix2 0 d)
    = (show FVec Ideal S1024 .f32 from m ((c : Thread nD τ).loc main_arg8)) (ix1 d) := by
  entry_read
  pointwise

section
variable (t : Fin cfg0.N)

theorem block_x (r : Fin 512) (d : Fin 1024) : (show FVec Ideal S1x512x1024 .f32 from iblk m c 0 t) (ix3 0 r d)
    = (show FVec Ideal S16x4096x1024 .f32 from m ((c : Thread nD τ).loc main_arg0)) (ix3 ⟨t.val / 8, batch_lt t⟩ ⟨t.val % 8 * 512 + r, token_lt t r r.2⟩ d) := by
  blk_ext [iblk, idx t, V]

theorem block_a (r : Fin 512) (d : Fin 512) : (show FVec Ideal S1x512x512 .bf16 from iblk m c 1 t) (ix3 0 r d)
    = (show FVec Ideal S16x4096x512 .bf16 from m ((c : Thread nD τ).loc main_arg1)) (ix3 ⟨t.val / 8, batch_lt t⟩ ⟨t.val % 8 * 512 + r, token_lt t r r.2⟩ d) := by
  blk_ext [iblk, idx t, V]

theorem block_g (r : Fin 512) (d : Fin 512) : (show FVec Ideal S1x512x512 .bf16 from iblk m c 2 t) (ix3 0 r d)
    = (show FVec Ideal S16x4096x512 .bf16 from m ((c : Thread nD τ).loc main_arg2)) (ix3 ⟨t.val / 8, batch_lt t⟩ ⟨t.val % 8 * 512 + r, token_lt t r r.2⟩ d) := by
  blk_ext [iblk, idx t, V]

theorem block_o (k d : Fin 1024) : (show FVec Ideal S1024x1024 .bf16 from iblk m c 3 t) (ix2 k d)
    = (show FVec Ideal S1024x1024 .bf16 from V m c main_v0) (ix2 k d) := by
  blk_ext [iblk, idx t]

theorem block_f (d : Fin 1024) : (show FVec Ideal S1x1024 .f32 from iblk m c 4 t) (ix2 0 d)
    = (show FVec Ideal S1x1024 .f32 from V m c main_v1) (ix2 0 d) := by
  blk_ext [iblk, idx t]

theorem block_u (d : Fin 1024) (f : Fin 5632) : (show FVec Ideal S1024x5632 .bf16 from iblk m c 5 t) (ix2 d f)
    = (show FVec Ideal S1024x5632 .bf16 from V m c main_v2) (ix2 d f) := by
  blk_ext [iblk, idx t]

theorem block_w (k : Fin 3) (f : Fin 5632) : (show FVec Ideal S3x5632 .f32 from iblk m c 6 t) (ix2 k f)
    = (show FVec Ideal S3x5632 .f32 from m ((c : Thread nD τ).loc main_arg6)) (ix2 k f) := by
  blk_ext [iblk, idx t, V]

theorem block_d (f : Fin 2816) (d : Fin 1024) : (show FVec Ideal S2816x1024 .bf16 from iblk m c 7 t) (ix2 f d)
    = (show FVec Ideal S2816x1024 .bf16 from V m c main_v3) (ix2 f d) := by
  blk_ext [iblk, idx t]

theorem block_l (d : Fin 1024) : (show FVec Ideal S1x1024 .f32 from iblk m c 8 t) (ix2 0 d)
    = (show FVec Ideal S1x1024 .f32 from V m c main_v4) (ix2 0 d) := by
  blk_ext [iblk, idx t]

/-- The eight carried rows and the hidden rows of a tile. -/
def tileE (n : ℕ) (f : Fin 5632) : EReal := lag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 8, batch_lt t⟩ (t.val % 8 * 512 + n) f

/-- A tile's residual rows are its tokens'. -/
theorem row_eq (r : Fin 512) : tileRow (iblk m c 0 t) (iblk m c 1 t) (iblk m c 2 t) (iblk m c 3 t) r
    = seqRow (m ((c : Thread nD τ).loc main_arg0)) (m ((c : Thread nD τ).loc main_arg1)) (m ((c : Thread nD τ).loc main_arg2)) (m ((c : Thread nD τ).loc main_arg3)) ⟨t.val / 8, batch_lt t⟩ ⟨t.val % 8 * 512 + r, token_lt t r r.2⟩ := by
  unfold tileRow seqRow
  rw [show (fun d => (iblk m c 0 t : FVec Ideal S1x512x1024 .f32) (ix3 0 r d)) = _ from funext (block_x m c t r),
    show (fun k => (iblk m c 1 t : FVec Ideal S1x512x512 .bf16) (ix3 0 r k)) = _ from funext (block_a m c t r),
    show (fun k => (iblk m c 2 t : FVec Ideal S1x512x512 .bf16) (ix3 0 r k)) = _ from funext (block_g m c t r),
    show (fun k d => (iblk m c 3 t : FVec Ideal S1024x1024 .bf16) (ix2 k d)) = _ from funext fun k => funext fun d => (block_o m c t k d).trans (entry_o m c k d)]

/-- A tile's hidden rows are its tokens'. -/
theorem hid_eq (r : Fin 512) (f : Fin 5632) :
    tileHid (iblk m c 0 t) (iblk m c 1 t) (iblk m c 2 t) (iblk m c 3 t) (iblk m c 4 t) (iblk m c 5 t) r f = tileE m c t (8 + r) f := by
  unfold tileE
  rw [lag_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 8, batch_lt t⟩ ⟨t.val % 8 * 512 + r, token_lt t r r.2⟩ (by show _ = t.val % 8 * 512 + (r : ℕ) + 8; omega) f]
  unfold tileHid seqHid
  rw [row_eq, show (fun d => (iblk m c 4 t : FVec Ideal S1x1024 .f32) (ix2 0 d)) = _ from funext fun d => (block_f m c t d).trans (entry_f m c d),
    show (fun d f => (iblk m c 5 t : FVec Ideal S1024x5632 .bf16) (ix2 d f)) = _ from funext fun d => funext fun f => (block_u m c t d f).trans (entry_u m c d f)]

/-- A tile's output rows are its tokens'. -/
theorem out_eq (r : Fin 512) (d : Fin 1024) :
    tileOut (iblk m c 0 t) (iblk m c 1 t) (iblk m c 2 t) (iblk m c 3 t) (iblk m c 6 t) (iblk m c 7 t) (iblk m c 8 t) (tileE m c t) r d
      = seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 ⟨t.val / 8, batch_lt t⟩ ⟨t.val % 8 * 512 + r, token_lt t r r.2⟩ d) := by
  unfold tileOut
  rw [row_eq, show (fun k f => (iblk m c 6 t : FVec Ideal S3x5632 .f32) (ix2 k f)) = _ from funext fun k => funext fun f => block_w m c t k f,
    show (fun f d => (iblk m c 7 t : FVec Ideal S2816x1024 .bf16) (ix2 f d)) = _ from funext fun f => funext fun d => (block_d m c t f d).trans (entry_d m c f d),
    show (fun d => (iblk m c 8 t : FVec Ideal S1x1024 .f32) (ix2 0 d)) = _ from funext fun d => (block_l m c t d).trans (entry_l m c d)]
  have e : ∀ k, tileE m c t (k + r) = lag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 8, batch_lt t⟩ (t.val % 8 * 512 + (r : ℕ) + k) := fun k => by
    unfold tileE
    rw [show t.val % 8 * 512 + (k + (r : ℕ)) = t.val % 8 * 512 + (r : ℕ) + k by omega]
  rw [e, e, e]
  rfl

end

/-- The rows a tile carries in are the rows the tile before carried out. -/
theorem tileE_next (k : ℕ) (hk : k + 1 < cfg0.N) (h0 : ¬(k + 1) % 8 = 0) (r : Fin 8) (f : Fin 5632) :
    tileE m c ⟨k, Nat.lt_of_succ_lt hk⟩ (512 + r) f = tileE m c ⟨k + 1, hk⟩ r f := by
  unfold tileE
  have e1 : (⟨k / 8, batch_lt ⟨k, Nat.lt_of_succ_lt hk⟩⟩ : Fin 16) = ⟨(k + 1) / 8, batch_lt ⟨k + 1, hk⟩⟩ := Fin.ext (by show k / 8 = (k + 1) / 8; omega)
  have e2 : k % 8 * 512 + (512 + (r : ℕ)) = (k + 1) % 8 * 512 + r := by omega
  show lag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨k / 8, _⟩ (k % 8 * 512 + (512 + (r : ℕ))) f = lag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨(k + 1) / 8, _⟩ ((k + 1) % 8 * 512 + r) f
  rw [e1, e2]

/-- What a batch's first point leaves. -/
theorem first_point (t : Fin cfg0.N) (h0 : t.val % 8 = 0) :
    (∀ r d, (outsAt0 m c t.val t.isLt).1 (ix3 0 r d) = seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 ⟨t.val / 8, batch_lt t⟩ ⟨t.val % 8 * 512 + (r : ℕ), token_lt t r r.2⟩ d))
    ∧ ∀ n f, (outsAt0 m c t.val t.isLt).2 (ix2 n f) = tileE m c t (512 + (n : ℕ)) f := by
  have hz : ∀ (r : Fin 8) (f : Fin 5632), tileE m c t r f = 0 := fun r f => lag_front _ _ _ _ _ _ _ (by rw [h0]; omega) f
  have hs := outsAt0_A m c t h0
  refine ⟨fun r d => (congrFun (congrArg Prod.fst hs) (ix3 0 r d)).trans ?_, fun n f => (congrFun (congrArg Prod.snd hs) (ix2 n f)).trans ?_⟩
  · refine Eq.trans ?_ (out_eq m c t r d)
    have h := tile_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
          (iblk m c 0 t) (iblk m c 1 t) (iblk m c 2 t) (iblk m c 3 t) (iblk m c 4 t) (iblk m c 5 t) (iblk m c 6 t) (iblk m c 7 t) (iblk m c 8 t) (tileE m c t) (hid_eq m c t) hz ((hcond0_0 t).mpr h0) r d
    dsimp only
    exact h
  · have h := carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
          (iblk m c 0 t) (iblk m c 1 t) (iblk m c 2 t) (iblk m c 3 t) (iblk m c 4 t) (iblk m c 5 t) (iblk m c 6 t) (iblk m c 7 t) (iblk m c 8 t) (tileE m c t) (hid_eq m c t) hz ((hcond0_0 t).mpr h0) n f
    dsimp only
    exact h

/-- What a later point leaves, over what the point before left. -/
theorem later_point (t : Fin cfg0.N) (h0 : ¬t.val % 8 = 0)
    (hp : ∀ (r : Fin 8) (f : Fin 5632), (outsAt0 m c (t.val - 1) (Nat.lt_of_le_of_lt (Nat.sub_le _ _) t.isLt)).2 (ix2 r f) = tileE m c t r f) :
    (∀ r d, (outsAt0 m c t.val t.isLt).1 (ix3 0 r d) = seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 ⟨t.val / 8, batch_lt t⟩ ⟨t.val % 8 * 512 + (r : ℕ), token_lt t r r.2⟩ d))
    ∧ ∀ n f, (outsAt0 m c t.val t.isLt).2 (ix2 n f) = tileE m c t (512 + (n : ℕ)) f := by
  have hs := outsAt0_B m c t h0
  refine ⟨fun r d => (congrFun (congrArg Prod.fst hs) (ix3 0 r d)).trans ?_, fun n f => (congrFun (congrArg Prod.snd hs) (ix2 n f)).trans ?_⟩
  · refine Eq.trans ?_ (out_eq m c t r d)
    have h := tile_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
          (iblk m c 0 t) (iblk m c 1 t) (iblk m c 2 t) (iblk m c 3 t) (iblk m c 4 t) (iblk m c 5 t) (iblk m c 6 t) (iblk m c 7 t) (iblk m c 8 t) _ (tileE m c t) (hid_eq m c t) hp (fun h => h0 ((hcond0_0 t).mp h)) r d
    dsimp only
    exact h
  · have h := carry_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _)
          (iblk m c 0 t) (iblk m c 1 t) (iblk m c 2 t) (iblk m c 3 t) (iblk m c 4 t) (iblk m c 5 t) (iblk m c 6 t) (iblk m c 7 t) (iblk m c 8 t) _ (tileE m c t) (hid_eq m c t) hp (fun h => h0 ((hcond0_0 t).mp h)) n f
    dsimp only
    exact h

/-- What every grid point leaves: its tokens' output rows, and their last eight hidden rows. -/
theorem points : ∀ (k : ℕ) (hk : k < cfg0.N),
    (∀ r d, (outsAt0 m c k hk).1 (ix3 0 r d) = seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 ⟨k / 8, batch_lt ⟨k, hk⟩⟩ ⟨k % 8 * 512 + (r : ℕ), token_lt k r r.2⟩ d))
    ∧ ∀ n f, (outsAt0 m c k hk).2 (ix2 n f) = tileE m c ⟨k, hk⟩ (512 + (n : ℕ)) f
  | 0, hk => first_point m c ⟨0, hk⟩ rfl
  | k + 1, hk => by
    by_cases h0 : (k + 1) % 8 = 0
    · exact first_point m c ⟨k + 1, hk⟩ h0
    · exact later_point m c ⟨k + 1, hk⟩ h0 fun r f => ((points k (Nat.lt_of_succ_lt hk)).2 r f).trans (tileE_next m c k hk h0 r f)

/-- What a grid point's block holds, at the array's index. -/
theorem point (t : Fin cfg0.N) (y : S1x512x1024.Idx) :
    (outsAt0 m c t.val t.isLt).1 y
      = seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 ⟨t.val / 8, batch_lt t⟩ ⟨t.val % 8 * 512 + (y 1 : ℕ), token_lt t _ (y 1).isLt⟩ (y 2)) := by
  obtain ⟨r, d, rfl⟩ : ∃ (r : Fin 512) (d : Fin 1024), y = ix3 0 r d := ⟨y 1, y 2, funext fun k => by
    match k with
    | ⟨0, _⟩ => exact Subsingleton.elim (α := Fin 1) _ _
    | ⟨1, _⟩ => rfl
    | ⟨2, _⟩ => rfl⟩
  exact (points m c t.val t.isLt).1 r d

/-- The kernel's result array. -/
theorem final : (dats m 0 c).arrAt 9 (cfgs 0).N = seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  refine (point m c t y).trans (congrArg (seqOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) ?_)
  blk_ext [idx t]

end Cert.Ffn

end
-- ==== Proof.Ffn.Reference.lean ====
/- The reference's result in closed form: every token's output row from the argument arrays. -/
module

public import proofs.«01_k».proof.Proof.Gen.Reference2Ideal.Read
public import proofs.«01_k».proof.Proof.Ffn.Seq

@[expose] public section

set_option maxRecDepth 16384

noncomputable section

namespace Cert.Ffn.Ref

open Cert.Reference2Ideal Cert.Reference2Ideal.Gen Cert.Reference2Ideal.Read Idealize.ShloMosaic Idealize.ShloMosaic.TcCoe

variable (x0 : FVec Ideal S16x4096x1024 .f32) (x1 x2 : FVec Ideal S16x4096x512 .bf16) (x3 : FVec Ideal S1024x1024 .f32)
  (x4 : FVec Ideal S1024 .f32) (x5 : FVec Ideal S1024x5632 .f32) (x6 : FVec Ideal S3x5632 .f32) (x7 : FVec Ideal S2816x1024 .f32)
  (x8 : FVec Ideal S1024 .f32)

/-- The first half of the joined columns is the attention's. -/
theorem cat_low (b : Fin 16) (t : Fin 4096) (k : Fin 512) (h : (k : ℕ) < 1024) :
    val_main_v2 (F := Ideal) x1 x2 (ix3 b t ⟨k, h⟩) = x1 (ix3 b t k) := by
  pointwise [val_main_v2, val_main_v0, val_main_v1]

/-- The second half of the joined columns is the delta rule's. -/
theorem cat_high (b : Fin 16) (t : Fin 4096) (k : Fin 512) (h : 512 + (k : ℕ) < 1024) :
    val_main_v2 (F := Ideal) x1 x2 (ix3 b t ⟨512 + k, h⟩) = x2 (ix3 b t k) := by
  pointwise [val_main_v2, val_main_v0, val_main_v1]

/-- A sum over 1024 places is the sum over its two halves. -/
theorem sum_halves (f : Fin 1024 → EReal) :
    ∑ k, f k = ∑ k : Fin 512, f ⟨k, by omega⟩ + ∑ k : Fin 512, f ⟨512 + k, by omega⟩ :=
  Fin.sum_univ_add (a := 512) (b := 512) f

/-- The residual row. -/
theorem row_apply (b : Fin 16) (t : Fin 4096) (d : Fin 1024) :
    val_main_v4 (F := Ideal) x0 x1 x2 x3 (ix3 b t d) = seqRow x0 x1 x2 x3 b t d := by
  have h : val_main_v4 (F := Ideal) x0 x1 x2 x3 (ix3 b t d)
      = x0 (ix3 b t d) + ∑ k : Fin 1024, val_main_v2 (F := Ideal) x1 x2 (ix3 b t k) * x3 (ix2 k d) := by
    pointwise [val_main_v4, val_main_v3]
  rw [h, sum_halves, ← add_assoc]
  unfold seqRow resid
  simp only [cat_low, cat_high]

/-- The norm before the hidden projection. -/
theorem norm_apply (b : Fin 16) (t : Fin 4096) (d : Fin 1024) :
    val_main_v17 (F := Ideal) x0 x1 x2 x3 x4 (ix3 b t d)
      = rms (fun x => val_main_v4 (F := Ideal) x0 x1 x2 x3 (ix3 b t x)) (fun x => x4 (ix1 x)) d := by
  pointwise [val_main_v17, val_main_v16, val_main_v15, val_main_v14, val_main_v13, val_main_v12, val_main_v11, val_main_v10, val_main_v9, val_main_v8, val_main_v7, val_main_v6, val_main_v5, val_main_cst, val_main_cst_0, val_main_cst_1]
  rfl

/-- The hidden row. -/
theorem hid_apply (b : Fin 16) (t : Fin 4096) (f : Fin 5632) :
    val_main_v18 (F := Ideal) x0 x1 x2 x3 x4 x5 (ix3 b t f) = seqHid x0 x1 x2 x3 x4 x5 b t f := by
  have h : val_main_v18 (F := Ideal) x0 x1 x2 x3 x4 x5 (ix3 b t f)
      = ∑ d : Fin 1024, val_main_v17 (F := Ideal) x0 x1 x2 x3 x4 (ix3 b t d) * x5 (ix2 d f) := by
    pointwise [val_main_v18]
  rw [h]
  simp only [norm_apply, row_apply]
  rfl

/-- The padded hidden rows. -/
theorem pad_apply (b : Fin 16) (p : Fin 4098) (f : Fin 5632) :
    val_main_v19 (F := Ideal) x0 x1 x2 x3 x4 x5 (ix3 b p f) = lag x0 x1 x2 x3 x4 x5 b ((p : ℕ) + 6) f := by
  have h : val_main_v19 (F := Ideal) x0 x1 x2 x3 x4 x5 (ix3 b p f)
      = if h : 2 ≤ (p : ℕ) ∧ (p : ℕ) - 2 < 4096 then val_main_v18 (F := Ideal) x0 x1 x2 x3 x4 x5 (ix3 b ⟨p - 2, h.2⟩ f)
        else FloatOps.sitofp (F := Ideal) FTy.f32 0#32 := by
    pointwise [val_main_v19, val_main_call0_v0, val_main_c]
  rw [h]
  split
  · next h => rw [hid_apply, lag_row x0 x1 x2 x3 x4 x5 b ⟨p - 2, h.2⟩ (by dsimp only; omega)]
  · next h => rw [lag_front x0 x1 x2 x3 x4 x5 b (by omega)]; simp [FloatOps.sitofp]

/-- The convolved rows. -/
theorem conv_apply (b : Fin 16) (t : Fin 4096) (f : Fin 5632) :
    val_main_v39 (F := Ideal) x0 x1 x2 x3 x4 x5 x6 (ix3 b t f)
      = conv (fun k f => x6 (ix2 k f)) (lag x0 x1 x2 x3 x4 x5 b ((t : ℕ) + 8)) (lag x0 x1 x2 x3 x4 x5 b ((t : ℕ) + 7)) (lag x0 x1 x2 x3 x4 x5 b ((t : ℕ) + 6)) f := by
  have h : val_main_v39 (F := Ideal) x0 x1 x2 x3 x4 x5 x6 (ix3 b t f)
      = x6 (ix2 0 f) * val_main_v19 (F := Ideal) x0 x1 x2 x3 x4 x5 (ix3 b ⟨t, by omega⟩ f)
        + x6 (ix2 1 f) * val_main_v19 (F := Ideal) x0 x1 x2 x3 x4 x5 (ix3 b ⟨1 + t, by omega⟩ f)
        + x6 (ix2 2 f) * val_main_v19 (F := Ideal) x0 x1 x2 x3 x4 x5 (ix3 b ⟨2 + t, by omega⟩ f) := by
    pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20]
  rw [h, pad_apply, pad_apply, pad_apply]
  unfold conv
  dsimp only
  rw [show 1 + (t : ℕ) + 6 = t + 7 by omega, show 2 + (t : ℕ) + 6 = t + 8 by omega]
  exact (add_comm _ _).trans ((congrArg _ (add_comm _ _)).trans (add_assoc _ _ _).symm)

/-- The gated row. -/
theorem gate_apply (b : Fin 16) (t : Fin 4096) (f : Fin 2816) :
    val_main_v43 (F := Ideal) x0 x1 x2 x3 x4 x5 x6 (ix3 b t f)
      = gated (fun f => val_main_v39 (F := Ideal) x0 x1 x2 x3 x4 x5 x6 (ix3 b t f)) f := by
  unfold gated
  rw [gate_eq]
  pointwise [val_main_v43, val_main_v42, val_main_v41, val_main_v40, val_main_call1_v0, val_main_call1_v1, val_main_call1_v2, val_main_call1_v3, val_main_call1_v4, val_main_call1_v5, val_main_call1_cst, val_main_call1_cst_0]
  rfl

/-- The row before the last norm. -/
theorem down_apply (b : Fin 16) (t : Fin 4096) (d : Fin 1024) :
    val_main_v45 (F := Ideal) x0 x1 x2 x3 x4 x5 x6 x7 (ix3 b t d)
      = val_main_v4 (F := Ideal) x0 x1 x2 x3 (ix3 b t d)
        + ∑ f : Fin 2816, val_main_v43 (F := Ideal) x0 x1 x2 x3 x4 x5 x6 (ix3 b t f) * x7 (ix2 f d) := by
  pointwise [val_main_v45, val_main_v44]

/-- The last norm. -/
theorem last_apply (b : Fin 16) (t : Fin 4096) (d : Fin 1024) :
    val_main_v58 (F := Ideal) x0 x1 x2 x3 x4 x5 x6 x7 x8 (ix3 b t d)
      = rms (fun x => val_main_v45 (F := Ideal) x0 x1 x2 x3 x4 x5 x6 x7 (ix3 b t x)) (fun x => x8 (ix1 x)) d := by
  pointwise [val_main_v58, val_main_v57, val_main_v56, val_main_v55, val_main_v54, val_main_v53, val_main_v52, val_main_v51, val_main_v50, val_main_v49, val_main_v48, val_main_v47, val_main_v46, val_main_cst_2, val_main_cst_3, val_main_cst_4]
  rfl

/-- The reference's result, entry by entry. -/
theorem result_apply (b : Fin 16) (t : Fin 4096) (d : Fin 1024) :
    val_main_v58 (F := Ideal) x0 x1 x2 x3 x4 x5 x6 x7 x8 (ix3 b t d) = seqOut x0 x1 x2 x3 x4 x5 x6 x7 x8 (ix3 b t d) := by
  rw [last_apply]
  simp only [down_apply, row_apply, gate_apply, conv_apply]
  rfl

end Cert.Ffn.Ref

end
-- ==== Proof.Ffn.Result.lean ====
/- The kernel's result and the reference's, over the same arguments, are the same array. -/
module

public import proofs.«01_k».proof.Proof.Ffn.Array
public import proofs.«01_k».proof.Proof.Ffn.Reference

@[expose] public section

noncomputable section

namespace Cert.Ffn

open Idealize.ShloMosaic Idealize.ShloMosaic.TcCoe Idealize.SL.Sem Cert.Kernel2Ideal Cert.Kernel2Ideal.Gen

/-- The kernel's result array is the reference's. -/
theorem result_eq (m : (ℓ : Loc nD τ sig) → Buf (Elt Ideal) ℓ) (c : Dev nD) :
    (dats m 0 c).arrAt 9 (cfgs 0).N
      = Cert.Reference2Ideal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (final m c).trans ?_
  funext y
  obtain ⟨b, t, d, rfl⟩ : ∃ (b : Fin 16) (t : Fin 4096) (d : Fin 1024), y = ix3 b t d := ⟨y 0, y 1, y 2, funext fun k => by fin_cases k <;> rfl⟩
  exact (Ref.result_apply _ _ _ _ _ _ _ _ _ b t d).symm

end Cert.Ffn

end
-- ==== Proof.Inproj.Closed.lean ====
/- The closed forms of the input projections: a token's normalized row through the weights, the causal convolution over four
   projected rows with its logistic gate, a head divided by its length, and a rotated head. -/
module

public import proofs.«01_k».proof.Proof.Ffn.Closed

@[expose] public section

noncomputable section

namespace Cert.Inproj

open Idealize.ShloMosaic

/-- The convolution of a column over a token and the three before it. -/
def taps (w : Fin 4 → EReal) (a b c d : EReal) : EReal := w 3 * a + w 2 * b + w 1 * c + w 0 * d

/-- A number times its logistic, through the hyperbolic tangent. -/
def gate (y : EReal) : EReal :=
  Ideal.ofBits FTy.f32 1056964608#32 * y * (Ideal.ofBits FTy.f32 1065353216#32 + Ideal.tanh (Ideal.ofBits FTy.f32 1056964608#32 * y))

/-- A head over its length, times a factor. -/
def unit (y : Fin 128 → EReal) (s : EReal) (e : Fin 128) : EReal :=
  y e * (Ideal.rsqrt (∑ x, y x * y x + Ideal.ofBits FTy.f32 897988541#32) * s)

theorem turn_lt (e : ℕ) : (e + 64) % 128 < 128 := by omega

/-- The column half a head away. -/
def turn (e : Fin 128) : Fin 128 := ⟨(e + 64) % 128, turn_lt e⟩

/-- A head turned by the tables, times a factor. -/
def rot (p c s : Fin 128 → EReal) (k : EReal) (e : Fin 128) : EReal := (p e * c e + p (turn e) * s e) * k

end Cert.Inproj

end
-- ==== Proof.Inproj.Head.lean ====
/- The arithmetic of one tile of the input-projection kernel, payload by payload. -/
module

public import proofs.«01_k».proof.Proof.Inproj.Closed
public import proofs.«01_k».proof.Proof.Gen.Kernel3Ideal.Skeleton
public import Idealize.ShloMosaic.Lib.Pipeline.FrameBody
public import Idealize.ShloMosaic.Lib.Pointwise

@[expose] public section

set_option maxRecDepth 16384
set_option maxHeartbeats 1000000

noncomputable section

namespace Cert.Inproj

open Cert.Kernel3Ideal Cert.Kernel3Ideal.Gen Idealize.ShloMosaic Idealize.ShloMosaic.TcCoe

/-- The normalized rows of a tile. -/
theorem norm_apply (v3 : Vec Ideal S1x512x1024 .f32) (v5 : Vec Ideal S1x1024 .f32) (r : Fin 512) (d : Fin 1024) :
    k0_pay3 (F := Ideal) v3 v5 (ix2 r d) = Cert.Ffn.rms (fun x => v3 (ix3 0 r x)) (fun x => v5 (ix2 0 x)) d := by
  unfold Cert.Ffn.rms
  pointwise [k0_pay3]

/-- A projection kept in scratch. -/
theorem proj_apply (v : FVec Ideal S512x1024 .bf16) (w : Vec Ideal S1024x512 .bf16) (r e : Fin 512) :
    k0_pay12 (F := Ideal) v w (ix2 r e) = ∑ d : Fin 1024, v (ix2 r d) * w (ix2 d e) := by
  pointwise [k0_pay12]

/-- A projection stored as it is. -/
theorem plain_apply (v : FVec Ideal S512x1024 .bf16) (w : Vec Ideal S1024x512 .bf16) (r e : Fin 512) :
    k0_pay10 (F := Ideal) v w (ix3 0 r e) = ∑ d : Fin 1024, v (ix2 r d) * w (ix2 d e) := by
  pointwise [k0_pay10]

/-- The small projection. -/
theorem small_apply (v : FVec Ideal S512x1024 .bf16) (w : Vec Ideal S1024x128 .bf16) (r : Fin 512) (e : Fin 128) :
    k0_pay51 (F := Ideal) v w (ix3 0 r e) = ∑ d : Fin 1024, v (ix2 r d) * w (ix2 d e) := by
  pointwise [k0_pay51]

theorem copy_apply (v : Vec Ideal S8x512 .f32) (r : Fin 8) (e : Fin 512) : k0_pay6 (F := Ideal) v (ix2 r e) = v (ix2 r e) := by
  pointwise [k0_pay6]

/-- One head of the gated rows. -/
theorem gate_apply (w : Vec Ideal S4x128 .f32) (a b c d : Vec Ideal S512x128 .f32) (r : Fin 512) (e : Fin 128) :
    k0_pay55 (F := Ideal) w a b c d (ix3 0 r e)
      = gate (taps (fun k => w (ix2 k e)) (a (ix2 r e)) (b (ix2 r e)) (c (ix2 r e)) (d (ix2 r e))) := by
  unfold gate taps
  pointwise [k0_pay55]

theorem gate_apply' (w : Vec Ideal S4x128 .f32) (a b c d : Vec Ideal S512x128 .f32) (r : Fin 512) (e : Fin 128) :
    k0_pay38 (F := Ideal) w a b c d (ix2 r e)
      = gate (taps (fun k => w (ix2 k e)) (a (ix2 r e)) (b (ix2 r e)) (c (ix2 r e)) (d (ix2 r e))) := by
  unfold gate taps
  pointwise [k0_pay38]

/-- One head of the gated rows over its length, times the query factor. -/
theorem headq_apply (w : Vec Ideal S4x128 .f32) (a b c d : Vec Ideal S512x128 .f32) (r : Fin 512) (e : Fin 128) :
    k0_pay21 (F := Ideal) w (k0_pay19 w a) (k0_pay20 w b) c d (ix3 0 r e) = unit (fun x => k0_pay38 w a b c d (ix2 r x)) (Ideal.ofBits FTy.f32 1035273459#32) e := by
  unfold unit
  pointwise [k0_pay21, k0_pay19, k0_pay20, k0_pay38]

/-- One head of the gated rows over its length. -/
theorem headk_apply (w : Vec Ideal S4x128 .f32) (a b c d : Vec Ideal S512x128 .f32) (r : Fin 512) (e : Fin 128) :
    k0_pay40 (F := Ideal) (k0_pay38 w a b c d) (k0_pay39 w a b c d) (Scalar.ofBits .f32 0x358637BD#32) (ix3 0 r e)
      = unit (fun x => k0_pay38 w a b c d (ix2 r x)) (Ideal.ofBits FTy.f32 1065353216#32) e := by
  unfold unit k0_pay39
  generalize k0_pay38 w a b c d = y
  pointwise [k0_pay40]

/-! The body writes each head's operations in pieces of its own; they are the same operations. -/

section
variable (w : Vec Ideal S4x128 .f32) (a b c d : Vec Ideal S512x128 .f32)

theorem headq_0 : k0_pay18 (F := Ideal) w (k0_pay16 w a) b (k0_pay17 w) c d = k0_pay21 w (k0_pay19 w a) (k0_pay20 w b) c d := rfl

theorem headq_2 : k0_pay23 (F := Ideal) w (k0_pay22 w a b) c d = k0_pay21 w (k0_pay19 w a) (k0_pay20 w b) c d := rfl

theorem headq_3 : k0_pay26 (F := Ideal) w (k0_pay24 w a b) (k0_pay25 w) c d = k0_pay21 w (k0_pay19 w a) (k0_pay20 w b) c d := rfl

theorem headk_1 : k0_pay44 (F := Ideal) (k0_pay41 w a b c d) (k0_pay42 w a b c d) k0_pay43
    = k0_pay40 (k0_pay38 w a b c d) (k0_pay39 w a b c d) (Scalar.ofBits .f32 0x358637BD#32) := rfl

theorem headk_2 : k0_pay47 (F := Ideal) (k0_pay45 w a b c d) (k0_pay46 w a b c d)
    = k0_pay40 (k0_pay38 w a b c d) (k0_pay39 w a b c d) (Scalar.ofBits .f32 0x358637BD#32) := rfl

theorem headk_3 : k0_pay50 (F := Ideal) (k0_pay48 w a b c d) (k0_pay49 w a b c d)
    = k0_pay40 (k0_pay38 w a b c d) (k0_pay39 w a b c d) (Scalar.ofBits .f32 0x358637BD#32) := rfl

theorem headv_0 : k0_pay54 (F := Ideal) (k0_pay52 w a b c d) (k0_pay53 w a b c d) = k0_pay55 w a b c d := rfl

theorem headv_2 : k0_pay56 (F := Ideal) w a b c d = k0_pay55 w a b c d := rfl

theorem headv_3 : k0_pay1 (F := Ideal) w (k0_pay57 w a b) c d = k0_pay55 w a b c d := rfl

end

/-! So are the copies of the carried rows and the projections kept in scratch. -/

section
variable (w : Vec Ideal S8x512 .f32) (v3 : Vec Ideal S1x512x1024 .f32) (v5 : Vec Ideal S1x1024 .f32) (v : FVec Ideal S512x1024 .bf16) (u : Vec Ideal S1024x512 .bf16)

theorem copy_9 : k0_pay9 (F := Ideal) w = k0_pay6 w := rfl

theorem copy_11 : k0_pay11 (F := Ideal) w = k0_pay6 w := rfl

theorem copy_13 : k0_pay13 (F := Ideal) w = k0_pay6 w := rfl

theorem copy_27 : k0_pay27 (F := Ideal) w = k0_pay6 w := rfl

theorem copy_30 : k0_pay30 (F := Ideal) w = k0_pay6 w := rfl

theorem proj_7 : k0_pay8 (F := Ideal) (k0_pay7 v3 v5 u) = k0_pay12 (k0_pay3 v3 v5) u := rfl

theorem proj_28 : k0_pay29 (F := Ideal) (k0_pay28 v u) = k0_pay12 v u := rfl

theorem plain_31 : k0_pay31 (F := Ideal) v u = k0_pay10 v u := rfl

end

/-- The tables are copied. -/
theorem cos_apply (v : Vec Ideal S512x128 .f32) (r : Fin 512) (e : Fin 128) : k0_pay4 (F := Ideal) v (ix2 r e) = v (ix2 r e) := by
  pointwise [k0_pay4]

theorem sin_apply (v : Vec Ideal S512x128 .f32) (r : Fin 512) (e : Fin 128) : k0_pay5 (F := Ideal) v (ix2 r e) = v (ix2 r e) := by
  pointwise [k0_pay5]

/-- The rotated queries. -/
theorem rotq_apply (v19 : FVec Ideal S512x1024 .bf16) (v21 v23 : FVec Ideal S512x128 .f32) (w : Vec Ideal S1024x512 .bf16) (r : Fin 512) (j : Fin 512) :
    k0_pay15 (F := Ideal) v19 v21 v23 (k0_pay14 w) (constant S512x512 .f32 0x00000000#32) (ix3 0 r j)
      = rot (fun x => ∑ d : Fin 1024, v19 (ix2 r d) * w (ix2 d ⟨j / 128 * 128 + x, by omega⟩)) (fun x => v21 (ix2 r x)) (fun x => v23 (ix2 r x)) (Ideal.ofBits FTy.f32 1043900987#32) ⟨j % 128, by omega⟩ := by
  unfold rot turn
  have key : ∀ (a b a' b' : Fin 512) (c c' : Fin 128), (a : ℕ) = a' → (b : ℕ) = b' → (c : ℕ) = c' →
      ((∑ x, v19 (ix2 r x) * w (ix2 x a)) * v21 (ix2 r c) + (∑ x, v19 (ix2 r x) * w (ix2 x b)) * v23 (ix2 r c)) * Ideal.ofBits FTy.f32 1043900987#32
        = ((∑ x, v19 (ix2 r x) * w (ix2 x a')) * v21 (ix2 r c') + (∑ x, v19 (ix2 r x) * w (ix2 x b')) * v23 (ix2 r c')) * Ideal.ofBits FTy.f32 1043900987#32 := by
    intro a b a' b' c c' ha hb hc
    rw [Fin.ext ha, Fin.ext hb, Fin.ext hc]
  have hj := j.2
  pointwise [k0_pay15, k0_pay14]
  split_ifs <;> exact key _ _ _ _ _ _ (by dsimp only; omega) (by dsimp only; omega) (by dsimp only; omega)

/-- The rotated keys. -/
theorem rotk_apply (v19 : FVec Ideal S512x1024 .bf16) (v21 v23 : FVec Ideal S512x128 .f32) (w : Vec Ideal S1024x512 .bf16) (r : Fin 512) (j : Fin 512) :
    k0_pay37 (F := Ideal) v21 v23 (k0_pay33 v19 v21 v23 w) (k0_pay34 v19 v21 v23 w) (k0_pay35 v19 v21 v23 w) (k0_pay36 v19 w) (ix3 0 r j)
      = rot (fun x => ∑ d : Fin 1024, v19 (ix2 r d) * w (ix2 d ⟨j / 128 * 128 + x, by omega⟩)) (fun x => v21 (ix2 r x)) (fun x => v23 (ix2 r x)) (Ideal.ofBits FTy.f32 1065353216#32) ⟨j % 128, by omega⟩ := by
  unfold rot turn
  have key : ∀ (a b a' b' : Fin 512) (c c' : Fin 128), (a : ℕ) = a' → (b : ℕ) = b' → (c : ℕ) = c' →
      (∑ x, v19 (ix2 r x) * w (ix2 x a)) * v21 (ix2 r c) + (∑ x, v19 (ix2 r x) * w (ix2 x b)) * v23 (ix2 r c)
        = (∑ x, v19 (ix2 r x) * w (ix2 x a')) * v21 (ix2 r c') + (∑ x, v19 (ix2 r x) * w (ix2 x b')) * v23 (ix2 r c') := by
    intro a b a' b' c c' ha hb hc
    rw [Fin.ext ha, Fin.ext hb, Fin.ext hc]
  have hj := j.2
  pointwise [k0_pay37, k0_pay36, k0_pay35, k0_pay34, k0_pay33, k0_pay32]
  split_ifs <;> exact key _ _ _ _ _ _ (by dsimp only; omega) (by dsimp only; omega) (by dsimp only; omega)

end Cert.Inproj

end
-- ==== Proof.Inproj.Stack.lean ====
/- The scratch arrays of the input-projection kernel: what a slot's window and the carry hold after their stores, and what the
   stores of an output block leave. -/
module

public import proofs.«01_k».proof.Proof.Inproj.Head

@[expose] public section

set_option maxRecDepth 16384

noncomputable section

namespace Cert.Inproj

open Cert.Kernel3Ideal Cert.Kernel3Ideal.Gen Idealize.ShloMosaic Idealize.ShloMosaic.TcCoe

theorem col_lt {s e : ℕ} (hs : s < 3) (he : e < 512) : s * 512 + e < 1536 := by omega

/-- Column `e` of slot `s`. -/
def col (s : Fin 3) (e : Fin 512) : Fin 1536 := ⟨s * 512 + e, col_lt s.2 e.2⟩

/-- A slot's window holds the rows `E`: eight carried rows, then the tile's. -/
def Holds (E : ℕ → Fin 1536 → EReal) (s : Fin 3) (L : List (View.Piece (Elt Ideal) S520x512 .f32)) : Prop :=
  ∀ (n : Fin 520) (e : Fin 512), View.canon L (ix2 n e) = E n (col s e)

/-- The carry holds the last eight rows of `E` in the first `k` slots. -/
def Saved (E : ℕ → Fin 1536 → EReal) (k : ℕ) (L : List (View.Piece (Elt Ideal) S8x1536 .f32)) : Prop :=
  ∀ (n : Fin 8) (f : Fin 1536), (f : ℕ) < k * 512 → View.canon L (ix2 n f) = E (512 + n) f

/-- The carry is still zero in the slots from `k` on. -/
def Blank (k : ℕ) (L : List (View.Piece (Elt Ideal) S8x1536 .f32)) : Prop :=
  ∀ (n : Fin 8) (f : Fin 1536), k * 512 ≤ (f : ℕ) → View.canon L (ix2 n f) = 0

/-- Off the last store of a two-axis array, it is what the earlier stores left. -/
theorem box_skip {H W h w b o : ℕ} (i : ∀ x, ![b, o] x + (⟨2, ![h, w]⟩ : Shape).size x ≤ (⟨2, ![H, W]⟩ : Shape).size x)
    (wt : (⟨2, ![h, w]⟩ : Shape).Idx → EReal) (L : List (View.Piece (Elt Ideal) ⟨2, ![H, W]⟩ .f32)) (n : Fin H) (f : Fin W)
    (hn : ¬ (b ≤ (n : ℕ) ∧ (n : ℕ) < b + h ∧ o ≤ (f : ℕ) ∧ (f : ℕ) < o + w)) :
    View.canon (Val := Elt Ideal) (e := .f32) (⟨Rect.unit (s := ⟨2, ![H, W]⟩) ![b, o] (⟨2, ![h, w]⟩ : Shape).size i, wt⟩ :: L) (ix2 n f)
      = View.canon L (ix2 n f) := by
  refine View.canon_cons_of_not_mem _ _ fun hm => hn ?_
  obtain ⟨x, hx⟩ := (Rect.unit (s := ⟨2, ![H, W]⟩) ![b, o] (⟨2, ![h, w]⟩ : Shape).size i).exists_idx_of_mem hm
  have e0 := congrArg (fun y : (⟨2, ![H, W]⟩ : Shape).Idx => (y 0 : ℕ)) hx
  have e1 := congrArg (fun y : (⟨2, ![H, W]⟩ : Shape).Idx => (y 1 : ℕ)) hx
  have l0 : (x 0 : ℕ) < h := (x 0).isLt
  have l1 : (x 1 : ℕ) < w := (x 1).isLt
  simp only [Rect.emb_apply] at e0 e1
  have e0' : b + 1 * (x 0 : ℕ) = (n : ℕ) := e0
  have e1' : o + 1 * (x 1 : ℕ) = (f : ℕ) := e1
  omega

/-- At the last store, it is the payload. -/
theorem box_hit {H W h w b o : ℕ} (i : ∀ x, ![b, o] x + (⟨2, ![h, w]⟩ : Shape).size x ≤ (⟨2, ![H, W]⟩ : Shape).size x)
    (wt : (⟨2, ![h, w]⟩ : Shape).Idx → EReal) (L : List (View.Piece (Elt Ideal) ⟨2, ![H, W]⟩ .f32)) (n : Fin H) (f : Fin W)
    (r : Fin h) (e : Fin w) (hr : (n : ℕ) = b + r) (he : (f : ℕ) = o + e) :
    View.canon (Val := Elt Ideal) (e := .f32) (⟨Rect.unit (s := ⟨2, ![H, W]⟩) ![b, o] (⟨2, ![h, w]⟩ : Shape).size i, wt⟩ :: L) (ix2 n f)
      = wt (ix2 r e) := by
  have hy : (Rect.unit (s := ⟨2, ![H, W]⟩) ![b, o] (⟨2, ![h, w]⟩ : Shape).size i).emb (ix2 r e) = ix2 n f := by
    funext x
    apply Fin.ext
    rw [Rect.emb_apply]
    match x with
    | ⟨0, _⟩ => show b + 1 * (r : ℕ) = n; omega
    | ⟨1, _⟩ => show o + 1 * (e : ℕ) = f; omega
  have h := View.canon_cons_emb (Val := Elt Ideal) (e := .f32) (Rect.unit (s := ⟨2, ![H, W]⟩) ![b, o] (⟨2, ![h, w]⟩ : Shape).size i) wt L (ix2 r e)
  rw [hy] at h
  exact h

/-- The two stores of a window. -/
theorem holds (E : ℕ → Fin 1536 → EReal) (s : Fin 3) (i i') (wH : FVec Ideal S512x512 .f32) (wC : FVec Ideal S8x512 .f32)
    (hH : ∀ (r : Fin 512) (e : Fin 512), wH (ix2 r e) = E (8 + r) (col s e)) (hC : ∀ (r : Fin 8) (e : Fin 512), wC (ix2 r e) = E r (col s e)) :
    Holds E s [⟨Rect.unit (s := S520x512) ![8, 0] S512x512.size i, wH⟩, ⟨Rect.unit (s := S520x512) ![0, 0] S8x512.size i', wC⟩] := by
  intro n e
  have hn := n.2
  by_cases h : 8 ≤ (n : ℕ)
  · refine (box_hit i wH _ n e ⟨(n : ℕ) - 8, by omega⟩ e (by dsimp only; omega) (by omega)).trans ((hH _ _).trans ?_)
    congr 1
    dsimp only
    omega
  · exact (box_skip i wH _ n e (fun h' => h h'.1)).trans ((box_hit i' wC _ n e ⟨(n : ℕ), by omega⟩ e (by dsimp only; omega) (by omega)).trans (hC _ _))

/-- A load from a two-axis array after its stores. -/
theorem load_after {H W h w b o : ℕ} (M : Memref sig .tc .vmem ⟨2, ![H, W]⟩ .f32) (L : List (View.Piece (Elt Ideal) ⟨2, ![H, W]⟩ .f32))
    (i : ∀ x, ![b, o] x + (⟨2, ![h, w]⟩ : Shape).size x ≤ (⟨2, ![H, W]⟩ : Shape).size x) (r : Fin h) (e : Fin w) (n : Fin H) (f : Fin W)
    (hr : b + r = (n : ℕ)) (he : o + e = (f : ℕ)) :
    M.view.readCov (Val := Elt Ideal) L (Rect.unit (s := ⟨2, ![H, W]⟩) ![b, o] (⟨2, ![h, w]⟩ : Shape).size i).toLoadRect (ix2 r e) = View.canon L (ix2 n f) := by
  rw [View.readCov_eq_canon']
  refine congrArg (View.canon L) (funext fun x => Fin.ext ?_)
  match x with
  | ⟨0, _⟩ => show b + 1 * (r : ℕ) = n; omega
  | ⟨1, _⟩ => show o + 1 * (e : ℕ) = f; omega

/-- The store of a slot's last eight rows. -/
theorem save_step (E : ℕ → Fin 1536 → EReal) (s : Fin 3) {o : ℕ} (ho : o = s * 512) (L : List (View.Piece (Elt Ideal) S8x1536 .f32)) (hL : Saved E s L)
    (i) (wt : FVec Ideal S8x512 .f32) (hw : ∀ (r : Fin 8) (e : Fin 512), wt (ix2 r e) = E (512 + r) (col s e)) :
    Saved E (s + 1) (⟨Rect.unit (s := S8x1536) ![0, o] S8x512.size i, wt⟩ :: L) := by
  subst ho
  intro n f hk
  have hn := n.2
  by_cases h : (s : ℕ) * 512 ≤ (f : ℕ)
  · refine (box_hit i wt L n f n ⟨(f : ℕ) - s * 512, by omega⟩ (by omega) (by dsimp only; omega)).trans ((hw _ _).trans ?_)
    congr 1
    apply Fin.ext
    show (s : ℕ) * 512 + ((f : ℕ) - s * 512) = f
    omega
  · exact (box_skip i wt L n f (fun h' => h h'.2.2.1)).trans (hL n f (by omega))

/-- That store leaves the later slots blank. -/
theorem blank_step (s : Fin 3) {o : ℕ} (ho : o = s * 512) (L : List (View.Piece (Elt Ideal) S8x1536 .f32)) (hL : Blank s L)
    (i) (wt : FVec Ideal S8x512 .f32) : Blank (s + 1) (⟨Rect.unit (s := S8x1536) ![0, o] S8x512.size i, wt⟩ :: L) := by
  subst ho
  intro n f hk
  exact (box_skip i wt L n f (fun h' => by have h2 := h'.2.2.2; have h1 := hk; omega)).trans (hL n f (by omega))

/-- The first store of the whole carry. -/
theorem blank_zero (i) : Blank 0 [⟨Rect.unit (s := S8x1536) ![0, 0] S8x1536.size i, k0_pay2 (F := Ideal)⟩] := by
  intro n f _
  refine (box_hit i (k0_pay2 (F := Ideal)) [] n f n f (by omega) (by omega)).trans ?_
  pointwise [k0_pay2]

section
variable {W w o : ℕ} {φ : EltTy} (i : ∀ x, ![0, 0, o] x + (⟨3, ![1, 512, w]⟩ : Shape).size x ≤ (⟨3, ![1, 512, W]⟩ : Shape).size x)

/-- Off the last store of an output block, it is what the earlier stores left. -/
theorem out_skip (wt : (⟨3, ![1, 512, w]⟩ : Shape).Idx → Elt Ideal φ) (L : List (View.Piece (Elt Ideal) ⟨3, ![1, 512, W]⟩ φ)) (r : Fin 512) (j : Fin W)
    (hn : ¬ (o ≤ (j : ℕ) ∧ (j : ℕ) < o + w)) :
    View.canon (Val := Elt Ideal) (e := φ) (⟨Rect.unit (s := ⟨3, ![1, 512, W]⟩) ![0, 0, o] (⟨3, ![1, 512, w]⟩ : Shape).size i, wt⟩ :: L) (ix3 0 r j)
      = View.canon L (ix3 0 r j) := by
  refine View.canon_cons_of_not_mem _ _ fun hm => hn ?_
  obtain ⟨x, hx⟩ := (Rect.unit (s := ⟨3, ![1, 512, W]⟩) ![0, 0, o] (⟨3, ![1, 512, w]⟩ : Shape).size i).exists_idx_of_mem hm
  have e2 := congrArg (fun y : (⟨3, ![1, 512, W]⟩ : Shape).Idx => (y 2 : ℕ)) hx
  have l2 : (x 2 : ℕ) < w := (x 2).isLt
  simp only [Rect.emb_apply] at e2
  have e2' : o + 1 * (x 2 : ℕ) = (j : ℕ) := e2
  omega

/-- At the last store, it is the payload. -/
theorem out_hit (wt : (⟨3, ![1, 512, w]⟩ : Shape).Idx → Elt Ideal φ) (L : List (View.Piece (Elt Ideal) ⟨3, ![1, 512, W]⟩ φ)) (r : Fin 512) (j : Fin W)
    (e : Fin w) (he : (j : ℕ) = o + e) :
    View.canon (Val := Elt Ideal) (e := φ) (⟨Rect.unit (s := ⟨3, ![1, 512, W]⟩) ![0, 0, o] (⟨3, ![1, 512, w]⟩ : Shape).size i, wt⟩ :: L) (ix3 0 r j)
      = wt (ix3 0 r e) := by
  have hy : (Rect.unit (s := ⟨3, ![1, 512, W]⟩) ![0, 0, o] (⟨3, ![1, 512, w]⟩ : Shape).size i).emb (ix3 0 r e) = ix3 0 r j := by
    funext x
    apply Fin.ext
    rw [Rect.emb_apply]
    match x with
    | ⟨0, _⟩ => rfl
    | ⟨1, _⟩ => show 0 + 1 * (r : ℕ) = r; omega
    | ⟨2, _⟩ => show o + 1 * (e : ℕ) = j; omega
  have h := View.canon_cons_emb (Val := Elt Ideal) (e := φ) (Rect.unit (s := ⟨3, ![1, 512, W]⟩) ![0, 0, o] (⟨3, ![1, 512, w]⟩ : Shape).size i) wt L (ix3 0 r e)
  rw [hy] at h
  exact h

end

/-- The four heads' stores of an output block. -/
theorem four (i0 i1 i2 i3) (w0 w1 w2 w3 : FVec Ideal S1x512x128 .bf16) (r : Fin 512) (G : Fin 512 → EReal)
    (h0 : ∀ e : Fin 128, w0 (ix3 0 r e) = G ⟨0 + e, by omega⟩) (h1 : ∀ e : Fin 128, w1 (ix3 0 r e) = G ⟨128 + e, by omega⟩)
    (h2 : ∀ e : Fin 128, w2 (ix3 0 r e) = G ⟨256 + e, by omega⟩) (h3 : ∀ e : Fin 128, w3 (ix3 0 r e) = G ⟨384 + e, by omega⟩) (j : Fin 512) :
    View.canon (Val := Elt Ideal) (e := .bf16) [⟨Rect.unit (s := S1x512x512) ![0, 0, 384] S1x512x128.size i3, w3⟩,
      ⟨Rect.unit (s := S1x512x512) ![0, 0, 256] S1x512x128.size i2, w2⟩, ⟨Rect.unit (s := S1x512x512) ![0, 0, 128] S1x512x128.size i1, w1⟩,
      ⟨Rect.unit (s := S1x512x512) ![0, 0, 0] S1x512x128.size i0, w0⟩] (ix3 0 r j) = G j := by
  have hj := j.2
  have hG : ∀ (k : Fin 512), (k : ℕ) = j → G k = G j := fun k h => congrArg G (Fin.ext h)
  by_cases c3 : 384 ≤ (j : ℕ)
  · exact (out_hit (φ := .bf16) (w := 128) (W := 512) i3 w3 _ r j ⟨(j : ℕ) - 384, by omega⟩ (by dsimp only; omega)).trans ((h3 ⟨(j : ℕ) - 384, by omega⟩).trans (hG _ (by dsimp only; omega)))
  refine (out_skip (φ := .bf16) (w := 128) (W := 512) i3 w3 _ r j (fun h => c3 h.1)).trans ?_
  by_cases c2 : 256 ≤ (j : ℕ)
  · exact (out_hit (φ := .bf16) (w := 128) (W := 512) i2 w2 _ r j ⟨(j : ℕ) - 256, by omega⟩ (by dsimp only; omega)).trans ((h2 ⟨(j : ℕ) - 256, by omega⟩).trans (hG _ (by dsimp only; omega)))
  refine (out_skip (φ := .bf16) (w := 128) (W := 512) i2 w2 _ r j (fun h => c2 h.1)).trans ?_
  by_cases c1 : 128 ≤ (j : ℕ)
  · exact (out_hit (φ := .bf16) (w := 128) (W := 512) i1 w1 _ r j ⟨(j : ℕ) - 128, by omega⟩ (by dsimp only; omega)).trans ((h1 ⟨(j : ℕ) - 128, by omega⟩).trans (hG _ (by dsimp only; omega)))
  refine (out_skip (φ := .bf16) (w := 128) (W := 512) i1 w1 _ r j (fun h => c1 h.1)).trans ?_
  exact (out_hit (φ := .bf16) (w := 128) (W := 512) i0 w0 _ r j ⟨(j : ℕ), by omega⟩ (by dsimp only; omega)).trans ((h0 ⟨(j : ℕ), by omega⟩).trans (hG _ (by dsimp only; omega)))

end Cert.Inproj

end
-- ==== Proof.Inproj.Seq.lean ====
/- The closed form of the whole call: every result from the argument arrays. -/
module

public import proofs.«01_k».proof.Proof.Inproj.Stack
public import Idealize.ShloMosaic.Lib.Pipeline.ValueKit

@[expose] public section

noncomputable section

namespace Cert.Inproj

open Idealize.ShloMosaic

/-- The weight column behind a column of the reordered weights: in the first two groups of 512 the quarters of a head are swapped. -/
def src (n : ℕ) : ℕ := if n < 1024 then n / 128 * 128 + n / 32 % 2 * 64 + n / 64 % 2 * 32 + n % 32 else n

theorem src_low {n : ℕ} (h : n < 1024) : src n = n / 128 * 128 + n / 32 % 2 * 64 + n / 64 % 2 * 32 + n % 32 := if_pos h

theorem src_high {n : ℕ} (h : 1024 ≤ n) : src n = n := if_neg (by omega)

theorem src_lt {n : ℕ} (h : n < 1024) : src n < 1024 := by
  rw [src_low h]
  omega

/-- The angle of a token's place for a column. -/
def ang (t : Fin 4096) (e : ℕ) : EReal :=
  FloatOps.sitofp (F := Ideal) FTy.f32 (BitVec.ofNat 32 t) *
    Ideal.pow (Ideal.ofBits FTy.f32 1176256512#32)
      (Ideal.div (-(Ideal.ofBits FTy.f32 1073741824#32 * FloatOps.sitofp (F := Ideal) FTy.f32 (BitVec.ofNat 32 (e % 32)))) (Ideal.ofBits FTy.f32 1115684864#32))

/-- The table of cosines. -/
def cosT (t : Fin 4096) (e : Fin 128) : EReal := Ideal.cos (ang t e)

/-- The table of sines, negated in the first half of a head. -/
def sinT (t : Fin 4096) (e : Fin 128) : EReal := if (e : ℕ) < 64 then -Ideal.sin (ang t e) else Ideal.sin (ang t e)

variable (x : FVec Ideal ⟨3, ![16, 4096, 1024]⟩ .f32) (nw : FVec Ideal ⟨1, ![1024]⟩ .f32) (wi : FVec Ideal ⟨2, ![1024, 3592]⟩ .f32)
  (cw : FVec Ideal ⟨2, ![4, 1536]⟩ .f32)

/-- A token's normalized row. -/
def seqN (b : Fin 16) (t : Fin 4096) : Fin 1024 → EReal := Cert.Ffn.rms (fun y => x (ix3 b t y)) (fun y => nw (ix1 y))

/-- A token's projection onto a weight column, zero past the last one. -/
def proj (b : Fin 16) (t : Fin 4096) (n : ℕ) : EReal := if h : n < 3592 then ∑ d, seqN x nw b t d * wi (ix2 d ⟨n, h⟩) else 0

theorem proj_of_lt (b : Fin 16) (t : Fin 4096) (n : Fin 3592) : proj x nw wi b t n = ∑ d, seqN x nw b t d * wi (ix2 d n) := dif_pos n.2

theorem proj_out (b : Fin 16) (t : Fin 4096) {n : ℕ} (h : 3592 ≤ n) : proj x nw wi b t n = 0 := dif_neg (by omega)

/-- The convolved columns of a batch after eight rows of zero. -/
def lag (b : Fin 16) (p : ℕ) (f : Fin 1536) : EReal :=
  if h : 8 ≤ p ∧ p - 8 < 4096 then proj x nw wi b ⟨p - 8, h.2⟩ (1536 + f) else 0

theorem lag_front (b : Fin 16) {p : ℕ} (h : p < 8) (f : Fin 1536) : lag x nw wi b p f = 0 := dif_neg (by omega)

theorem lag_row (b : Fin 16) {p : ℕ} (t : Fin 4096) (h : p = t + 8) (f : Fin 1536) : lag x nw wi b p f = proj x nw wi b t (1536 + f) := by
  subst h
  exact dif_pos ⟨by omega, by omega⟩

/-- A token's gated column. -/
def seqY (b : Fin 16) (t : Fin 4096) (f : Fin 1536) : EReal :=
  gate (taps (fun k => cw (ix2 k f)) (lag x nw wi b ((t : ℕ) + 8) f) (lag x nw wi b ((t : ℕ) + 7) f) (lag x nw wi b ((t : ℕ) + 6) f) (lag x nw wi b ((t : ℕ) + 5) f))

theorem lane_lt {j : ℕ} (h : j < 512) (y : Fin 128) : j / 128 * 128 + y < 512 := by omega

theorem head_lt (j : ℕ) : j % 128 < 128 := by omega

/-- A turned head of a token, from the columns at `o`. -/
def seqRot (o : ℕ) (k : EReal) (b : Fin 16) (t : Fin 4096) (j : Fin 512) : EReal :=
  rot (fun y => proj x nw wi b t (src (o + (j / 128 * 128 + y)))) (cosT t) (sinT t) k ⟨j % 128, head_lt j⟩

/-- A gated head of a token over its length. -/
def seqHead (s : Fin 3) (k : EReal) (b : Fin 16) (t : Fin 4096) (j : Fin 512) : EReal :=
  unit (fun y => seqY x nw wi cw b t (col s ⟨j / 128 * 128 + y, lane_lt j.2 y⟩)) k ⟨j % 128, head_lt j⟩

end Cert.Inproj

end
-- ==== Proof.Inproj.Tile.lean ====
/- One tile of the input-projection kernel: its projections, its gated lanes and its heads, from the blocks it loads. -/
module

public import proofs.«01_k».proof.Proof.Inproj.Seq

@[expose] public section

set_option maxRecDepth 16384
set_option maxHeartbeats 1000000

noncomputable section

namespace Cert.Inproj

open Cert.Kernel3Ideal Cert.Kernel3Ideal.Gen Idealize.ShloMosaic Idealize.ShloMosaic.TcCoe

/-- A load of a rectangle of a two-axis block. -/
theorem load2 {n w h v : ℕ} {φ : EltTy} (M : Memref sig .tc .vmem ⟨2, ![n, w]⟩ φ) (hM : M.IsWhole) (x : Vec Ideal ⟨2, ![n, w]⟩ φ)
    {p q : ℕ} (inb : ∀ a, ![p, q] a + (⟨2, ![h, v]⟩ : Shape).size a ≤ (⟨2, ![n, w]⟩ : Shape).size a) (r : Fin h) (e : Fin v) (r' : Fin n) (e' : Fin w) (hr : p + r = r') (he : q + e = e') :
    View.readAt (Elt Ideal) M.view (Rect.unit (s := ⟨2, ![n, w]⟩) ![p, q] (⟨2, ![h, v]⟩ : Shape).size inb).toLoadRect (hM.unread x) (ix2 r e)
      = x (ix2 r' e') := by
  refine (congrArg (M.view.read (Elt Ideal) (hM.unread x)) (funext fun a => Fin.ext ?_)).trans (congrFun (hM.read_unread x) _)
  match a with
  | ⟨0, _⟩ => simpa [LoadRect.idx, Rect.unit] using hr
  | ⟨1, _⟩ => simpa [LoadRect.idx, Rect.unit] using he

/-- A load of a whole three-axis block. -/
theorem load3 {n w : ℕ} {φ : EltTy} (M : Memref sig .tc .vmem ⟨3, ![1, n, w]⟩ φ) (hM : M.IsWhole) (x : Vec Ideal ⟨3, ![1, n, w]⟩ φ)
    (inb : ∀ a, ![0, 0, 0] a + (⟨3, ![1, n, w]⟩ : Shape).size a ≤ (⟨3, ![1, n, w]⟩ : Shape).size a) (r : Fin n) (e : Fin w) :
    View.readAt (Elt Ideal) M.view (Rect.unit (s := ⟨3, ![1, n, w]⟩) ![0, 0, 0] (⟨3, ![1, n, w]⟩ : Shape).size inb).toLoadRect (hM.unread x) (ix3 0 r e)
      = x (ix3 0 r e) := by
  refine (congrArg (M.view.read (Elt Ideal) (hM.unread x)) (funext fun a => Fin.ext ?_)).trans (congrFun (hM.read_unread x) _)
  match a with
  | ⟨0, _⟩ => simp [LoadRect.idx, Rect.unit]
  | ⟨1, _⟩ => simp [LoadRect.idx, Rect.unit]
  | ⟨2, _⟩ => simp [LoadRect.idx, Rect.unit]

section
variable (x0 : Vec Ideal S1x512x1024 .f32) (x1 : Vec Ideal S1x1024 .f32) (x2 : Vec Ideal S1024x3712 .bf16) (x3 x4 : Vec Ideal S512x128 .f32)
  (x5 : Vec Ideal S4x1536 .f32) (E : ℕ → Fin 1536 → EReal)

/-- The normalized row of a tile's token. -/
def tileN (r : Fin 512) : Fin 1024 → EReal := Cert.Ffn.rms (fun y => x0 (ix3 0 r y)) (fun y => x1 (ix2 0 y))

/-- Its projection onto a column of the reordered weights. -/
def tileP (r : Fin 512) (n : Fin 3712) : EReal := ∑ d : Fin 1024, tileN x0 x1 r d * x2 (ix2 d n)

/-- Its gated column, from the rows `E`. -/
def tileY (r : Fin 512) (f : Fin 1536) : EReal :=
  gate (taps (fun k => x5 (ix2 k f)) (E (8 + r) f) (E (7 + r) f) (E (6 + r) f) (E (5 + r) f))

/-- A gated head over its length. -/
def tileHead (s : Fin 3) (k : EReal) (r : Fin 512) (j : Fin 512) : EReal :=
  unit (fun y => tileY x5 E r (col s ⟨j / 128 * 128 + y, lane_lt j.2 y⟩)) k ⟨j % 128, head_lt j⟩

theorem wide_lt {o : ℕ} (ho : o + 512 ≤ 3712) {j : ℕ} (h : j < 512) (y : Fin 128) : o + (j / 128 * 128 + y) < 3712 := by omega

theorem conv_lt (f : Fin 1536) : 1536 + (f : ℕ) < 3712 := by omega

/-- A turned head. -/
def tileRot (o : ℕ) (ho : o + 512 ≤ 3712) (k : EReal) (r : Fin 512) (j : Fin 512) : EReal :=
  rot (fun y => tileP x0 x1 x2 r ⟨o + (j / 128 * 128 + y), wide_lt ho j.2 y⟩) (fun y => x3 (ix2 r y)) (fun y => x4 (ix2 r y)) k ⟨j % 128, head_lt j⟩

/-- What a tile leaves: its eight output blocks and the carry. -/
def TileOk (o : Vec Ideal S1x512x512 .bf16 × Vec Ideal S1x512x512 .bf16 × Vec Ideal S1x512x512 .bf16 × Vec Ideal S1x512x512 .bf16 × Vec Ideal S1x512x512 .bf16
    × Vec Ideal S1x512x512 .bf16 × Vec Ideal S1x512x512 .bf16 × Vec Ideal S1x512x128 .f32 × Vec Ideal S8x1536 .f32) : Prop :=
  (∀ (r j : Fin 512), o.1 (ix3 0 r j) = tileRot x0 x1 x2 x3 x4 0 (by decide) (Ideal.ofBits FTy.f32 1043900987#32) r j)
  ∧ (∀ (r j : Fin 512), o.2.1 (ix3 0 r j) = tileRot x0 x1 x2 x3 x4 512 (by decide) (Ideal.ofBits FTy.f32 1065353216#32) r j)
  ∧ (∀ (r j : Fin 512), o.2.2.1 (ix3 0 r j) = tileP x0 x1 x2 r ⟨1024 + j, by omega⟩)
  ∧ (∀ (r j : Fin 512), o.2.2.2.1 (ix3 0 r j) = tileHead x5 E 0 (Ideal.ofBits FTy.f32 1035273459#32) r j)
  ∧ (∀ (r j : Fin 512), o.2.2.2.2.1 (ix3 0 r j) = tileHead x5 E 1 (Ideal.ofBits FTy.f32 1065353216#32) r j)
  ∧ (∀ (r j : Fin 512), o.2.2.2.2.2.1 (ix3 0 r j) = tileY x5 E r (col 2 j))
  ∧ (∀ (r j : Fin 512), o.2.2.2.2.2.2.1 (ix3 0 r j) = tileP x0 x1 x2 r ⟨3072 + j, by omega⟩)
  ∧ (∀ (r : Fin 512) (j : Fin 128), o.2.2.2.2.2.2.2.1 (ix3 0 r j) = tileP x0 x1 x2 r ⟨3584 + j, by omega⟩)
  ∧ ∀ (n : Fin 8) (f : Fin 1536), o.2.2.2.2.2.2.2.2 (ix2 n f) = E (512 + n) f

/-- The normalized rows, as the kernel computes them. -/
theorem rows_apply (arg2 : Memref sig .tc .vmem S1x512x1024 .f32) (harg2 : arg2.IsWhole) (arg3 : Memref sig .tc .vmem S1x1024 .f32) (harg3 : arg3.IsWhole)
    (i2 i3) (r : Fin 512) (d : Fin 1024) :
    k0_pay3 (F := Ideal) (View.readAt (Elt Ideal) arg2.view (Rect.unit (s := S1x512x1024) ![0, 0, 0] S1x512x1024.size i2).toLoadRect (harg2.unread x0))
      (View.readAt (Elt Ideal) arg3.view (Rect.unit (s := S1x1024) ![0, 0] S1x1024.size i3).toLoadRect (harg3.unread x1)) (ix2 r d) = tileN x0 x1 r d := by
  refine (norm_apply _ _ r d).trans ?_
  unfold tileN
  exact congrArg₂ (fun a b => Cert.Ffn.rms a b d) (funext fun y => load3 arg2 harg2 x0 _ r y)
    (funext fun y => load2 arg3 harg3 x1 _ 0 y _ _ (Nat.zero_add _) (Nat.zero_add _))

/-- A projection onto the columns at `o`. -/
theorem sum_apply (v : FVec Ideal S512x1024 .bf16) (hv : ∀ r d, v (ix2 r d) = tileN x0 x1 r d) (arg4 : Memref sig .tc .vmem S1024x3712 .bf16) (harg4 : arg4.IsWhole)
    {o w : ℕ} (i : ∀ a, ![0, o] a + (⟨2, ![1024, w]⟩ : Shape).size a ≤ S1024x3712.size a) (r : Fin 512) (e : Fin w) (n : Fin 3712) (hn : o + e = n) :
    ∑ d : Fin 1024, v (ix2 r d) * (View.readAt (Elt Ideal) arg4.view (Rect.unit (s := S1024x3712) ![0, o] (⟨2, ![1024, w]⟩ : Shape).size i).toLoadRect (harg4.unread x2)) (ix2 d e)
      = tileP x0 x1 x2 r n :=
  Finset.sum_congr rfl fun d _ => congrArg₂ (· * ·) (hv r d) (load2 arg4 harg4 x2 i d e _ _ (Nat.zero_add _) hn)

theorem slot_lt {o : ℕ} (ho : o + 128 ≤ 512) (e : Fin 128) : o + e < 512 := by omega

variable (s : Fin 3) (L : List (View.Piece (Elt Ideal) S520x512 .f32)) (hL : Holds E s L) (M : Memref sig .tc .vmem S520x512 .f32)
  (arg7 : Memref sig .tc .vmem S4x1536 .f32) (harg7 : arg7.IsWhole)
include hL

/-- The gated lane of a head. -/
theorem lane {o off : ℕ} (hoff : off = s * 512 + o) (ho : o + 128 ≤ 512) (i i8 i7 i6 i5) (r : Fin 512) (e : Fin 128) :
    gate (taps (fun k => View.readAt (Elt Ideal) arg7.view (Rect.unit (s := S4x1536) ![0, off] S4x128.size i).toLoadRect (harg7.unread x5) (ix2 k e))
      (M.view.readCov (Val := Elt Ideal) L (Rect.unit (s := S520x512) ![8, o] S512x128.size i8).toLoadRect (ix2 r e))
      (M.view.readCov (Val := Elt Ideal) L (Rect.unit (s := S520x512) ![7, o] S512x128.size i7).toLoadRect (ix2 r e))
      (M.view.readCov (Val := Elt Ideal) L (Rect.unit (s := S520x512) ![6, o] S512x128.size i6).toLoadRect (ix2 r e))
      (M.view.readCov (Val := Elt Ideal) L (Rect.unit (s := S520x512) ![5, o] S512x128.size i5).toLoadRect (ix2 r e)))
      = tileY x5 E r (col s ⟨o + e, slot_lt ho e⟩) := by
  have row : ∀ (p : ℕ) (hp : p ≤ 8) (ip), M.view.readCov (Val := Elt Ideal) L (Rect.unit (s := S520x512) ![p, o] S512x128.size ip).toLoadRect (ix2 r e)
      = E (p + r) (col s ⟨o + e, slot_lt ho e⟩) := fun p hp ip =>
    (load_after M L ip r e ⟨p + r, by omega⟩ ⟨o + e, slot_lt ho e⟩ rfl rfl).trans (hL _ _)
  rw [row 8 (by omega) i8, row 7 (by omega) i7, row 6 (by omega) i6, row 5 (by omega) i5]
  unfold tileY
  refine congrArg (fun w => gate (taps w _ _ _ _)) (funext fun k => load2 arg7 harg7 x5 i k e _ _ (Nat.zero_add _) ?_)
  show off + (e : ℕ) = s * 512 + (o + e)
  omega

/-- A gated head over its length, from the lanes. -/
theorem head_of {o : ℕ} (hd : o % 128 = 0) (ho : o + 128 ≤ 512) (k : EReal) (r : Fin 512) (y : Fin 128 → EReal)
    (hy : ∀ e, y e = tileY x5 E r (col s ⟨o + e, slot_lt ho e⟩)) (e : Fin 128) :
    unit y k e = tileHead x5 E s k r ⟨o + e, slot_lt ho e⟩ := by
  unfold tileHead
  have e1 : (⟨(o + (e : ℕ)) % 128, head_lt _⟩ : Fin 128) = e := Fin.ext (by show (o + (e : ℕ)) % 128 = e; omega)
  dsimp only
  rw [e1]
  refine congrArg (fun g => unit g k e) (funext fun z => (hy z).trans (congrArg (fun f => tileY x5 E r (col s f)) (Fin.ext ?_)))
  show o + (z : ℕ) = (o + (e : ℕ)) / 128 * 128 + z
  omega

/-- A query head. -/
theorem headq {o off : ℕ} (hoff : off = s * 512 + o) (hd : o % 128 = 0) (ho : o + 128 ≤ 512) (i i8 i7 i6 i5) (r : Fin 512) (e : Fin 128) :
    k0_pay21 (F := Ideal) (View.readAt (Elt Ideal) arg7.view (Rect.unit (s := S4x1536) ![0, off] S4x128.size i).toLoadRect (harg7.unread x5))
      (k0_pay19 (View.readAt (Elt Ideal) arg7.view (Rect.unit (s := S4x1536) ![0, off] S4x128.size i).toLoadRect (harg7.unread x5))
        (M.view.readCov (Val := Elt Ideal) L (Rect.unit (s := S520x512) ![8, o] S512x128.size i8).toLoadRect))
      (k0_pay20 (View.readAt (Elt Ideal) arg7.view (Rect.unit (s := S4x1536) ![0, off] S4x128.size i).toLoadRect (harg7.unread x5))
        (M.view.readCov (Val := Elt Ideal) L (Rect.unit (s := S520x512) ![7, o] S512x128.size i7).toLoadRect))
      (M.view.readCov (Val := Elt Ideal) L (Rect.unit (s := S520x512) ![6, o] S512x128.size i6).toLoadRect)
      (M.view.readCov (Val := Elt Ideal) L (Rect.unit (s := S520x512) ![5, o] S512x128.size i5).toLoadRect) (ix3 0 r e)
      = tileHead x5 E s (Ideal.ofBits FTy.f32 1035273459#32) r ⟨o + e, slot_lt ho e⟩ :=
  (headq_apply _ _ _ _ _ r e).trans (head_of x5 E s L hL hd ho _ r _ (fun z => (gate_apply' _ _ _ _ _ r z).trans (lane x5 E s L hL M arg7 harg7 hoff ho i i8 i7 i6 i5 r z)) e)

/-- A key head. -/
theorem headk {o off : ℕ} (hoff : off = s * 512 + o) (hd : o % 128 = 0) (ho : o + 128 ≤ 512) (i i8 i7 i6 i5) (r : Fin 512) (e : Fin 128) :
    k0_pay40 (F := Ideal) (k0_pay38 (View.readAt (Elt Ideal) arg7.view (Rect.unit (s := S4x1536) ![0, off] S4x128.size i).toLoadRect (harg7.unread x5))
        (M.view.readCov (Val := Elt Ideal) L (Rect.unit (s := S520x512) ![8, o] S512x128.size i8).toLoadRect)
        (M.view.readCov (Val := Elt Ideal) L (Rect.unit (s := S520x512) ![7, o] S512x128.size i7).toLoadRect)
        (M.view.readCov (Val := Elt Ideal) L (Rect.unit (s := S520x512) ![6, o] S512x128.size i6).toLoadRect)
        (M.view.readCov (Val := Elt Ideal) L (Rect.unit (s := S520x512) ![5, o] S512x128.size i5).toLoadRect))
      (k0_pay39 (View.readAt (Elt Ideal) arg7.view (Rect.unit (s := S4x1536) ![0, off] S4x128.size i).toLoadRect (harg7.unread x5))
        (M.view.readCov (Val := Elt Ideal) L (Rect.unit (s := S520x512) ![8, o] S512x128.size i8).toLoadRect)
        (M.view.readCov (Val := Elt Ideal) L (Rect.unit (s := S520x512) ![7, o] S512x128.size i7).toLoadRect)
        (M.view.readCov (Val := Elt Ideal) L (Rect.unit (s := S520x512) ![6, o] S512x128.size i6).toLoadRect)
        (M.view.readCov (Val := Elt Ideal) L (Rect.unit (s := S520x512) ![5, o] S512x128.size i5).toLoadRect)) (Scalar.ofBits .f32 0x358637BD#32) (ix3 0 r e)
      = tileHead x5 E s (Ideal.ofBits FTy.f32 1065353216#32) r ⟨o + e, slot_lt ho e⟩ :=
  (headk_apply _ _ _ _ _ r e).trans (head_of x5 E s L hL hd ho _ r _ (fun z => (gate_apply' _ _ _ _ _ r z).trans (lane x5 E s L hL M arg7 harg7 hoff ho i i8 i7 i6 i5 r z)) e)

/-- A value head. -/
theorem headv {o off : ℕ} (hoff : off = s * 512 + o) (ho : o + 128 ≤ 512) (i i8 i7 i6 i5) (r : Fin 512) (e : Fin 128) :
    k0_pay55 (F := Ideal) (View.readAt (Elt Ideal) arg7.view (Rect.unit (s := S4x1536) ![0, off] S4x128.size i).toLoadRect (harg7.unread x5))
        (M.view.readCov (Val := Elt Ideal) L (Rect.unit (s := S520x512) ![8, o] S512x128.size i8).toLoadRect)
        (M.view.readCov (Val := Elt Ideal) L (Rect.unit (s := S520x512) ![7, o] S512x128.size i7).toLoadRect)
        (M.view.readCov (Val := Elt Ideal) L (Rect.unit (s := S520x512) ![6, o] S512x128.size i6).toLoadRect)
        (M.view.readCov (Val := Elt Ideal) L (Rect.unit (s := S520x512) ![5, o] S512x128.size i5).toLoadRect) (ix3 0 r e)
      = tileY x5 E r (col s ⟨o + e, slot_lt ho e⟩) :=
  (gate_apply _ _ _ _ _ r e).trans (lane x5 E s L hL M arg7 harg7 hoff ho i i8 i7 i6 i5 r e)

/-- The last eight rows of a window. -/
theorem tail_apply (i) (n : Fin 8) (e : Fin 512) :
    k0_pay6 (F := Ideal) (M.view.readCov (Val := Elt Ideal) L (Rect.unit (s := S520x512) ![512, 0] S8x512.size i).toLoadRect) (ix2 n e) = E (512 + n) (col s e) :=
  (copy_apply _ n e).trans ((load_after M L i n e ⟨512 + n, by omega⟩ e rfl (Nat.zero_add _)).trans (hL _ _))

end

/-- One store of a whole output block. -/
theorem whole_hit {W : ℕ} {φ : EltTy} (i : ∀ x, ![0, 0, 0] x + (⟨3, ![1, 512, W]⟩ : Shape).size x ≤ (⟨3, ![1, 512, W]⟩ : Shape).size x)
    (wt : (⟨3, ![1, 512, W]⟩ : Shape).Idx → Elt Ideal φ) (L : List (View.Piece (Elt Ideal) ⟨3, ![1, 512, W]⟩ φ)) (r : Fin 512) (j : Fin W) :
    View.canon (Val := Elt Ideal) (e := φ) (⟨Rect.unit (s := ⟨3, ![1, 512, W]⟩) ![0, 0, 0] (⟨3, ![1, 512, W]⟩ : Shape).size i, wt⟩ :: L) (ix3 0 r j)
      = wt (ix3 0 r j) := out_hit i wt L r j j (Nat.zero_add _).symm

/-- A turned head, from the tables and the projections. -/
theorem turned (x0 : Vec Ideal S1x512x1024 .f32) (x1 : Vec Ideal S1x1024 .f32) (x2 : Vec Ideal S1024x3712 .bf16) (x3 x4 : Vec Ideal S512x128 .f32)
    (v : FVec Ideal S512x1024 .bf16) (hv : ∀ r d, v (ix2 r d) = tileN x0 x1 r d) (vc : FVec Ideal S512x128 .f32) (hc : ∀ r e, vc (ix2 r e) = x3 (ix2 r e))
    (vs : FVec Ideal S512x128 .f32) (hs : ∀ r e, vs (ix2 r e) = x4 (ix2 r e)) (arg4 : Memref sig .tc .vmem S1024x3712 .bf16) (harg4 : arg4.IsWhole)
    {o : ℕ} (i : ∀ a, ![0, o] a + S1024x512.size a ≤ S1024x3712.size a) {k : EReal} {ho : o + 512 ≤ 3712} (r j : Fin 512) :
    rot (fun y => ∑ d : Fin 1024, v (ix2 r d) * (View.readAt (Elt Ideal) arg4.view (Rect.unit (s := S1024x3712) ![0, o] S1024x512.size i).toLoadRect (harg4.unread x2)) (ix2 d ⟨j / 128 * 128 + y, lane_lt j.2 y⟩))
      (fun y => vc (ix2 r y)) (fun y => vs (ix2 r y)) k ⟨j % 128, head_lt j⟩ = tileRot x0 x1 x2 x3 x4 o ho k r j := by
  unfold tileRot
  rw [show (fun y => vc (ix2 r y)) = _ from funext (hc r), show (fun y => vs (ix2 r y)) = _ from funext (hs r)]
  exact congrArg (fun p => rot p _ _ k _) (funext fun y => sum_apply x0 x1 x2 v hv arg4 harg4 i r _ _ rfl)

section
variable (x0 : Vec Ideal S1x512x1024 .f32) (x1 : Vec Ideal S1x1024 .f32) (x2 : Vec Ideal S1024x3712 .bf16) (E : ℕ → Fin 1536 → EReal)
  (arg4 : Memref sig .tc .vmem S1024x3712 .bf16) (harg4 : arg4.IsWhole)
  (hrow : ∀ (r : Fin 512) (f : Fin 1536), tileP x0 x1 x2 r ⟨1536 + f, conv_lt f⟩ = E (8 + r) f)
include hrow

/-- The columns a slot projects. -/
theorem fill (v : FVec Ideal S512x1024 .bf16) (hv : ∀ r d, v (ix2 r d) = tileN x0 x1 r d) (s : Fin 3) {o : ℕ} (ho : o = 1536 + s * 512) (i) (r e : Fin 512) :
    k0_pay12 (F := Ideal) v (View.readAt (Elt Ideal) arg4.view (Rect.unit (s := S1024x3712) ![0, o] S1024x512.size i).toLoadRect (harg4.unread x2)) (ix2 r e)
      = E (8 + r) (col s e) := by
  refine (proj_apply _ _ r e).trans ((sum_apply x0 x1 x2 v hv arg4 harg4 i r e ⟨1536 + (col s e : ℕ), conv_lt _⟩ ?_).trans (hrow r (col s e)))
  show o + (e : ℕ) = 1536 + (s * 512 + e)
  omega

end

end Cert.Inproj

end
-- ==== Proof.Inproj.First.lean ====
/- The input-projection kernel's run of a batch's first tile. -/
module

public import proofs.«01_k».proof.Proof.Inproj.Tile
public import proofs.«01_k».proof.Proof.Gen.Kernel3Ideal.Frame

@[expose] public section

set_option maxRecDepth 16384
set_option maxHeartbeats 4000000

noncomputable section

namespace Cert.Inproj

open Cert.Kernel3Ideal Cert.Kernel3Ideal.Gen Idealize.ShloMosaic Idealize.ShloMosaic.TcCoe

section
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3712 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x1536 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x128 .f32) (harg15 : arg15.IsWhole) (arg16 : Memref sig .tc .vmem S520x512 .f32) (harg16 : arg16.IsWhole) (arg17 : Memref sig .tc .vmem S520x512 .f32) (harg17 : arg17.IsWhole) (arg18 : Memref sig .tc .vmem S520x512 .f32) (harg18 : arg18.IsWhole) (arg19 : Memref sig .tc .vmem S8x1536 .f32) (harg19 : arg19.IsWhole)
  (x0 : Vec Ideal S1x512x1024 .f32) (x1 : Vec Ideal S1x1024 .f32) (x2 : Vec Ideal S1024x3712 .bf16) (x3 x4 : Vec Ideal S512x128 .f32)
  (x5 : Vec Ideal S4x1536 .f32) (E : ℕ → Fin 1536 → EReal)
  (hrow : ∀ (r : Fin 512) (f : Fin 1536), tileP x0 x1 x2 r ⟨1536 + f, conv_lt f⟩ = E (8 + r) f)
include hrow

/-- A batch's first tile. -/
theorem tile_A (hC : ∀ (r : Fin 8) (f : Fin 1536), E r f = 0) (hc0 : cond0_0 i) :
    TileOk x0 x1 x2 x3 x4 x5 E (out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5,
      out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5,
      out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5,
      out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5,
      out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5,
      out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5,
      out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5,
      out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5,
      sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5) := by
  have hv : ∀ r d, kernelRun0_A.sl.r (F := Ideal) c arg2 harg2 arg3 harg3 x0 x1 (ix2 r d) = tileN x0 x1 r d := rows_apply x0 x1 arg2 harg2 arg3 harg3 _ _
  have hcos : ∀ (r : Fin 512) (e : Fin 128), kernelRun0_A.sl.r_1 (F := Ideal) c arg5 harg5 x3 (ix2 r e) = x3 (ix2 r e) := fun r e =>
    (cos_apply _ r e).trans (load2 arg5 harg5 x3 _ r e _ _ (Nat.zero_add _) (Nat.zero_add _))
  have hsin : ∀ (r : Fin 512) (e : Fin 128), kernelRun0_A.sl.r_2 (F := Ideal) c arg6 harg6 x4 (ix2 r e) = x4 (ix2 r e) := fun r e =>
    (sin_apply _ r e).trans (load2 arg6 harg6 x4 _ r e _ _ (Nat.zero_add _) (Nat.zero_add _))
  have hcar : ∀ (s : Fin 3) (o : ℕ) (ho : o = s * 512) (L : List (View.Piece (Elt Ideal) S8x1536 .f32)) (hL : Blank s L) (i) (r : Fin 8) (e : Fin 512), k0_pay6 (F := Ideal) (arg19.view.readCov L (Rect.unit (s := S8x1536) ![0, o] S8x512.size i).toLoadRect) (ix2 r e) = E r (col s e) :=
    fun s o ho L hL i r e => (copy_apply _ r e).trans ((load_after arg19 L i r e r (col s e) (Nat.zero_add _) (by subst ho; rfl)).trans
      ((hL r (col s e) (Nat.le_add_right _ _)).trans (hC _ _).symm))
  have hS0 : Saved E 0 (kernelRun0_A.sl.HS3_1 (F := Ideal)) ∧ Blank 0 (kernelRun0_A.sl.HS3_1 (F := Ideal)) := ⟨fun _ _ h => absurd h (by simp), blank_zero _⟩
  have hH0 : Holds E 0 (kernelRun0_A.sl.HS0_2 (F := Ideal) c arg2 harg2 arg3 harg3 arg4 harg4 arg19 x0 x1 x2) :=
    holds E 0 _ _ _ _ (fun r e => (congrFun (proj_7 _ _ _) _).trans (fill x0 x1 x2 E arg4 harg4 hrow _ hv 0 rfl _ r e)) (fun r e => hcar 0 _ rfl _ hS0.2 _ r e)
  have hS1 : Saved E 1 (kernelRun0_A.sl.HS3_2 (F := Ideal) c arg2 harg2 arg3 harg3 arg4 harg4 arg16 arg19 x0 x1 x2) ∧ Blank 1 (kernelRun0_A.sl.HS3_2 (F := Ideal) c arg2 harg2 arg3 harg3 arg4 harg4 arg16 arg19 x0 x1 x2) :=
    ⟨save_step E 0 rfl _ hS0.1 _ _ (fun n e => (congrFun (copy_9 _) _).trans (tail_apply E 0 _ hH0 arg16 _ n e)), blank_step 0 rfl _ hS0.2 _ _⟩
  have hH1 : Holds E 1 (kernelRun0_A.sl.HS1_2 (F := Ideal) c arg2 harg2 arg3 harg3 arg4 harg4 arg16 arg19 x0 x1 x2) :=
    holds E 1 _ _ _ _ (fun r e => fill x0 x1 x2 E arg4 harg4 hrow _ hv 1 rfl _ r e) (fun r e => (congrFun (copy_11 _) _).trans (hcar 1 _ rfl _ hS1.2 _ r e))
  have hS2 : Saved E 2 (kernelRun0_A.sl.HS3_3 (F := Ideal) c arg2 harg2 arg3 harg3 arg4 harg4 arg16 arg17 arg19 x0 x1 x2) ∧ Blank 2 (kernelRun0_A.sl.HS3_3 (F := Ideal) c arg2 harg2 arg3 harg3 arg4 harg4 arg16 arg17 arg19 x0 x1 x2) :=
    ⟨save_step E 1 rfl _ hS1.1 _ _ (fun n e => (congrFun (copy_13 _) _).trans (tail_apply E 1 _ hH1 arg17 _ n e)), blank_step 1 rfl _ hS1.2 _ _⟩
  have hH2 : Holds E 2 (kernelRun0_A.sl.HS2_2 (F := Ideal) c arg2 harg2 arg3 harg3 arg4 harg4 arg16 arg17 arg19 x0 x1 x2) :=
    holds E 2 _ _ _ _ (fun r e => (congrFun (proj_28 _ _) _).trans (fill x0 x1 x2 E arg4 harg4 hrow _ hv 2 rfl _ r e)) (fun r e => (congrFun (copy_27 _) _).trans (hcar 2 _ rfl _ hS2.2 _ r e))
  refine ⟨fun r j => ?_, fun r j => ?_, fun r j => ?_, fun r j => ?_, fun r j => ?_, fun r j => ?_, fun r j => ?_, fun r j => ?_, fun n f => ?_⟩
  all_goals dsimp only
  all_goals refine (View.read_writes_junk_apply_eq_canon _ _ _).trans ?_
  · refine (whole_hit _ _ _ r j).trans ?_
    refine (rotq_apply _ _ _ _ r j).trans ?_
    exact turned x0 x1 x2 x3 x4 _ hv _ hcos _ hsin arg4 harg4 _ r j
  · refine (whole_hit _ _ _ r j).trans ?_
    refine (rotk_apply _ _ _ _ r j).trans ?_
    exact turned x0 x1 x2 x3 x4 _ hv _ hcos _ hsin arg4 harg4 _ r j
  · refine (whole_hit _ _ _ r j).trans ?_
    refine (plain_apply _ _ r j).trans ?_
    exact sum_apply x0 x1 x2 _ hv arg4 harg4 _ r j _ rfl
  · exact four _ _ _ _ _ _ _ _ r (tileHead x5 E 0 (Ideal.ofBits FTy.f32 1035273459#32) r)
      (fun e => (congrFun (headq_0 _ _ _ _ _) _).trans (headq x5 E 0 _ hH0 arg16 arg7 harg7 rfl (by decide) (by decide) _ _ _ _ _ r e))
      (fun e => headq x5 E 0 _ hH0 arg16 arg7 harg7 rfl (by decide) (by decide) _ _ _ _ _ r e)
      (fun e => (congrFun (headq_2 _ _ _ _ _) _).trans (headq x5 E 0 _ hH0 arg16 arg7 harg7 rfl (by decide) (by decide) _ _ _ _ _ r e))
      (fun e => (congrFun (headq_3 _ _ _ _ _) _).trans (headq x5 E 0 _ hH0 arg16 arg7 harg7 rfl (by decide) (by decide) _ _ _ _ _ r e)) j
  · exact four _ _ _ _ _ _ _ _ r (tileHead x5 E 1 (Ideal.ofBits FTy.f32 1065353216#32) r)
      (fun e => headk x5 E 1 _ hH1 arg17 arg7 harg7 rfl (by decide) (by decide) _ _ _ _ _ r e)
      (fun e => (congrFun (headk_1 _ _ _ _ _) _).trans (headk x5 E 1 _ hH1 arg17 arg7 harg7 rfl (by decide) (by decide) _ _ _ _ _ r e))
      (fun e => (congrFun (headk_2 _ _ _ _ _) _).trans (headk x5 E 1 _ hH1 arg17 arg7 harg7 rfl (by decide) (by decide) _ _ _ _ _ r e))
      (fun e => (congrFun (headk_3 _ _ _ _ _) _).trans (headk x5 E 1 _ hH1 arg17 arg7 harg7 rfl (by decide) (by decide) _ _ _ _ _ r e)) j
  · exact four _ _ _ _ _ _ _ _ r (fun j => tileY x5 E r (col 2 j))
      (fun e => (congrFun (headv_0 _ _ _ _ _) _).trans (headv x5 E 2 _ hH2 arg18 arg7 harg7 rfl (by decide) _ _ _ _ _ r e))
      (fun e => headv x5 E 2 _ hH2 arg18 arg7 harg7 rfl (by decide) _ _ _ _ _ r e)
      (fun e => (congrFun (headv_2 _ _ _ _ _) _).trans (headv x5 E 2 _ hH2 arg18 arg7 harg7 rfl (by decide) _ _ _ _ _ r e))
      (fun e => (congrFun (headv_3 _ _ _ _ _) _).trans (headv x5 E 2 _ hH2 arg18 arg7 harg7 rfl (by decide) _ _ _ _ _ r e)) j
  · refine (whole_hit _ _ _ r j).trans ?_
    refine (congrFun (plain_31 _ _) _).trans ?_
    refine (plain_apply _ _ r j).trans ?_
    exact sum_apply x0 x1 x2 _ hv arg4 harg4 _ r j _ rfl
  · refine (whole_hit _ _ _ r j).trans ?_
    refine (small_apply _ _ r j).trans ?_
    exact sum_apply x0 x1 x2 _ hv arg4 harg4 _ r j _ rfl
  · exact save_step E 2 rfl _ hS2.1 _ _ (fun n e => (congrFun (copy_30 _) _).trans (tail_apply E 2 _ hH2 arg18 _ n e)) n f f.2

end

end Cert.Inproj

end
-- ==== Proof.Inproj.Later.lean ====
/- The input-projection kernel's run of a tile that is not its batch's first. -/
module

public import proofs.«01_k».proof.Proof.Inproj.Tile
public import proofs.«01_k».proof.Proof.Gen.Kernel3Ideal.Frame

@[expose] public section

set_option maxRecDepth 16384
set_option maxHeartbeats 4000000

noncomputable section

namespace Cert.Inproj

open Cert.Kernel3Ideal Cert.Kernel3Ideal.Gen Idealize.ShloMosaic Idealize.ShloMosaic.TcCoe

section
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3712 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S4x1536 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x512x512 .bf16) (harg14 : arg14.IsWhole) (arg15 : Memref sig .tc .vmem S1x512x128 .f32) (harg15 : arg15.IsWhole) (arg16 : Memref sig .tc .vmem S520x512 .f32) (harg16 : arg16.IsWhole) (arg17 : Memref sig .tc .vmem S520x512 .f32) (harg17 : arg17.IsWhole) (arg18 : Memref sig .tc .vmem S520x512 .f32) (harg18 : arg18.IsWhole) (arg19 : Memref sig .tc .vmem S8x1536 .f32) (harg19 : arg19.IsWhole)
  (x0 : Vec Ideal S1x512x1024 .f32) (x1 : Vec Ideal S1x1024 .f32) (x2 : Vec Ideal S1024x3712 .bf16) (x3 x4 : Vec Ideal S512x128 .f32)
  (x5 : Vec Ideal S4x1536 .f32) (xs3 : Vec Ideal S8x1536 .f32) (E : ℕ → Fin 1536 → EReal)
  (hrow : ∀ (r : Fin 512) (f : Fin 1536), tileP x0 x1 x2 r ⟨1536 + f, conv_lt f⟩ = E (8 + r) f)
include hrow

/-- A later tile. -/
theorem tile_B (hC : ∀ (r : Fin 8) (f : Fin 1536), xs3 (ix2 r f) = E r f) (hc0 : ¬cond0_0 i) :
    TileOk x0 x1 x2 x3 x4 x5 E (out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3,
      out0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3,
      out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3,
      out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3,
      out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3,
      out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3,
      out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3,
      out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3,
      sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 xs3) := by
  have hv : ∀ r d, kernelRun0_B.sl.r (F := Ideal) c arg2 harg2 arg3 harg3 x0 x1 (ix2 r d) = tileN x0 x1 r d := rows_apply x0 x1 arg2 harg2 arg3 harg3 _ _
  have hcos : ∀ (r : Fin 512) (e : Fin 128), kernelRun0_B.sl.r_1 (F := Ideal) c arg5 harg5 x3 (ix2 r e) = x3 (ix2 r e) := fun r e =>
    (cos_apply _ r e).trans (load2 arg5 harg5 x3 _ r e _ _ (Nat.zero_add _) (Nat.zero_add _))
  have hsin : ∀ (r : Fin 512) (e : Fin 128), kernelRun0_B.sl.r_2 (F := Ideal) c arg6 harg6 x4 (ix2 r e) = x4 (ix2 r e) := fun r e =>
    (sin_apply _ r e).trans (load2 arg6 harg6 x4 _ r e _ _ (Nat.zero_add _) (Nat.zero_add _))
  have hcar : ∀ (s : Fin 3) (o : ℕ) (ho : o = s * 512) (i) (r : Fin 8) (e : Fin 512), k0_pay6 (F := Ideal) (View.readAt (Elt Ideal) arg19.view (Rect.unit (s := S8x1536) ![0, o] S8x512.size i).toLoadRect (harg19.unread xs3)) (ix2 r e) = E r (col s e) :=
    fun s o ho i r e => (copy_apply _ r e).trans ((load2 arg19 harg19 xs3 i r e r (col s e) (Nat.zero_add _) (by subst ho; rfl)).trans (hC _ _))
  have hH : Holds E 0 (kernelRun0_B.sl.HS0_2 (F := Ideal) c arg2 harg2 arg3 harg3 arg4 harg4 arg19 harg19 x0 x1 x2 xs3)
      ∧ Holds E 1 (kernelRun0_B.sl.HS1_2 (F := Ideal) c arg2 harg2 arg3 harg3 arg4 harg4 arg19 harg19 x0 x1 x2 xs3)
      ∧ Holds E 2 (kernelRun0_B.sl.HS2_2 (F := Ideal) c arg2 harg2 arg3 harg3 arg4 harg4 arg19 harg19 x0 x1 x2 xs3) :=
    ⟨holds E 0 _ _ _ _ (fun r e => (congrFun (proj_7 _ _ _) _).trans (fill x0 x1 x2 E arg4 harg4 hrow _ hv 0 rfl _ r e)) (fun r e => hcar 0 _ rfl _ r e),
      holds E 1 _ _ _ _ (fun r e => fill x0 x1 x2 E arg4 harg4 hrow _ hv 1 rfl _ r e) (fun r e => (congrFun (copy_11 _) _).trans (hcar 1 _ rfl _ r e)),
      holds E 2 _ _ _ _ (fun r e => (congrFun (proj_28 _ _) _).trans (fill x0 x1 x2 E arg4 harg4 hrow _ hv 2 rfl _ r e)) (fun r e => (congrFun (copy_27 _) _).trans (hcar 2 _ rfl _ r e))⟩
  refine ⟨fun r j => ?_, fun r j => ?_, fun r j => ?_, fun r j => ?_, fun r j => ?_, fun r j => ?_, fun r j => ?_, fun r j => ?_, fun n f => ?_⟩
  all_goals dsimp only
  all_goals refine (View.read_writes_junk_apply_eq_canon _ _ _).trans ?_
  · refine (whole_hit _ _ _ r j).trans ?_
    refine (rotq_apply _ _ _ _ r j).trans ?_
    exact turned x0 x1 x2 x3 x4 _ hv _ hcos _ hsin arg4 harg4 _ r j
  · refine (whole_hit _ _ _ r j).trans ?_
    refine (rotk_apply _ _ _ _ r j).trans ?_
    exact turned x0 x1 x2 x3 x4 _ hv _ hcos _ hsin arg4 harg4 _ r j
  · refine (whole_hit _ _ _ r j).trans ?_
    refine (plain_apply _ _ r j).trans ?_
    exact sum_apply x0 x1 x2 _ hv arg4 harg4 _ r j _ rfl
  · exact four _ _ _ _ _ _ _ _ r (tileHead x5 E 0 (Ideal.ofBits FTy.f32 1035273459#32) r)
      (fun e => (congrFun (headq_0 _ _ _ _ _) _).trans (headq x5 E 0 _ hH.1 arg16 arg7 harg7 rfl (by decide) (by decide) _ _ _ _ _ r e))
      (fun e => headq x5 E 0 _ hH.1 arg16 arg7 harg7 rfl (by decide) (by decide) _ _ _ _ _ r e)
      (fun e => (congrFun (headq_2 _ _ _ _ _) _).trans (headq x5 E 0 _ hH.1 arg16 arg7 harg7 rfl (by decide) (by decide) _ _ _ _ _ r e))
      (fun e => (congrFun (headq_3 _ _ _ _ _) _).trans (headq x5 E 0 _ hH.1 arg16 arg7 harg7 rfl (by decide) (by decide) _ _ _ _ _ r e)) j
  · exact four _ _ _ _ _ _ _ _ r (tileHead x5 E 1 (Ideal.ofBits FTy.f32 1065353216#32) r)
      (fun e => headk x5 E 1 _ hH.2.1 arg17 arg7 harg7 rfl (by decide) (by decide) _ _ _ _ _ r e)
      (fun e => (congrFun (headk_1 _ _ _ _ _) _).trans (headk x5 E 1 _ hH.2.1 arg17 arg7 harg7 rfl (by decide) (by decide) _ _ _ _ _ r e))
      (fun e => (congrFun (headk_2 _ _ _ _ _) _).trans (headk x5 E 1 _ hH.2.1 arg17 arg7 harg7 rfl (by decide) (by decide) _ _ _ _ _ r e))
      (fun e => (congrFun (headk_3 _ _ _ _ _) _).trans (headk x5 E 1 _ hH.2.1 arg17 arg7 harg7 rfl (by decide) (by decide) _ _ _ _ _ r e)) j
  · exact four _ _ _ _ _ _ _ _ r (fun j => tileY x5 E r (col 2 j))
      (fun e => (congrFun (headv_0 _ _ _ _ _) _).trans (headv x5 E 2 _ hH.2.2 arg18 arg7 harg7 rfl (by decide) _ _ _ _ _ r e))
      (fun e => headv x5 E 2 _ hH.2.2 arg18 arg7 harg7 rfl (by decide) _ _ _ _ _ r e)
      (fun e => (congrFun (headv_2 _ _ _ _ _) _).trans (headv x5 E 2 _ hH.2.2 arg18 arg7 harg7 rfl (by decide) _ _ _ _ _ r e))
      (fun e => (congrFun (headv_3 _ _ _ _ _) _).trans (headv x5 E 2 _ hH.2.2 arg18 arg7 harg7 rfl (by decide) _ _ _ _ _ r e)) j
  · refine (whole_hit _ _ _ r j).trans ?_
    refine (congrFun (plain_31 _ _) _).trans ?_
    refine (plain_apply _ _ r j).trans ?_
    exact sum_apply x0 x1 x2 _ hv arg4 harg4 _ r j _ rfl
  · refine (whole_hit _ _ _ r j).trans ?_
    refine (small_apply _ _ r j).trans ?_
    exact sum_apply x0 x1 x2 _ hv arg4 harg4 _ r j _ rfl
  · exact save_step E 2 rfl _ (save_step E 1 rfl _ (save_step E 0 rfl [] (fun _ _ h => absurd h (by simp)) _ _
      (fun n e => (congrFun (copy_9 _) _).trans (tail_apply E 0 _ hH.1 arg16 _ n e))) _ _
      (fun n e => (congrFun (copy_13 _) _).trans (tail_apply E 1 _ hH.2.1 arg17 _ n e))) _ _
      (fun n e => (congrFun (copy_30 _) _).trans (tail_apply E 2 _ hH.2.2 arg18 _ n e)) n f f.2

end

end Cert.Inproj

end
-- ==== Proof.Inproj.Entry.lean ====
/- What the call before the grid prepares: the reordered weights and the tables, entry by entry. -/
module

public import proofs.«01_k».proof.Proof.Inproj.Seq
public import proofs.«01_k».proof.Proof.Gen.Kernel3Ideal.Value

@[expose] public section

set_option maxRecDepth 16384
set_option maxHeartbeats 1000000

noncomputable section

namespace Cert.Inproj

open Cert.Kernel3Ideal Cert.Kernel3Ideal.Gen Idealize.ShloMosaic Idealize.ShloMosaic.TcCoe Idealize.SL.Sem

/-- A weight column, zero past the last one. -/
def wcol (wi : FVec Ideal S1024x3592 .f32) (d : Fin 1024) (n : ℕ) : EReal := if h : n < 3592 then wi (ix2 d ⟨n, h⟩) else 0

theorem wcol_at (wi : FVec Ideal S1024x3592 .f32) (d : Fin 1024) (n : Fin 3592) {l : ℕ} (h : (n : ℕ) = l) : wi (ix2 d n) = wcol wi d l := by
  subst h
  unfold wcol
  rw [dif_pos n.2]

/-- Columns past the last one, as the padding writes them. -/
theorem wcol_pad (wi : FVec Ideal S1024x3592 .f32) (d : Fin 1024) (j : Fin 128) :
    (pad S1024x128 ![0, 0] ![0, 120] ![0, 0] (extractStridedSlice S1024x8 ![0, 3584] wi) (sitofp (F := Ideal) FTy.f32 (constantI S_ 32 0#32)) : FVec Ideal S1024x128 .f32) (ix2 d j)
      = wcol wi d (3584 + j) := by
  unfold wcol
  pointwise
  split_ifs
  all_goals first | rfl | omega | simp [FloatOps.sitofp]

theorem freq_lt (e : ℕ) : e % 32 < 32 := by omega

/-- A table's entry, at its frequency. -/
theorem at_freq (f : FVec Ideal S4096x32 .f32) (t : Fin 4096) (n : Fin 32) (e : ℕ) {z : EReal} (h : (n : ℕ) = e % 32)
    (hz : f (ix2 t ⟨e % 32, freq_lt e⟩) = z) : f (ix2 t n) = z := by
  rw [← hz, show n = ⟨e % 32, freq_lt e⟩ from Fin.ext h]

variable (m : (ℓ : Loc nD τ sig) → Buf (Elt Ideal) ℓ) (c : Dev nD)

theorem entry_n (d : Fin 1024) : (show FVec Ideal S1x1024 .f32 from V m c main_v37) (ix2 0 d)
    = (show FVec Ideal S1024 .f32 from m ((c : Thread nD τ).loc main_arg1)) (ix1 d) := by
  unfold V
  simp only [List.flatten_cons, List.flatten_nil, List.append_nil, List.cons_append, List.nil_append]
  after_results
  pointwise

theorem entry_cos (t : Fin 4096) (e : Fin 128) : (show FVec Ideal S4096x128 .f32 from V m c main_v33) (ix2 t e) = cosT t e := by
  unfold V
  simp only [List.flatten_cons, List.flatten_nil, List.append_nil, List.cons_append, List.nil_append]
  after_results
  unfold cosT ang
  pointwise

theorem entry_sin (t : Fin 4096) (e : Fin 128) : (show FVec Ideal S4096x128 .f32 from V m c main_v36) (ix2 t e) = sinT t e := by
  unfold V
  simp only [List.flatten_cons, List.flatten_nil, List.append_nil, List.cons_append, List.nil_append]
  after_results
  unfold sinT ang
  pointwise
  split_ifs
  all_goals first | omega | skip
  all_goals refine at_freq _ t _ e (by dsimp only; omega) ?_
  all_goals after_results_loop
  all_goals pointwise
  all_goals first | exact (if_pos (by omega)).symm | exact (if_neg (by omega)).symm

/-- The reordered weights. -/
theorem entry_w (d : Fin 1024) (e : Fin 3712) : (show FVec Ideal S1024x3712 .bf16 from V m c main_v12) (ix2 d e)
    = wcol (m ((c : Thread nD τ).loc main_arg2)) d (src e) := by
  unfold V
  simp only [List.flatten_cons, List.flatten_nil, List.append_nil, List.cons_append, List.nil_append]
  after_results
  pointwise
  split_ifs
  all_goals after_results_loop
  all_goals pointwise
  all_goals first
    | (have h : (e : ℕ) < 1024 := by omega
       refine wcol_at (m ((c : Thread nD τ).loc main_arg2)) d _ ?_
       refine Eq.trans ?_ (src_low h).symm
       dsimp only
       done)
    | (have h : (e : ℕ) < 1024 := by omega
       refine wcol_at (m ((c : Thread nD τ).loc main_arg2)) d _ ?_
       refine Eq.trans ?_ (src_low h).symm
       dsimp only
       omega)
    | (have h : 1024 ≤ (e : ℕ) ∧ (e : ℕ) - 512 - 512 < 2560 := by omega
       refine wcol_at (m ((c : Thread nD τ).loc main_arg2)) d _ ?_
       refine Eq.trans ?_ (src_high h.1).symm
       dsimp only
       omega)
    | (have h : 3584 + ((e : ℕ) - 512 - 512 - 2560) = src e := Eq.trans (by omega) (src_high (by omega)).symm
       refine Eq.trans ?_ (congrArg (wcol (m ((c : Thread nD τ).loc main_arg2)) d) h)
       simp -implicitDefEqProofs only [StableHlo.TRef.toBuf, StableHlo.TRef.ofBuf, cast_cast, cast_eq]
       exact wcol_pad (m ((c : Thread nD τ).loc main_arg2)) d ⟨(e : ℕ) - 512 - 512 - 2560, by omega⟩)

end Cert.Inproj

end
-- ==== Proof.Inproj.Array.lean ====
/- The input-projection kernel's result arrays in closed form: each tile's blocks, placed by the grid. -/
module

public import proofs.«01_k».proof.Proof.Inproj.First
public import proofs.«01_k».proof.Proof.Inproj.Later
public import proofs.«01_k».proof.Proof.Inproj.Entry

@[expose] public section

set_option maxRecDepth 16384
set_option maxHeartbeats 1000000

noncomputable section

namespace Cert.Inproj

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Where each window's block sits. -/
theorem idx : ∀ t : Fin cfg0.N, win0_0.index t = ![t.val / 8, t.val % 8, 0] ∧ win0_1.index t = ![0, 0] ∧ win0_2.index t = ![0, 0]
    ∧ win0_3.index t = ![t.val % 8, 0] ∧ win0_4.index t = ![t.val % 8, 0] ∧ win0_5.index t = ![0, 0]
    ∧ win0_6.index t = ![t.val / 8, t.val % 8, 0] ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0] ∧ t.val / 8 < 16 :=
  (by decide +kernel : ∀ t : Fin grid0.N, _)

theorem batch_lt (t : Fin cfg0.N) : t.val / 8 < 16 := (idx t).2.2.2.2.2.2.2.2.2.2.2.2.2.2

/-- A tile's place in its batch. -/
theorem token_lt (t r : ℕ) (h : r < 512) : t % 8 * 512 + r < 4096 := by omega

variable (c : Dev nD)

section
variable (t : Fin cfg0.N)

theorem block_x (r : Fin 512) (d : Fin 1024) : (show FVec Ideal S1x512x1024 .f32 from iblk m c 0 t) (ix3 0 r d)
    = (show FVec Ideal S16x4096x1024 .f32 from m ((c : Thread nD τ).loc main_arg0)) (ix3 ⟨t.val / 8, batch_lt t⟩ ⟨t.val % 8 * 512 + r, token_lt t r r.2⟩ d) := by
  blk_ext [iblk, idx t, V]

theorem block_n (d : Fin 1024) : (show FVec Ideal S1x1024 .f32 from iblk m c 1 t) (ix2 0 d)
    = (show FVec Ideal S1x1024 .f32 from V m c main_v37) (ix2 0 d) := by
  blk_ext [iblk, idx t]

theorem block_w (d : Fin 1024) (e : Fin 3712) : (show FVec Ideal S1024x3712 .bf16 from iblk m c 2 t) (ix2 d e)
    = (show FVec Ideal S1024x3712 .bf16 from V m c main_v12) (ix2 d e) := by
  blk_ext [iblk, idx t]

theorem block_cos (r : Fin 512) (e : Fin 128) : (show FVec Ideal S512x128 .f32 from iblk m c 3 t) (ix2 r e)
    = (show FVec Ideal S4096x128 .f32 from V m c main_v33) (ix2 ⟨t.val % 8 * 512 + r, token_lt t r r.2⟩ e) := by
  blk_ext [iblk, idx t]

theorem block_sin (r : Fin 512) (e : Fin 128) : (show FVec Ideal S512x128 .f32 from iblk m c 4 t) (ix2 r e)
    = (show FVec Ideal S4096x128 .f32 from V m c main_v36) (ix2 ⟨t.val % 8 * 512 + r, token_lt t r r.2⟩ e) := by
  blk_ext [iblk, idx t]

theorem block_c (k : Fin 4) (f : Fin 1536) : (show FVec Ideal S4x1536 .f32 from iblk m c 5 t) (ix2 k f)
    = (show FVec Ideal S4x1536 .f32 from m ((c : Thread nD τ).loc main_arg3)) (ix2 k f) := by
  blk_ext [iblk, idx t, V]

/-- The eight carried rows and the convolved rows of a tile. -/
def tileE (n : ℕ) (f : Fin 1536) : EReal := lag (m ((c : Thread nD τ).loc main_arg0)) (m ((c : Thread nD τ).loc main_arg1)) (m ((c : Thread nD τ).loc main_arg2)) ⟨t.val / 8, batch_lt t⟩ (t.val % 8 * 512 + n) f

/-- A sum against a weight column is a projection. -/
theorem proj_eq (x : FVec Ideal S16x4096x1024 .f32) (nw : FVec Ideal S1024 .f32) (wi : FVec Ideal S1024x3592 .f32) (b : Fin 16) (t : Fin 4096) (n : ℕ) :
    ∑ d : Fin 1024, seqN x nw b t d * wcol wi d n = proj x nw wi b t n := by
  unfold wcol proj
  by_cases h : n < 3592
  · simp only [h, dif_pos]
  · simp only [h, dif_neg, not_false_eq_true, mul_zero, Finset.sum_const_zero]

/-- A tile's projected rows are its tokens'. -/
theorem cols_eq (r : Fin 512) (e : Fin 3712) : tileP (iblk m c 0 t) (iblk m c 1 t) (iblk m c 2 t) r e = proj (m ((c : Thread nD τ).loc main_arg0)) (m ((c : Thread nD τ).loc main_arg1)) (m ((c : Thread nD τ).loc main_arg2)) ⟨t.val / 8, batch_lt t⟩ ⟨t.val % 8 * 512 + r, token_lt t r r.2⟩ (src e) := by
  rw [← proj_eq]
  unfold tileP tileN seqN
  rw [show (fun d => (iblk m c 0 t : FVec Ideal S1x512x1024 .f32) (ix3 0 r d)) = _ from funext (block_x m c t r),
    show (fun d => (iblk m c 1 t : FVec Ideal S1x1024 .f32) (ix2 0 d)) = _ from funext fun d => (block_n m c t d).trans (entry_n m c d)]
  exact Finset.sum_congr rfl fun d _ => congrArg (_ * ·) ((block_w m c t d e).trans (entry_w m c d e))

/-- Past the turned columns, a column is its own. -/
theorem high_eq (r : Fin 512) (e : Fin 3712) (h : 1024 ≤ (e : ℕ)) : tileP (iblk m c 0 t) (iblk m c 1 t) (iblk m c 2 t) r e = proj (m ((c : Thread nD τ).loc main_arg0)) (m ((c : Thread nD τ).loc main_arg1)) (m ((c : Thread nD τ).loc main_arg2)) ⟨t.val / 8, batch_lt t⟩ ⟨t.val % 8 * 512 + r, token_lt t r r.2⟩ e := by
  rw [cols_eq, src_high h]

/-- A tile's convolved rows are its tokens'. -/
theorem conv_eq (r : Fin 512) (f : Fin 1536) : tileP (iblk m c 0 t) (iblk m c 1 t) (iblk m c 2 t) r ⟨1536 + f, conv_lt f⟩ = tileE m c t (8 + r) f := by
  unfold tileE
  rw [lag_row (m ((c : Thread nD τ).loc main_arg0)) (m ((c : Thread nD τ).loc main_arg1)) (m ((c : Thread nD τ).loc main_arg2)) ⟨t.val / 8, batch_lt t⟩ ⟨t.val % 8 * 512 + r, token_lt t r r.2⟩ (by show _ = t.val % 8 * 512 + (r : ℕ) + 8; omega) f]
  exact high_eq m c t r _ (by show 1024 ≤ 1536 + (f : ℕ); omega)

/-- A tile's turned heads are its tokens'. -/
theorem rot_eq (o : ℕ) (ho : o + 512 ≤ 3712) (k : EReal) (r j : Fin 512) :
    tileRot (iblk m c 0 t) (iblk m c 1 t) (iblk m c 2 t) (iblk m c 3 t) (iblk m c 4 t) o ho k r j = seqRot (m ((c : Thread nD τ).loc main_arg0)) (m ((c : Thread nD τ).loc main_arg1)) (m ((c : Thread nD τ).loc main_arg2)) o k ⟨t.val / 8, batch_lt t⟩ ⟨t.val % 8 * 512 + r, token_lt t r r.2⟩ j := by
  unfold tileRot seqRot
  rw [show (fun y => tileP (iblk m c 0 t) (iblk m c 1 t) (iblk m c 2 t) r ⟨o + ((j : ℕ) / 128 * 128 + (y : Fin 128)), wide_lt ho j.2 y⟩) = _ from funext fun y => cols_eq m c t r _,
    show (fun e => (iblk m c 3 t : FVec Ideal S512x128 .f32) (ix2 r e)) = _ from funext fun e => (block_cos m c t r e).trans (entry_cos m c _ e),
    show (fun e => (iblk m c 4 t : FVec Ideal S512x128 .f32) (ix2 r e)) = _ from funext fun e => (block_sin m c t r e).trans (entry_sin m c _ e)]

/-- A tile's gated columns are its tokens'. -/
theorem y_eq (r : Fin 512) (f : Fin 1536) : tileY (iblk m c 5 t) (tileE m c t) r f = seqY (m ((c : Thread nD τ).loc main_arg0)) (m ((c : Thread nD τ).loc main_arg1)) (m ((c : Thread nD τ).loc main_arg2)) (m ((c : Thread nD τ).loc main_arg3)) ⟨t.val / 8, batch_lt t⟩ ⟨t.val % 8 * 512 + r, token_lt t r r.2⟩ f := by
  have e : ∀ k, tileE m c t (k + r) f = lag (m ((c : Thread nD τ).loc main_arg0)) (m ((c : Thread nD τ).loc main_arg1)) (m ((c : Thread nD τ).loc main_arg2)) ⟨t.val / 8, batch_lt t⟩ (t.val % 8 * 512 + (r : ℕ) + k) f := fun k => by
    unfold tileE
    rw [show t.val % 8 * 512 + (k + (r : ℕ)) = t.val % 8 * 512 + (r : ℕ) + k by omega]
  unfold tileY seqY
  rw [show (fun k => (iblk m c 5 t : FVec Ideal S4x1536 .f32) (ix2 k f)) = _ from funext fun k => block_c m c t k f, e, e, e, e]

/-- A tile's gated heads are its tokens'. -/
theorem head_eq (s : Fin 3) (k : EReal) (r j : Fin 512) : tileHead (iblk m c 5 t) (tileE m c t) s k r j = seqHead (m ((c : Thread nD τ).loc main_arg0)) (m ((c : Thread nD τ).loc main_arg1)) (m ((c : Thread nD τ).loc main_arg2)) (m ((c : Thread nD τ).loc main_arg3)) s k ⟨t.val / 8, batch_lt t⟩ ⟨t.val % 8 * 512 + r, token_lt t r r.2⟩ j := by
  unfold tileHead seqHead
  exact congrArg (fun y => unit y k _) (funext fun y => y_eq m c t r _)

end

/-- The rows a tile carries in are the rows the tile before carried out. -/
theorem tileE_next (k : ℕ) (hk : k + 1 < cfg0.N) (h0 : ¬(k + 1) % 8 = 0) (r : Fin 8) (f : Fin 1536) :
    tileE m c ⟨k, Nat.lt_of_succ_lt hk⟩ (512 + r) f = tileE m c ⟨k + 1, hk⟩ r f := by
  unfold tileE
  have e1 : (⟨k / 8, batch_lt ⟨k, Nat.lt_of_succ_lt hk⟩⟩ : Fin 16) = ⟨(k + 1) / 8, batch_lt ⟨k + 1, hk⟩⟩ := Fin.ext (by show k / 8 = (k + 1) / 8; omega)
  have e2 : k % 8 * 512 + (512 + (r : ℕ)) = (k + 1) % 8 * 512 + r := by omega
  show lag (m ((c : Thread nD τ).loc main_arg0)) (m ((c : Thread nD τ).loc main_arg1)) (m ((c : Thread nD τ).loc main_arg2)) ⟨k / 8, _⟩ (k % 8 * 512 + (512 + (r : ℕ))) f = lag (m ((c : Thread nD τ).loc main_arg0)) (m ((c : Thread nD τ).loc main_arg1)) (m ((c : Thread nD τ).loc main_arg2)) ⟨(k + 1) / 8, _⟩ ((k + 1) % 8 * 512 + r) f
  rw [e1, e2]

/-- What a batch's first point leaves. -/
theorem first_point (t : Fin cfg0.N) (h0 : t.val % 8 = 0) : TileOk (iblk m c 0 t) (iblk m c 1 t) (iblk m c 2 t) (iblk m c 3 t) (iblk m c 4 t) (iblk m c 5 t) (tileE m c t) (outsAt0 m c t.val t.isLt) := by
  have hz : ∀ (r : Fin 8) (f : Fin 1536), tileE m c t r f = 0 := fun r f => lag_front _ _ _ _ (by rw [h0]; omega) f
  rw [outsAt0_A m c t h0]
  exact tile_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) (tileE m c t) (conv_eq m c t) hz ((hcond0_0 t).mpr h0)

/-- What a later point leaves, over what the point before left. -/
theorem later_point (t : Fin cfg0.N) (h0 : ¬t.val % 8 = 0) (hp : ∀ (r : Fin 8) (f : Fin 1536), (outsAt0 m c (t.val - 1) (Nat.lt_of_le_of_lt (Nat.sub_le _ _) t.isLt)).2.2.2.2.2.2.2.2 (ix2 r f) = tileE m c t r f) :
    TileOk (iblk m c 0 t) (iblk m c 1 t) (iblk m c 2 t) (iblk m c 3 t) (iblk m c 4 t) (iblk m c 5 t) (tileE m c t) (outsAt0 m c t.val t.isLt) := by
  rw [outsAt0_B m c t h0]
  exact tile_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) (iblk m c 5 t) _ (tileE m c t) (conv_eq m c t) hp (fun h => h0 ((hcond0_0 t).mp h))

/-- What every grid point leaves. -/
theorem points : ∀ (k : ℕ) (hk : k < cfg0.N),
    TileOk (iblk m c 0 ⟨k, hk⟩) (iblk m c 1 ⟨k, hk⟩) (iblk m c 2 ⟨k, hk⟩) (iblk m c 3 ⟨k, hk⟩) (iblk m c 4 ⟨k, hk⟩) (iblk m c 5 ⟨k, hk⟩) (tileE m c ⟨k, hk⟩) (outsAt0 m c k hk)
  | 0, hk => first_point m c ⟨0, hk⟩ rfl
  | k + 1, hk => by
    by_cases h0 : (k + 1) % 8 = 0
    · exact first_point m c ⟨k + 1, hk⟩ h0
    · exact later_point m c ⟨k + 1, hk⟩ h0 fun r f => ((points k (Nat.lt_of_succ_lt hk)).2.2.2.2.2.2.2.2 r f).trans (tileE_next m c k hk h0 r f)

/-- A result array from its entries. -/
def whole {w : ℕ} (f : Fin 16 → Fin 4096 → Fin w → EReal) : (⟨3, ![16, 4096, w]⟩ : Shape).Idx → EReal := fun i => f (i 0) (i 1) (i 2)

/-- A block's entries give it at every index. -/
theorem spread {w : ℕ} (f : Fin 16 → Fin 4096 → Fin w → EReal) (v : (⟨3, ![1, 512, w]⟩ : Shape).Idx → EReal) (t : Fin cfg0.N)
    (h : ∀ (r : Fin 512) (j : Fin w), v (ix3 0 r j) = f ⟨t.val / 8, batch_lt t⟩ ⟨t.val % 8 * 512 + r, token_lt t r r.2⟩ j) (y : (⟨3, ![1, 512, w]⟩ : Shape).Idx) :
    v y = whole f (ix3 ⟨t.val / 8, batch_lt t⟩ ⟨t.val % 8 * 512 + (y 1 : ℕ), token_lt t _ (y 1).isLt⟩ (y 2)) := by
  obtain ⟨r, d, rfl⟩ : ∃ (r : Fin 512) (d : Fin w), y = ix3 0 r d := ⟨y 1, y 2, funext fun k => by
    match k with
    | ⟨0, _⟩ => exact Subsingleton.elim (α := Fin 1) _ _
    | ⟨1, _⟩ => rfl
    | ⟨2, _⟩ => rfl⟩
  exact h r d

/-- The kernel's array of the turned queries. -/
theorem final_q : (dats m 0 c).arrAt 6 (cfgs 0).N = whole (w := 512) (seqRot (m ((c : Thread nD τ).loc main_arg0)) (m ((c : Thread nD τ).loc main_arg1)) (m ((c : Thread nD τ).loc main_arg2)) 0 (Ideal.ofBits FTy.f32 1043900987#32)) := by
  refine (dats m 0 c).arrAt_eq_of_covers 6 _ (by decide +kernel) fun t hf y => ?_
  blk_simp
  rw [after0_6]
  refine (spread (w := 512) (seqRot (m ((c : Thread nD τ).loc main_arg0)) (m ((c : Thread nD τ).loc main_arg1)) (m ((c : Thread nD τ).loc main_arg2)) 0 (Ideal.ofBits FTy.f32 1043900987#32)) _ t (fun r j => ((points m c t.val t.isLt).1 r j).trans (rot_eq m c t 0 (by decide) _ r j)) y).trans (congrArg (whole (w := 512) (seqRot (m ((c : Thread nD τ).loc main_arg0)) (m ((c : Thread nD τ).loc main_arg1)) (m ((c : Thread nD τ).loc main_arg2)) 0 (Ideal.ofBits FTy.f32 1043900987#32))) ?_)
  blk_ext [idx t]

/-- The kernel's array of the turned keys. -/
theorem final_k : (dats m 0 c).arrAt 7 (cfgs 0).N = whole (w := 512) (seqRot (m ((c : Thread nD τ).loc main_arg0)) (m ((c : Thread nD τ).loc main_arg1)) (m ((c : Thread nD τ).loc main_arg2)) 512 (Ideal.ofBits FTy.f32 1065353216#32)) := by
  refine (dats m 0 c).arrAt_eq_of_covers 7 _ (by decide +kernel) fun t hf y => ?_
  blk_simp
  rw [after0_7]
  refine (spread (w := 512) (seqRot (m ((c : Thread nD τ).loc main_arg0)) (m ((c : Thread nD τ).loc main_arg1)) (m ((c : Thread nD τ).loc main_arg2)) 512 (Ideal.ofBits FTy.f32 1065353216#32)) _ t (fun r j => ((points m c t.val t.isLt).2.1 r j).trans (rot_eq m c t 512 (by decide) _ r j)) y).trans (congrArg (whole (w := 512) (seqRot (m ((c : Thread nD τ).loc main_arg0)) (m ((c : Thread nD τ).loc main_arg1)) (m ((c : Thread nD τ).loc main_arg2)) 512 (Ideal.ofBits FTy.f32 1065353216#32))) ?_)
  blk_ext [idx t]

/-- The kernel's array of the attention's values. -/
theorem final_v : (dats m 0 c).arrAt 8 (cfgs 0).N = whole (w := 512) (fun b t j => proj (m ((c : Thread nD τ).loc main_arg0)) (m ((c : Thread nD τ).loc main_arg1)) (m ((c : Thread nD τ).loc main_arg2)) b t (1024 + j)) := by
  refine (dats m 0 c).arrAt_eq_of_covers 8 _ (by decide +kernel) fun t hf y => ?_
  blk_simp
  rw [after0_8]
  refine (spread (w := 512) (fun b t j => proj (m ((c : Thread nD τ).loc main_arg0)) (m ((c : Thread nD τ).loc main_arg1)) (m ((c : Thread nD τ).loc main_arg2)) b t (1024 + j)) _ t (fun r j => ((points m c t.val t.isLt).2.2.1 r j).trans (high_eq m c t r _ (by show 1024 ≤ 1024 + (j : ℕ); omega))) y).trans (congrArg (whole (w := 512) (fun b t j => proj (m ((c : Thread nD τ).loc main_arg0)) (m ((c : Thread nD τ).loc main_arg1)) (m ((c : Thread nD τ).loc main_arg2)) b t (1024 + j))) ?_)
  blk_ext [idx t]

/-- The kernel's array of the query heads. -/
theorem final_gq : (dats m 0 c).arrAt 9 (cfgs 0).N = whole (w := 512) (seqHead (m ((c : Thread nD τ).loc main_arg0)) (m ((c : Thread nD τ).loc main_arg1)) (m ((c : Thread nD τ).loc main_arg2)) (m ((c : Thread nD τ).loc main_arg3)) 0 (Ideal.ofBits FTy.f32 1035273459#32)) := by
  refine (dats m 0 c).arrAt_eq_of_covers 9 _ (by decide +kernel) fun t hf y => ?_
  blk_simp
  rw [after0_9]
  refine (spread (w := 512) (seqHead (m ((c : Thread nD τ).loc main_arg0)) (m ((c : Thread nD τ).loc main_arg1)) (m ((c : Thread nD τ).loc main_arg2)) (m ((c : Thread nD τ).loc main_arg3)) 0 (Ideal.ofBits FTy.f32 1035273459#32)) _ t (fun r j => ((points m c t.val t.isLt).2.2.2.1 r j).trans (head_eq m c t 0 _ r j)) y).trans (congrArg (whole (w := 512) (seqHead (m ((c : Thread nD τ).loc main_arg0)) (m ((c : Thread nD τ).loc main_arg1)) (m ((c : Thread nD τ).loc main_arg2)) (m ((c : Thread nD τ).loc main_arg3)) 0 (Ideal.ofBits FTy.f32 1035273459#32))) ?_)
  blk_ext [idx t]

/-- The kernel's array of the key heads. -/
theorem final_gk : (dats m 0 c).arrAt 10 (cfgs 0).N = whole (w := 512) (seqHead (m ((c : Thread nD τ).loc main_arg0)) (m ((c : Thread nD τ).loc main_arg1)) (m ((c : Thread nD τ).loc main_arg2)) (m ((c : Thread nD τ).loc main_arg3)) 1 (Ideal.ofBits FTy.f32 1065353216#32)) := by
  refine (dats m 0 c).arrAt_eq_of_covers 10 _ (by decide +kernel) fun t hf y => ?_
  blk_simp
  rw [after0_10]
  refine (spread (w := 512) (seqHead (m ((c : Thread nD τ).loc main_arg0)) (m ((c : Thread nD τ).loc main_arg1)) (m ((c : Thread nD τ).loc main_arg2)) (m ((c : Thread nD τ).loc main_arg3)) 1 (Ideal.ofBits FTy.f32 1065353216#32)) _ t (fun r j => ((points m c t.val t.isLt).2.2.2.2.1 r j).trans (head_eq m c t 1 _ r j)) y).trans (congrArg (whole (w := 512) (seqHead (m ((c : Thread nD τ).loc main_arg0)) (m ((c : Thread nD τ).loc main_arg1)) (m ((c : Thread nD τ).loc main_arg2)) (m ((c : Thread nD τ).loc main_arg3)) 1 (Ideal.ofBits FTy.f32 1065353216#32))) ?_)
  blk_ext [idx t]

/-- The kernel's array of the value heads. -/
theorem final_gv : (dats m 0 c).arrAt 11 (cfgs 0).N = whole (w := 512) (fun b t j => seqY (m ((c : Thread nD τ).loc main_arg0)) (m ((c : Thread nD τ).loc main_arg1)) (m ((c : Thread nD τ).loc main_arg2)) (m ((c : Thread nD τ).loc main_arg3)) b t (col 2 j)) := by
  refine (dats m 0 c).arrAt_eq_of_covers 11 _ (by decide +kernel) fun t hf y => ?_
  blk_simp
  rw [after0_11]
  refine (spread (w := 512) (fun b t j => seqY (m ((c : Thread nD τ).loc main_arg0)) (m ((c : Thread nD τ).loc main_arg1)) (m ((c : Thread nD τ).loc main_arg2)) (m ((c : Thread nD τ).loc main_arg3)) b t (col 2 j)) _ t (fun r j => ((points m c t.val t.isLt).2.2.2.2.2.1 r j).trans (y_eq m c t r (col 2 j))) y).trans (congrArg (whole (w := 512) (fun b t j => seqY (m ((c : Thread nD τ).loc main_arg0)) (m ((c : Thread nD τ).loc main_arg1)) (m ((c : Thread nD τ).loc main_arg2)) (m ((c : Thread nD τ).loc main_arg3)) b t (col 2 j))) ?_)
  blk_ext [idx t]

/-- The kernel's array of the output gate. -/
theorem final_z : (dats m 0 c).arrAt 12 (cfgs 0).N = whole (w := 512) (fun b t j => proj (m ((c : Thread nD τ).loc main_arg0)) (m ((c : Thread nD τ).loc main_arg1)) (m ((c : Thread nD τ).loc main_arg2)) b t (3072 + j)) := by
  refine (dats m 0 c).arrAt_eq_of_covers 12 _ (by decide +kernel) fun t hf y => ?_
  blk_simp
  rw [after0_12]
  refine (spread (w := 512) (fun b t j => proj (m ((c : Thread nD τ).loc main_arg0)) (m ((c : Thread nD τ).loc main_arg1)) (m ((c : Thread nD τ).loc main_arg2)) b t (3072 + j)) _ t (fun r j => ((points m c t.val t.isLt).2.2.2.2.2.2.1 r j).trans (high_eq m c t r _ (by show 1024 ≤ 3072 + (j : ℕ); omega))) y).trans (congrArg (whole (w := 512) (fun b t j => proj (m ((c : Thread nD τ).loc main_arg0)) (m ((c : Thread nD τ).loc main_arg1)) (m ((c : Thread nD τ).loc main_arg2)) b t (3072 + j))) ?_)
  blk_ext [idx t]

/-- The kernel's array of the decays and strengths. -/
theorem final_ba : (dats m 0 c).arrAt 13 (cfgs 0).N = whole (w := 128) (fun b t j => proj (m ((c : Thread nD τ).loc main_arg0)) (m ((c : Thread nD τ).loc main_arg1)) (m ((c : Thread nD τ).loc main_arg2)) b t (3584 + j)) := by
  refine (dats m 0 c).arrAt_eq_of_covers 13 _ (by decide +kernel) fun t hf y => ?_
  blk_simp
  rw [after0_13]
  refine (spread (w := 128) (fun b t j => proj (m ((c : Thread nD τ).loc main_arg0)) (m ((c : Thread nD τ).loc main_arg1)) (m ((c : Thread nD τ).loc main_arg2)) b t (3584 + j)) _ t (fun r j => ((points m c t.val t.isLt).2.2.2.2.2.2.2.1 r j).trans (high_eq m c t r _ (by show 1024 ≤ 3584 + (j : ℕ); omega))) y).trans (congrArg (whole (w := 128) (fun b t j => proj (m ((c : Thread nD τ).loc main_arg0)) (m ((c : Thread nD τ).loc main_arg1)) (m ((c : Thread nD τ).loc main_arg2)) b t (3584 + j))) ?_)
  blk_ext [idx t]

end Cert.Inproj

end
-- ==== Proof.Inproj.Reference.lean ====
/- The reference's results in closed form: every entry from the argument arrays. -/
module

public import proofs.«01_k».proof.Proof.Gen.Reference3Ideal.Read
public import proofs.«01_k».proof.Proof.Inproj.Seq

@[expose] public section

set_option maxRecDepth 16384
set_option maxHeartbeats 1000000

noncomputable section

namespace Cert.Inproj.Ref

open Cert.Reference3Ideal Cert.Reference3Ideal.Gen Cert.Reference3Ideal.Read Idealize.ShloMosaic Idealize.ShloMosaic.TcCoe

variable (x0 : FVec Ideal S16x4096x1024 .f32) (x1 : FVec Ideal S1024 .f32) (x2 : FVec Ideal S1024x3592 .f32) (x3 : FVec Ideal S4x1536 .f32)

/-- The normalized row. -/
theorem norm_apply (b : Fin 16) (t : Fin 4096) (d : Fin 1024) : val_main_v12 (F := Ideal) x0 x1 (ix3 b t d) = seqN x0 x1 b t d := by
  unfold seqN
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projected row. -/
theorem proj_apply (b : Fin 16) (t : Fin 4096) (n : Fin 3592) : val_main_v13 (F := Ideal) x0 x1 x2 (ix3 b t n) = proj x0 x1 x2 b t n := by
  have h : val_main_v13 (F := Ideal) x0 x1 x2 (ix3 b t n) = ∑ d : Fin 1024, val_main_v12 (F := Ideal) x0 x1 (ix3 b t d) * x2 (ix2 d n) := by
    pointwise [val_main_v13]
  rw [h, proj_of_lt]
  simp only [norm_apply]

/-- The convolved columns. -/
theorem cat_apply (b : Fin 16) (t : Fin 4096) (f : Fin 1536) : val_main_v22 (F := Ideal) x0 x1 x2 (ix3 b t f) = proj x0 x1 x2 b t (1536 + f) := by
  refine Eq.trans ?_ (proj_apply x0 x1 x2 b t ⟨1536 + f, by omega⟩)
  have key : ∀ (n n' : Fin 3592), (n : ℕ) = n' → val_main_v13 (F := Ideal) x0 x1 x2 (ix3 b t n) = val_main_v13 (F := Ideal) x0 x1 x2 (ix3 b t n') := fun n n' h => by rw [Fin.ext h]
  pointwise [val_main_v22, val_main_v19, val_main_v18, val_main_v17]
  split_ifs <;> first | done | exact key _ _ (by dsimp only; omega) | exact key _ _ (by dsimp only)

/-- The padded columns. -/
theorem pad_apply (b : Fin 16) (p : Fin 4099) (f : Fin 1536) : val_main_v23 (F := Ideal) x0 x1 x2 (ix3 b p f) = lag x0 x1 x2 b ((p : ℕ) + 5) f := by
  have h : val_main_v23 (F := Ideal) x0 x1 x2 (ix3 b p f)
      = if h : 3 ≤ (p : ℕ) ∧ (p : ℕ) - 3 < 4096 then val_main_v22 (F := Ideal) x0 x1 x2 (ix3 b ⟨p - 3, h.2⟩ f)
        else FloatOps.sitofp (F := Ideal) FTy.f32 0#32 := by
    pointwise [val_main_v23, val_main_call0_v0, val_main_c]
  rw [h]
  split
  · next h => rw [cat_apply, lag_row x0 x1 x2 b ⟨p - 3, h.2⟩ (by dsimp only; omega)]
  · next h => rw [lag_front x0 x1 x2 b (by omega)]; simp [FloatOps.sitofp]

/-- The convolved rows. -/
theorem conv_apply (b : Fin 16) (t : Fin 4096) (f : Fin 1536) : val_main_v50 (F := Ideal) x0 x1 x2 x3 (ix3 b t f)
    = taps (fun k => x3 (ix2 k f)) (lag x0 x1 x2 b ((t : ℕ) + 8) f) (lag x0 x1 x2 b ((t : ℕ) + 7) f) (lag x0 x1 x2 b ((t : ℕ) + 6) f) (lag x0 x1 x2 b ((t : ℕ) + 5) f) := by
  have h : val_main_v50 (F := Ideal) x0 x1 x2 x3 (ix3 b t f)
      = x3 (ix2 0 f) * val_main_v23 (F := Ideal) x0 x1 x2 (ix3 b ⟨t, by omega⟩ f)
        + x3 (ix2 1 f) * val_main_v23 (F := Ideal) x0 x1 x2 (ix3 b ⟨1 + t, by omega⟩ f)
        + x3 (ix2 2 f) * val_main_v23 (F := Ideal) x0 x1 x2 (ix3 b ⟨2 + t, by omega⟩ f)
        + x3 (ix2 3 f) * val_main_v23 (F := Ideal) x0 x1 x2 (ix3 b ⟨3 + t, by omega⟩ f) := by
    pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24]
  rw [h, pad_apply, pad_apply, pad_apply, pad_apply]
  unfold taps
  dsimp only
  rw [show 1 + (t : ℕ) + 5 = t + 6 by omega, show 2 + (t : ℕ) + 5 = t + 7 by omega, show 3 + (t : ℕ) + 5 = t + 8 by omega]
  rw [add_comm, add_comm (_ + _) (x3 (ix2 2 f) * _), add_comm (x3 (ix2 0 f) * _), ← add_assoc, ← add_assoc]

/-- The gated rows. -/
theorem gate_apply (b : Fin 16) (t : Fin 4096) (f : Fin 1536) : val_main_v51 (F := Ideal) x0 x1 x2 x3 (ix3 b t f) = seqY x0 x1 x2 x3 b t f := by
  unfold seqY
  rw [← conv_apply]
  refine Eq.trans ?_ (Cert.Ffn.gate_eq _).symm
  pointwise [val_main_v51, val_main_call1_v0, val_main_call1_v1, val_main_call1_v2, val_main_call1_v3, val_main_call1_v4, val_main_call1_v5, val_main_call1_cst, val_main_call1_cst_0]
  rfl

/-- The query heads. -/
theorem headq_apply (b : Fin 16) (t : Fin 4096) (j : Fin 512) : val_main_v163 (F := Ideal) x0 x1 x2 x3 (ix3 b t j) = seqHead x0 x1 x2 x3 0 (Ideal.ofBits FTy.f32 1035273459#32) b t j := by
  have key : ∀ (f f' : Fin 1536), (f : ℕ) = f' → val_main_v51 (F := Ideal) x0 x1 x2 x3 (ix3 b t f) = val_main_v51 (F := Ideal) x0 x1 x2 x3 (ix3 b t f') := fun f f' h => by rw [Fin.ext h]
  unfold seqHead unit
  simp only [← gate_apply]
  pointwise [val_main_v163, val_main_v162, val_main_v65, val_main_v64, val_main_v63, val_main_v62, val_main_v61, val_main_v60, val_main_v59, val_main_v58, val_main_v57, val_main_v56, val_main_v55, val_main_v52, val_main_cst_2, val_main_cst_3, val_main_cst_4]
  rw [mul_assoc]
  have e : ∀ x : Fin 128, (j : ℕ) / 128 * 128 + (x : ℕ) = 0 * 512 + ((j : ℕ) / 128 * 128 + x) := fun x => by omega
  refine congrArg₂ (· * ·) (key _ _ ?_) (congrArg (fun s => Ideal.rsqrt (s + Ideal.ofBits FTy.f32 897988541#32) * Ideal.ofBits FTy.f32 1035273459#32) (Finset.sum_congr rfl fun x _ => congrArg₂ (· * ·) (key _ _ (e x)) (key _ _ (e x))))
  show (j : ℕ) = 0 * 512 + ((j : ℕ) / 128 * 128 + (j : ℕ) % 128)
  omega

/-- The key heads. -/
theorem headk_apply (b : Fin 16) (t : Fin 4096) (j : Fin 512) : val_main_v165 (F := Ideal) x0 x1 x2 x3 (ix3 b t j) = seqHead x0 x1 x2 x3 1 (Ideal.ofBits FTy.f32 1065353216#32) b t j := by
  have key : ∀ (f f' : Fin 1536), (f : ℕ) = f' → val_main_v51 (F := Ideal) x0 x1 x2 x3 (ix3 b t f) = val_main_v51 (F := Ideal) x0 x1 x2 x3 (ix3 b t f') := fun f f' h => by rw [Fin.ext h]
  unfold seqHead unit
  simp only [← gate_apply]
  pointwise [val_main_v165, val_main_v164, val_main_v74, val_main_v73, val_main_v72, val_main_v71, val_main_v70, val_main_v69, val_main_v68, val_main_v67, val_main_v66, val_main_v53, val_main_cst_5, val_main_cst_6]
  have e : ∀ x : Fin 128, 512 + ((j : ℕ) / 128 * 128 + (x : ℕ)) = 1 * 512 + ((j : ℕ) / 128 * 128 + x) := fun x => by omega
  refine congrArg₂ (· * ·) (key _ _ ?_) (congrArg (fun s => Ideal.rsqrt (s + Ideal.ofBits FTy.f32 897988541#32)) (Finset.sum_congr rfl fun x _ => congrArg₂ (· * ·) (key _ _ (e x)) (key _ _ (e x))))
  show 512 + (j : ℕ) = 1 * 512 + ((j : ℕ) / 128 * 128 + (j : ℕ) % 128)
  omega

/-- The value rows. -/
theorem headv_apply (b : Fin 16) (t : Fin 4096) (j : Fin 512) : val_main_v166 (F := Ideal) x0 x1 x2 x3 (ix3 b t j) = seqY x0 x1 x2 x3 b t (col 2 j) := by
  rw [← gate_apply]
  pointwise [val_main_v166, val_main_v54]
  exact congrArg (fun f => val_main_v51 (F := Ideal) x0 x1 x2 x3 (ix3 b t f)) (Fin.ext (by show 1024 + (j : ℕ) = 2 * 512 + (j : ℕ); omega))

/-- The attention's values. -/
theorem v_apply (b : Fin 16) (t : Fin 4096) (j : Fin 512) : val_main_v161 (F := Ideal) x0 x1 x2 (ix3 b t j) = proj x0 x1 x2 b t (1024 + j) := by
  refine Eq.trans ?_ (proj_apply x0 x1 x2 b t ⟨1024 + j, by omega⟩)
  pointwise [val_main_v161, val_main_v16]

/-- The output gate's rows. -/
theorem z_apply (b : Fin 16) (t : Fin 4096) (j : Fin 512) : val_main_v167 (F := Ideal) x0 x1 x2 (ix3 b t j) = proj x0 x1 x2 b t (3072 + j) := by
  refine Eq.trans ?_ (proj_apply x0 x1 x2 b t ⟨3072 + j, by omega⟩)
  pointwise [val_main_v167, val_main_v20]

/-- The decays and the strengths, padded. -/
theorem ba_apply (b : Fin 16) (t : Fin 4096) (j : Fin 128) : val_main_v168 (F := Ideal) x0 x1 x2 (ix3 b t j) = proj x0 x1 x2 b t (3584 + j) := by
  have h : val_main_v168 (F := Ideal) x0 x1 x2 (ix3 b t j)
      = if h : (j : ℕ) < 8 then val_main_v13 (F := Ideal) x0 x1 x2 (ix3 b t ⟨3584 + j, by omega⟩) else FloatOps.sitofp (F := Ideal) FTy.f32 0#32 := by
    pointwise [val_main_v168, val_main_v21, val_main_call2_v0, val_main_c_16]
  rw [h]
  split
  · exact proj_apply x0 x1 x2 b t _
  · rw [proj_out x0 x1 x2 b t (by omega)]; simp [FloatOps.sitofp]

/-- The angle of a token's place for a frequency. -/
def angle (t : Fin 4096) (n : ℕ) : EReal :=
  FloatOps.sitofp (F := Ideal) FTy.f32 (BitVec.ofNat 32 t) *
    Ideal.pow (Ideal.ofBits FTy.f32 1176256512#32)
      (Ideal.div (-(Ideal.ofBits FTy.f32 1073741824#32 * FloatOps.sitofp (F := Ideal) FTy.f32 (BitVec.ofNat 32 n))) (Ideal.ofBits FTy.f32 1115684864#32))

/-- The two halves of a turn, as one sum. -/
theorem halves (p cs sn : ℕ → EReal) {c n1 n2 n3 n4 u w e : ℕ} {low : Prop} [Decidable low]
    (ha : c < 32 → low ∧ n1 = u ∧ n2 = w ∧ c = e) (hb : ¬c < 32 → ¬low ∧ n3 = u ∧ n4 = w ∧ c - 32 = e) :
    (if _h : c < 32 then p n1 * cs c - p n2 * sn c else p n3 * cs (c - 32) + p n4 * sn (c - 32))
      = p u * cs e + p w * (if low then -sn e else sn e) := by
  by_cases h : c < 32
  · obtain ⟨h0, h1, h2, h3⟩ := ha h
    rw [dif_pos h, if_pos h0, h1, h2, h3, mul_neg, sub_eq_add_neg]
  · obtain ⟨h0, h1, h2, h3⟩ := hb h
    rw [dif_neg h, if_neg h0, h1, h2, h3]

end Cert.Inproj.Ref

end
-- ==== Proof.Inproj.Queries.lean ====
/- The reference's turned queries in closed form. -/
module

public import proofs.«01_k».proof.Proof.Gen.Reference3Ideal.Read
public import proofs.«01_k».proof.Proof.Inproj.Reference

@[expose] public section

set_option maxRecDepth 16384
set_option maxHeartbeats 1000000

noncomputable section

namespace Cert.Inproj.Ref

open Cert.Reference3Ideal Cert.Reference3Ideal.Gen Cert.Reference3Ideal.Read Idealize.ShloMosaic Idealize.ShloMosaic.TcCoe

variable (x0 : FVec Ideal S16x4096x1024 .f32) (x1 : FVec Ideal S1024 .f32) (x2 : FVec Ideal S1024x3592 .f32) (x3 : FVec Ideal S4x1536 .f32)

/-- The turned queries. -/
theorem q_apply (b : Fin 16) (t : Fin 4096) (j : Fin 512) : val_main_v118 (F := Ideal) x0 x1 x2 (ix3 b t j) = seqRot x0 x1 x2 0 (Ideal.ofBits FTy.f32 1043900987#32) b t j := by
  unfold seqRot rot cosT sinT ang turn
  pointwise [val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v14, val_main_cst_7, val_main_cst_8, val_main_cst_9, val_main_cst_10, val_main_cst_11]
  simp only [proj_apply]
  refine congrArg (fun z => z * Ideal.ofBits FTy.f32 1043900987#32) ?_
  exact halves (proj x0 x1 x2 b t) (fun n => Ideal.cos (angle t n)) (fun n => Ideal.sin (angle t n))
    (fun h => ⟨by omega, Eq.trans (by omega) (src_low (by omega)).symm, Eq.trans (by omega) (src_low (by omega)).symm, by omega⟩) (fun h => ⟨by omega, Eq.trans (by omega) (src_low (by omega)).symm, Eq.trans (by omega) (src_low (by omega)).symm, by omega⟩)

end Cert.Inproj.Ref

end
-- ==== Proof.Inproj.Keys.lean ====
/- The reference's turned keys in closed form. -/
module

public import proofs.«01_k».proof.Proof.Gen.Reference3Ideal.Read
public import proofs.«01_k».proof.Proof.Inproj.Reference

@[expose] public section

set_option maxRecDepth 16384
set_option maxHeartbeats 1000000

noncomputable section

namespace Cert.Inproj.Ref

open Cert.Reference3Ideal Cert.Reference3Ideal.Gen Cert.Reference3Ideal.Read Idealize.ShloMosaic Idealize.ShloMosaic.TcCoe

variable (x0 : FVec Ideal S16x4096x1024 .f32) (x1 : FVec Ideal S1024 .f32) (x2 : FVec Ideal S1024x3592 .f32) (x3 : FVec Ideal S4x1536 .f32)

/-- The keys before the turn. -/
theorem keys_apply (b : Fin 16) (t : Fin 4096) (j : Fin 512) : val_main_v15 (F := Ideal) x0 x1 x2 (ix3 b t j) = proj x0 x1 x2 b t (512 + j) := by
  refine Eq.trans ?_ (proj_apply x0 x1 x2 b t ⟨512 + j, by omega⟩)
  pointwise [val_main_v15]

/-- A turned head before the reordering of its quarters. -/
theorem half_apply (b : Fin 16) (t : Fin 4096) (h : Fin 4) (s : Fin 2) (e : Fin 64) : val_main_v156 (F := Ideal) x0 x1 x2 (ix5 b t h s e)
    = if _h : (e : ℕ) < 32 then
        proj x0 x1 x2 b t (512 + (h * 128 + s * 64 + e)) * Ideal.cos (angle t e) - proj x0 x1 x2 b t (512 + (h * 128 + s * 64 + (32 + e))) * Ideal.sin (angle t e)
      else proj x0 x1 x2 b t (512 + (h * 128 + s * 64 + (32 + (e - 32)))) * Ideal.cos (angle t (e - 32)) + proj x0 x1 x2 b t (512 + (h * 128 + s * 64 + (e - 32))) * Ideal.sin (angle t (e - 32)) := by
  unfold angle
  pointwise [val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_cst_12, val_main_cst_13, val_main_cst_14, val_main_cst_15]
  simp only [keys_apply]

theorem third_lt (y : Fin 2) (z : Fin 32) : (y : ℕ) * 32 + z < 64 := by omega

/-- The quarters of a head, one axis each. -/
theorem split_apply (b : Fin 16) (q : Fin 16384) (x y : Fin 2) (z : Fin 32) : val_main_v157 (F := Ideal) x0 x1 x2 (ix5 b q x y z)
    = val_main_v156 (F := Ideal) x0 x1 x2 (ix5 b ⟨q / 4, by omega⟩ ⟨q % 4, by omega⟩ x ⟨y * 32 + z, third_lt y z⟩) := by
  pointwise [val_main_v157]

/-- The quarters joined. -/
theorem flat_apply (b : Fin 16) (t : Fin 4096) (j : Fin 512) : val_main_v159 (F := Ideal) x0 x1 x2 (ix3 b t j)
    = val_main_v158 (F := Ideal) x0 x1 x2 (ix5 b ⟨t * 4 + j / 128, by omega⟩ ⟨j / 64 % 2, by omega⟩ ⟨j / 32 % 2, by omega⟩ ⟨j % 32, by omega⟩) := by
  pointwise [val_main_v159]

/-- Two axes exchanged. -/
theorem exchange (f : FVec Ideal S16x16384x2x2x32 .f32) (h : S16x16384x2x2x32.Transposes [0, 1, 3, 2, 4] S16x16384x2x2x32) (b : Fin 16) (q : Fin 16384) (x y : Fin 2) (z : Fin 32) :
    transpose S16x16384x2x2x32 [0, 1, 3, 2, 4] f h (ix5 b q y x z) = f (ix5 b q x y z) :=
  transpose_apply _ f h _ _ fun c => match c with
    | ⟨0, _⟩ => rfl
    | ⟨1, _⟩ => rfl
    | ⟨2, _⟩ => rfl
    | ⟨3, _⟩ => rfl
    | ⟨4, _⟩ => rfl

/-- The quarters exchanged. -/
theorem swap_apply (b : Fin 16) (q : Fin 16384) (x y : Fin 2) (z : Fin 32) : val_main_v158 (F := Ideal) x0 x1 x2 (ix5 b q y x z)
    = val_main_v157 (F := Ideal) x0 x1 x2 (ix5 b q x y z) := by
  unfold val_main_v158
  exact exchange _ _ b q x y z

/-- A change of format keeps the number. -/
theorem narrow (f : FVec Ideal S16x4096x512 .f32) (h : FTy.bits .bf16 < FTy.bits .f32) (i : S16x4096x512.Idx) : truncf .bf16 f h i = f i := rfl

/-- The quarters exchanged and joined. -/
theorem join_apply (b : Fin 16) (t : Fin 4096) (j : Fin 512) : val_main_v160 (F := Ideal) x0 x1 x2 (ix3 b t j)
    = val_main_v157 (F := Ideal) x0 x1 x2 (ix5 b ⟨t * 4 + j / 128, by omega⟩ ⟨j / 32 % 2, by omega⟩ ⟨j / 64 % 2, by omega⟩ ⟨j % 32, by omega⟩) := by
  refine Eq.trans ?_ ((flat_apply x0 x1 x2 b t j).trans (swap_apply x0 x1 x2 b _ _ _ _))
  unfold val_main_v160
  exact narrow _ _ _

/-- The turned keys. -/
theorem k_apply (b : Fin 16) (t : Fin 4096) (j : Fin 512) : val_main_v160 (F := Ideal) x0 x1 x2 (ix3 b t j) = seqRot x0 x1 x2 512 (Ideal.ofBits FTy.f32 1065353216#32) b t j := by
  have et : (⟨((t : ℕ) * 4 + (j : ℕ) / 128) / 4, by omega⟩ : Fin 4096) = t := Fin.ext (by show ((t : ℕ) * 4 + (j : ℕ) / 128) / 4 = t; omega)
  rw [join_apply, split_apply, half_apply]
  dsimp only
  rw [et]
  unfold seqRot rot cosT sinT turn
  rw [Cert.Ffn.one_eq, mul_one]
  dsimp only
  exact halves (proj x0 x1 x2 b t) (fun n => Ideal.cos (angle t n)) (fun n => Ideal.sin (angle t n))
    (fun h => ⟨by omega, Eq.trans (by omega) (src_low (by omega)).symm, Eq.trans (by omega) (src_low (by omega)).symm, by omega⟩)
    (fun h => ⟨by omega, Eq.trans (by omega) (src_low (by omega)).symm, Eq.trans (by omega) (src_low (by omega)).symm, by omega⟩)

end Cert.Inproj.Ref

end
-- ==== Proof.Inproj.Result.lean ====
/- The kernel's results and the reference's, over the same arguments, are the same arrays. -/
module

public import proofs.«01_k».proof.Proof.Inproj.Array
public import proofs.«01_k».proof.Proof.Inproj.Queries
public import proofs.«01_k».proof.Proof.Inproj.Keys

@[expose] public section

noncomputable section

namespace Cert.Inproj

open Idealize.ShloMosaic Idealize.ShloMosaic.TcCoe Idealize.SL.Sem Cert.Kernel3Ideal Cert.Kernel3Ideal.Gen

/-- An array is given by its entries. -/
theorem whole_eq {w : ℕ} (f : Fin 16 → Fin 4096 → Fin w → EReal) (v : (⟨3, ![16, 4096, w]⟩ : Shape).Idx → EReal) (h : ∀ b t j, v (ix3 b t j) = f b t j) : whole f = v := by
  funext y
  obtain ⟨b, t, d, rfl⟩ : ∃ (b : Fin 16) (t : Fin 4096) (d : Fin w), y = ix3 b t d := ⟨y 0, y 1, y 2, funext fun k => by fin_cases k <;> rfl⟩
  exact (h b t d).symm

variable (m : (ℓ : Loc nD τ sig) → Buf (Elt Ideal) ℓ) (c : Dev nD)

/-- The kernel's turned queries are the reference's. -/
theorem result_q : (dats m 0 c).arrAt 6 (cfgs 0).N = Cert.Reference3Ideal.Read.val_main_v118 (F := Ideal) (m ((c.tc : Thread nD τ).loc main_arg0)) (m ((c.tc : Thread nD τ).loc main_arg1)) (m ((c.tc : Thread nD τ).loc main_arg2)) :=
  (final_q m c).trans (whole_eq _ _ fun b t j => Ref.q_apply _ _ _ b t j)

/-- The kernel's turned keys are the reference's. -/
theorem result_k : (dats m 0 c).arrAt 7 (cfgs 0).N = Cert.Reference3Ideal.Read.val_main_v160 (F := Ideal) (m ((c.tc : Thread nD τ).loc main_arg0)) (m ((c.tc : Thread nD τ).loc main_arg1)) (m ((c.tc : Thread nD τ).loc main_arg2)) :=
  (final_k m c).trans (whole_eq _ _ fun b t j => Ref.k_apply _ _ _ b t j)

/-- The kernel's attention's values are the reference's. -/
theorem result_v : (dats m 0 c).arrAt 8 (cfgs 0).N = Cert.Reference3Ideal.Read.val_main_v161 (F := Ideal) (m ((c.tc : Thread nD τ).loc main_arg0)) (m ((c.tc : Thread nD τ).loc main_arg1)) (m ((c.tc : Thread nD τ).loc main_arg2)) :=
  (final_v m c).trans (whole_eq _ _ fun b t j => Ref.v_apply _ _ _ b t j)

/-- The kernel's query heads are the reference's. -/
theorem result_gq : (dats m 0 c).arrAt 9 (cfgs 0).N = Cert.Reference3Ideal.Read.val_main_v163 (F := Ideal) (m ((c.tc : Thread nD τ).loc main_arg0)) (m ((c.tc : Thread nD τ).loc main_arg1)) (m ((c.tc : Thread nD τ).loc main_arg2)) (m ((c.tc : Thread nD τ).loc main_arg3)) :=
  (final_gq m c).trans (whole_eq _ _ fun b t j => Ref.headq_apply _ _ _ _ b t j)

/-- The kernel's key heads are the reference's. -/
theorem result_gk : (dats m 0 c).arrAt 10 (cfgs 0).N = Cert.Reference3Ideal.Read.val_main_v165 (F := Ideal) (m ((c.tc : Thread nD τ).loc main_arg0)) (m ((c.tc : Thread nD τ).loc main_arg1)) (m ((c.tc : Thread nD τ).loc main_arg2)) (m ((c.tc : Thread nD τ).loc main_arg3)) :=
  (final_gk m c).trans (whole_eq _ _ fun b t j => Ref.headk_apply _ _ _ _ b t j)

/-- The kernel's value heads are the reference's. -/
theorem result_gv : (dats m 0 c).arrAt 11 (cfgs 0).N = Cert.Reference3Ideal.Read.val_main_v166 (F := Ideal) (m ((c.tc : Thread nD τ).loc main_arg0)) (m ((c.tc : Thread nD τ).loc main_arg1)) (m ((c.tc : Thread nD τ).loc main_arg2)) (m ((c.tc : Thread nD τ).loc main_arg3)) :=
  (final_gv m c).trans (whole_eq _ _ fun b t j => Ref.headv_apply _ _ _ _ b t j)

/-- The kernel's output gate are the reference's. -/
theorem result_z : (dats m 0 c).arrAt 12 (cfgs 0).N = Cert.Reference3Ideal.Read.val_main_v167 (F := Ideal) (m ((c.tc : Thread nD τ).loc main_arg0)) (m ((c.tc : Thread nD τ).loc main_arg1)) (m ((c.tc : Thread nD τ).loc main_arg2)) :=
  (final_z m c).trans (whole_eq _ _ fun b t j => Ref.z_apply _ _ _ b t j)

/-- The kernel's decays and strengths are the reference's. -/
theorem result_ba : (dats m 0 c).arrAt 13 (cfgs 0).N = Cert.Reference3Ideal.Read.val_main_v168 (F := Ideal) (m ((c.tc : Thread nD τ).loc main_arg0)) (m ((c.tc : Thread nD τ).loc main_arg1)) (m ((c.tc : Thread nD τ).loc main_arg2)) :=
  (final_ba m c).trans (whole_eq _ _ fun b t j => Ref.ba_apply _ _ _ b t j)

end Cert.Inproj

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Attn.Result
public import proofs.«01_k».proof.Proof.Ffn.Result
public import proofs.«01_k».proof.Proof.Inproj.Result
public import Idealize.ShloMosaic.Adequacy
public import Idealize.ShloMosaic.Init

@[expose] public section

noncomputable section

namespace Cert.Proof

open Idealize.ShloMosaic Idealize.SL.Sem

/-- The reference ends with its arguments as they were. -/
theorem frame_reference : Cert.quiescent_ReferenceIdeal := fun m ρ _ => (θ_run Cert.ReferenceIdeal.defs _ _).mono
  (fun r h => ⟨fun c => (h c).2, sem_eq_zero_of_no_sems (by decide) r.2⟩) (Cert.ReferenceIdeal.Value.run (F := Ideal) m ρ)

/-- The attention call and the reference end with the same result. -/
theorem algebraic : Cert.algebraic_KernelIdeal_ReferenceIdeal_pre_finite := by
  intro m g m' g' hpre hagree
  refine ⟨fun c => (Cert.KernelIdeal.Gen.dats m 0 c).arrAt 5 Cert.KernelIdeal.cfg0.N, Cert.KernelIdeal.Value.run_blocks m g,
    (θ_run Cert.ReferenceIdeal.defs _ _).mono (fun r h c => ⟨(h c).1.trans ?_, (h c).2⟩) (Cert.ReferenceIdeal.Value.run (F := Ideal) m' g')⟩
  obtain ⟨a0, a1, a2, a3, a4, a5, a6, a7⟩ := hagree c
  rw [Cert.ReferenceIdeal.Read.val_main_v64_eq, a0, a1, a2, a3, a4, a5, a6, a7]
  exact (Cert.Attn.result_eq m c (hpre c)).symm

/-- The feed-forward reference ends with its arguments as they were. -/
theorem frame_reference2 : Cert.quiescent_Reference2Ideal := fun m ρ _ => (θ_run Cert.Reference2Ideal.defs _ _).mono
  (fun r h => ⟨fun c => (h c).2, sem_eq_zero_of_no_sems (by decide) r.2⟩) (Cert.Reference2Ideal.Value.run (F := Ideal) m ρ)

/-- The feed-forward call and its reference end with the same result. -/
theorem algebraic2 : Cert.algebraic_Kernel2Ideal_Reference2Ideal := by
  intro m g m' g' _ hagree
  refine ⟨fun c => (Cert.Kernel2Ideal.Gen.dats m 0 c).arrAt 9 Cert.Kernel2Ideal.cfg0.N, Cert.Kernel2Ideal.Value.run_blocks m g,
    (θ_run Cert.Reference2Ideal.defs _ _).mono (fun r h c => ⟨(h c).1.trans ?_, (h c).2⟩) (Cert.Reference2Ideal.Value.run (F := Ideal) m' g')⟩
  obtain ⟨a0, a1, a2, a3, a4, a5, a6, a7, a8⟩ := hagree c
  rw [Cert.Reference2Ideal.Read.val_main_v58_eq, a0, a1, a2, a3, a4, a5, a6, a7, a8]
  exact (Cert.Ffn.result_eq m c).symm

/-- The input-projection reference ends with its arguments as they were. -/
theorem frame_reference3 : Cert.quiescent_Reference3Ideal := fun m ρ _ => (θ_run Cert.Reference3Ideal.defs _ _).mono
  (fun r h => ⟨fun c => (h c).2.2.2.2.2.2.2.2, sem_eq_zero_of_no_sems (by decide) r.2⟩) (Cert.Reference3Ideal.Value.run (F := Ideal) m ρ)

set_option maxHeartbeats 2000000 in
/-- The input-projection call and its reference end with the same eight results. -/
theorem algebraic3 : Cert.algebraic_Kernel3Ideal_Reference3Ideal := by
  intro m g m' g' _ hagree
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, Cert.Kernel3Ideal.Value.run_blocks m g,
    (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.Reference3Ideal.Value.run (F := Ideal) m' g')⟩
  all_goals obtain ⟨a0, a1, a2, a3⟩ := hagree c
  all_goals change StableHlo.launchContents m' c (Proc.devRef Proc.tc Cert.Reference3Ideal.main_arg0) = _ at a0
  all_goals change StableHlo.launchContents m' c (Proc.devRef Proc.tc Cert.Reference3Ideal.main_arg1) = _ at a1
  all_goals change StableHlo.launchContents m' c (Proc.devRef Proc.tc Cert.Reference3Ideal.main_arg2) = _ at a2
  all_goals change StableHlo.launchContents m' c (Proc.devRef Proc.tc Cert.Reference3Ideal.main_arg3) = _ at a3
  · rw [Cert.Reference3Ideal.Read.val_main_v118_eq, a0, a1, a2]
    exact (Cert.Inproj.result_q m c).symm
  · rw [Cert.Reference3Ideal.Read.val_main_v160_eq, a0, a1, a2]
    exact (Cert.Inproj.result_k m c).symm
  · rw [Cert.Reference3Ideal.Read.val_main_v161_eq, a0, a1, a2]
    exact (Cert.Inproj.result_v m c).symm
  · rw [Cert.Reference3Ideal.Read.val_main_v163_eq, a0, a1, a2, a3]
    exact (Cert.Inproj.result_gq m c).symm
  · rw [Cert.Reference3Ideal.Read.val_main_v165_eq, a0, a1, a2, a3]
    exact (Cert.Inproj.result_gk m c).symm
  · rw [Cert.Reference3Ideal.Read.val_main_v166_eq, a0, a1, a2, a3]
    exact (Cert.Inproj.result_gv m c).symm
  · rw [Cert.Reference3Ideal.Read.val_main_v167_eq, a0, a1, a2]
    exact (Cert.Inproj.result_z m c).symm
  · rw [Cert.Reference3Ideal.Read.val_main_v168_eq, a0, a1, a2]
    exact (Cert.Inproj.result_ba m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  IdealRules.named_const.statement Cert.KernelIdeal.κ "mask" .f32 0xF149F2CA#32 ⊥ rfl,
  algebraic,
  trivial,
  algebraic2,
  trivial,
  algebraic3⟩

end Cert.Proof

end
